-- ==== Defs.lean ====
def Pre_Kernel [hPre_rows_are_distinct : Cert.Pre_rows_are_distinct.Facts] (m : (ℓ : Loc Cert.Kernel.nD Cert.Kernel.τ Cert.Kernel.sig) → Buf (Elt Bits) ℓ) : Prop :=
  ∀ c : Dev Cert.Kernel.nD,
    (Cert.Pre_rows_are_distinct.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_are_distinct : Cert.Pre_rows_are_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_rows_are_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_are_distinct [hPre_rows_are_distinct : Cert.Pre_rows_are_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_are_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_rows_are_distinct : Cert.Pre_rows_are_distinct.Facts] (m : (ℓ : Loc Cert.Reference.nD Cert.Reference.τ Cert.Reference.sig) → Buf (Elt Bits) ℓ) : Prop :=
  ∀ c : Dev Cert.Reference.nD,
    (Cert.Pre_rows_are_distinct.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] [hPre_rows_are_distinct : Cert.Pre_rows_are_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_are_distinct : Cert.Pre_rows_are_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_are_distinct [hReferenceIdeal : Cert.ReferenceIdeal.Facts] [hPre_rows_are_distinct : Cert.Pre_rows_are_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_are_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_rows_are_distinct : Cert.Pre_rows_are_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_are_distinct : Cert.Pre_rows_are_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_rows_are_distinct : Cert.Pre_rows_are_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v24)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v24) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v40) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)) →
    ∃ (v0 : (c : Dev Cert.ProjectionIdeal.nD) → Buf (Elt Ideal) ((c.tc : Thread Cert.ProjectionIdeal.nD Cert.ProjectionIdeal.τ).loc Cert.ProjectionIdeal.main_v3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v3) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v2) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v29)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v29) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v84) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v8)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v8) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v15) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)) →
    ∃ (v0 : (c : Dev Cert.OutputIdeal.nD) → Buf (Elt Ideal) ((c.tc : Thread Cert.OutputIdeal.nD Cert.OutputIdeal.τ).loc Cert.OutputIdeal.main_v5)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v5) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v26) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hProjection : Cert.Projection.Facts) (hProjectionIdeal : Cert.ProjectionIdeal.Facts) (hProjectionReferenceIdeal : Cert.ProjectionReferenceIdeal.Facts) (hExperts : Cert.Experts.Facts) (hExpertsIdeal : Cert.ExpertsIdeal.Facts) (hExpertsReferenceIdeal : Cert.ExpertsReferenceIdeal.Facts) (hGlu : Cert.Glu.Facts) (hGluIdeal : Cert.GluIdeal.Facts) (hGluReferenceIdeal : Cert.GluReferenceIdeal.Facts) (hOutput : Cert.Output.Facts) (hOutputIdeal : Cert.OutputIdeal.Facts) (hOutputReferenceIdeal : Cert.OutputReferenceIdeal.Facts) (hPre_rows_are_distinct : Cert.Pre_rows_are_distinct.Facts),
    quiescent_Kernel (hKernel := hKernel) (hPre_rows_are_distinct := hPre_rows_are_distinct)
    ∧ quiescent_KernelIdeal (hKernelIdeal := hKernelIdeal) (hPre_rows_are_distinct := hPre_rows_are_distinct)
    ∧ quiescent_ReferenceIdeal (hReferenceIdeal := hReferenceIdeal)
    ∧ quiescent_ReferenceIdeal_pre_rows_are_distinct (hReferenceIdeal := hReferenceIdeal) (hPre_rows_are_distinct := hPre_rows_are_distinct)
    ∧ quiescent_Reference (hReference := hReference) (hPre_rows_are_distinct := hPre_rows_are_distinct)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal (hKernelIdeal := hKernelIdeal) (hReferenceIdeal := hReferenceIdeal) (hPre_rows_are_distinct := hPre_rows_are_distinct)
    ∧ bitexact_Kernel_Reference (hKernel := hKernel) (hReference := hReference) (hPre_rows_are_distinct := hPre_rows_are_distinct)
    ∧ preserves_Projection_ProjectionIdeal
    ∧ algebraic_ProjectionIdeal_ProjectionReferenceIdeal (hProjectionIdeal := hProjectionIdeal) (hProjectionReferenceIdeal := hProjectionReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Glu_GluIdeal
    ∧ algebraic_GluIdeal_GluReferenceIdeal (hGluIdeal := hGluIdeal) (hGluReferenceIdeal := hGluReferenceIdeal)
    ∧ preserves_Output_OutputIdeal
    ∧ algebraic_OutputIdeal_OutputReferenceIdeal (hOutputIdeal := hOutputIdeal) (hOutputReferenceIdeal := hOutputReferenceIdeal)
-- ==== Pre_rows_are_distinct.lean ====
abbrev S34816x1024 : Shape := ⟨2, ![34816, 1024]⟩
abbrev S4x34816 : Shape := ⟨2, ![4, 34816]⟩
abbrev S32x128 : Shape := ⟨2, ![32, 128]⟩
abbrev S32x1 : Shape := ⟨2, ![32, 1]⟩
abbrev S32 : Shape := ⟨1, ![32]⟩
abbrev S_ : Shape := ⟨0, ![]⟩
abbrev S4x34816x1 : Shape := ⟨3, ![4, 34816, 1]⟩
abbrev S139264 : Shape := ⟨1, ![139264]⟩
abbrev S147456 : Shape := ⟨1, ![147456]⟩
abbrev S139264x1 : Shape := ⟨2, ![139264, 1]⟩
abbrev S147456x1 : Shape := ⟨2, ![147456, 1]⟩

class Facts : Prop where
  slices_S32x128_S32x1_0_0 : S32x128.Slices ![0, 0] S32x1
  shapeCasts_S32x1_S32 : S32x1.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S4x34816 : S_.BroadcastsInDim S4x34816 (![] : Fin 0 → Fin S4x34816.rank)
  bcast_S4x34816_S4x34816x1_0_1 : S4x34816.BroadcastsInDim S4x34816x1 (![0, 1] : Fin 2 → Fin S4x34816x1.rank)
  shapeCasts_S4x34816_S139264 : S4x34816.ShapeCasts S139264
  bcast_S_S147456 : S_.BroadcastsInDim S147456 (![] : Fin 0 → Fin S147456.rank)
  bcast_S_S139264 : S_.BroadcastsInDim S139264 (![] : Fin 0 → Fin S139264.rank)
  bcast_S139264_S139264x1_0 : S139264.BroadcastsInDim S139264x1 (![0] : Fin 1 → Fin S139264x1.rank)
  shapeCasts_S147456_S147456x1 : S147456.ShapeCasts S147456x1
  shapeCasts_S139264x1_S139264 : S139264x1.ShapeCasts S139264
  reducesTo_S4x34816_S_d0_1 : S4x34816.ReducesTo [0, 1] S_
  reducesTo_S139264_S_d0 : S139264.ReducesTo [0] S_
  gather_S32_S4x34816x1_S4x34816_n_0_n_n_0_2_1_wf : GatherDims.WF S32 S4x34816x1 S4x34816 [] [0] [] [0] [] 2 ![1]
  scatter_S147456_S139264x1_S139264_n_0_0_1_wf : ScatterDims.WF S147456 S139264x1 S139264 [] [0] [0] 1
  gather_S147456x1_S139264x1_S139264x1_1_0_n_n_0_1_11_wf : GatherDims.WF S147456x1 S139264x1 S139264x1 [1] [0] [] [0] [] 1 ![1, 1]

variable [Facts]

def gather_S32_S4x34816x1_S4x34816_n_0_n_n_0_2_1 : GatherDims S32 S4x34816x1 S4x34816 where
  offsetDims := []
  collapsedSliceDims := [0]
  operandBatchingDims := []
  startIndicesBatchingDims := []
  startIndexMap := [0]
  indexVectorDim := 2
  sliceSizes := ![1]
  wf := gather_S32_S4x34816x1_S4x34816_n_0_n_n_0_2_1_wf
def scatter_S147456_S139264x1_S139264_n_0_0_1 : ScatterDims S147456 S139264x1 S139264 where
  updateWindowDims := []
  insertedWindowDims := [0]
  scatterDimsToOperandDims := [0]
  indexVectorDim := 1
  wf := scatter_S147456_S139264x1_S139264_n_0_0_1_wf
def gather_S147456x1_S139264x1_S139264x1_1_0_n_n_0_1_11 : GatherDims S147456x1 S139264x1 S139264x1 where
  offsetDims := [1]
  collapsedSliceDims := [0]
  operandBatchingDims := []
  startIndicesBatchingDims := []
  startIndexMap := [0]
  indexVectorDim := 1
  sliceSizes := ![1, 1]
  wf := gather_S147456x1_S139264x1_S139264x1_1_0_n_n_0_1_11_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part2 {F : FTy → Type} [FloatOps F] (main_arg1 : IVec S4x34816 32) (main_v19 : IVec S139264 32) (main_v20 : IVec S139264 32) (main_v36 : IVec S139264x1 32) : IVec S_ 1 :=
  let main_v37 : IVec S139264 32 := shapeCast S139264 main_v36 shapeCasts_S139264x1_S139264
  let main_c_10 : IVec S_ 32 := constantI S_ 32 0#32
  let main_v38 : IVec S4x34816 32 := broadcastInDim S4x34816 ![] bcast_S_S4x34816 main_c_10
  let main_v39 : IVec S4x34816 1 := cmpi .sge main_arg1 main_v38
  let main_c_11 : IVec S_ 32 := constantI S_ 32 32#32
  let main_v40 : IVec S4x34816 32 := broadcastInDim S4x34816 ![] bcast_S_S4x34816 main_c_11
  let main_v41 : IVec S4x34816 1 := cmpi .slt main_arg1 main_v40
  let main_v42 : IVec S4x34816 1 := andi main_v39 main_v41
  let main_c_12 : IVec S_ 1 := constantI S_ 1 1#1
  let main_v43 : IVec S_ 1 := (fun x v => Host.reduce IntOp.andi x v reducesTo_S4x34816_S_d0_1 h_S_) main_v42 main_c_12
  let main_c_13 : IVec S_ 32 := constantI S_ 32 0#32
  let main_v44 : IVec S139264 32 := broadcastInDim S139264 ![] bcast_S_S139264 main_c_13
  let main_v45 : IVec S139264 1 := cmpi .sge main_v19 main_v44
  let main_c_14 : IVec S_ 32 := constantI S_ 32 147456#32
  let main_v46 : IVec S139264 32 := broadcastInDim S139264 ![] bcast_S_S139264 main_c_14
  let main_v47 : IVec S139264 1 := cmpi .slt main_v19 main_v46
  let main_v48 : IVec S139264 1 := andi main_v45 main_v47
  let main_c_15 : IVec S_ 1 := constantI S_ 1 1#1
  let main_v49 : IVec S_ 1 := (fun x v => Host.reduce IntOp.andi x v reducesTo_S139264_S_d0 h_S_) main_v48 main_c_15
  let main_v50 : IVec S_ 1 := andi main_v43 main_v49
  let main_v51 : IVec S139264 1 := cmpi .eq main_v37 main_v20
  let main_c_16 : IVec S_ 1 := constantI S_ 1 1#1
  let main_v52 : IVec S_ 1 := (fun x v => Host.reduce IntOp.andi x v reducesTo_S139264_S_d0 h_S_) main_v51 main_c_16
  let main_v53 : IVec S_ 1 := andi main_v50 main_v52
  main_v53

def fn_part1 {F : FTy → Type} [FloatOps F] (main_arg1 : IVec S4x34816 32) (main_arg2 : IVec S4x34816 32) (main_v17 : IVec S4x34816 32) : IVec S_ 1 :=
  let main_v18 : IVec S4x34816 32 := addi main_v17 main_arg2
  let main_v19 : IVec S139264 32 := shapeCast S139264 main_v18 shapeCasts_S4x34816_S139264
  let main_v20 : IVec S139264 32 := iotaInDim S139264 32 0
  let main_c_5 : IVec S_ 32 := constantI S_ 32 4294967295#32
  let main_v21 : IVec S147456 32 := broadcastInDim S147456 ![] bcast_S_S147456 main_c_5
  let main_c_6 : IVec S_ 32 := constantI S_ 32 0#32
  let main_v22 : IVec S139264 32 := broadcastInDim S139264 ![] bcast_S_S139264 main_c_6
  let main_v23 : IVec S139264 1 := cmpi .slt main_v19 main_v22
  let main_c_7 : IVec S_ 32 := constantI S_ 32 147456#32
  let main_v24 : IVec S139264 32 := broadcastInDim S139264 ![] bcast_S_S139264 main_c_7
  let main_v25 : IVec S139264 32 := addi main_v19 main_v24
  let main_v26 : IVec S139264 32 := select main_v23 main_v25 main_v19
  let main_v27 : IVec S139264x1 32 := broadcastInDim S139264x1 ![0] bcast_S139264_S139264x1_0 main_v26
  let main_v28 : IVec S147456 32 := (fun x i u => Host.scatter scatter_S147456_S139264x1_S139264_n_0_0_1 (fun _ b => b) x i u) main_v21 main_v27 main_v20
  let main_v29 : IVec S147456x1 32 := shapeCast S147456x1 main_v28 shapeCasts_S147456_S147456x1
  let main_c_8 : IVec S_ 32 := constantI S_ 32 0#32
  let main_v30 : IVec S139264 32 := broadcastInDim S139264 ![] bcast_S_S139264 main_c_8
  let main_v31 : IVec S139264 1 := cmpi .slt main_v19 main_v30
  let main_c_9 : IVec S_ 32 := constantI S_ 32 147456#32
  let main_v32 : IVec S139264 32 := broadcastInDim S139264 ![] bcast_S_S139264 main_c_9
  let main_v33 : IVec S139264 32 := addi main_v19 main_v32
  let main_v34 : IVec S139264 32 := select main_v31 main_v33 main_v19
  let main_v35 : IVec S139264x1 32 := broadcastInDim S139264x1 ![0] bcast_S139264_S139264x1_0 main_v34
  let main_v36 : IVec S139264x1 32 := (fun x i => Host.gather gather_S147456x1_S139264x1_S139264x1_1_0_n_n_0_1_11 x i) main_v29 main_v35
  fn_part2 (F := F) main_arg1 main_v19 main_v20 main_v36

def fn {F : FTy → Type} [FloatOps F] (main_arg0 : FVec F S34816x1024 .f32) (main_arg1 : IVec S4x34816 32) (main_arg2 : IVec S4x34816 32) (main_arg3 : IVec S32x128 32) : IVec S_ 1 :=
  let main_v0 : IVec S32x1 32 := (extractStridedSlice S32x1 ![0, 0] · slices_S32x128_S32x1_0_0) main_arg3
  let main_v1 : IVec S32 32 := shapeCast S32 main_v0 shapeCasts_S32x1_S32
  let main_c : IVec S_ 32 := constantI S_ 32 256#32
  let main_v2 : IVec S32 32 := broadcastInDim S32 ![] bcast_S_S32 main_c
  let main_v3 : IVec S32 32 := addi main_v1 main_v2
  let main_c_0 : IVec S_ 32 := constantI S_ 32 1#32
  let main_v4 : IVec S32 32 := broadcastInDim S32 ![] bcast_S_S32 main_c_0
  let main_v5 : IVec S32 32 := subi main_v3 main_v4
  let main_c_1 : IVec S_ 32 := constantI S_ 32 256#32
  let main_v6 : IVec S32 32 := fn_floor_divide (F := F) main_v5 main_c_1
  let main_c_2 : IVec S_ 32 := constantI S_ 32 256#32
  let main_v7 : IVec S32 32 := broadcastInDim S32 ![] bcast_S_S32 main_c_2
  let main_v8 : IVec S32 32 := muli main_v6 main_v7
  let main_v9 : IVec S32 32 := fn_cumsum (F := F) main_v8
  let main_v10 : IVec S32 32 := subi main_v9 main_v8
  let main_c_3 : IVec S_ 32 := constantI S_ 32 0#32
  let main_v11 : IVec S4x34816 32 := broadcastInDim S4x34816 ![] bcast_S_S4x34816 main_c_3
  let main_v12 : IVec S4x34816 1 := cmpi .slt main_arg1 main_v11
  let main_c_4 : IVec S_ 32 := constantI S_ 32 32#32
  let main_v13 : IVec S4x34816 32 := broadcastInDim S4x34816 ![] bcast_S_S4x34816 main_c_4
  let main_v14 : IVec S4x34816 32 := addi main_arg1 main_v13
  let main_v15 : IVec S4x34816 32 := select main_v12 main_v14 main_arg1
  let main_v16 : IVec S4x34816x1 32 := broadcastInDim S4x34816x1 ![0, 1] bcast_S4x34816_S4x34816x1_0_1 main_v15
  let main_v17 : IVec S4x34816 32 := (fun x i => Host.gather gather_S32_S4x34816x1_S4x34816_n_0_n_n_0_2_1 x i) main_v10 main_v16
  fn_part1 (F := F) main_arg1 main_arg2 main_v17
-- ==== Kernel.lean ====
abbrev S34816x1024 : Shape := ⟨2, ![34816, 1024]⟩
abbrev S4x34816 : Shape := ⟨2, ![4, 34816]⟩
abbrev S32x128 : Shape := ⟨2, ![32, 128]⟩
abbrev S32x1 : Shape := ⟨2, ![32, 1]⟩
abbrev S32 : Shape := ⟨1, ![32]⟩
abbrev S_ : Shape := ⟨0, ![]⟩
abbrev S32x1x1 : Shape := ⟨3, ![32, 1, 1]⟩
abbrev S1x4x34816 : Shape := ⟨3, ![1, 4, 34816]⟩
abbrev S32x4x34816 : Shape := ⟨3, ![32, 4, 34816]⟩
abbrev S4x68x512 : Shape := ⟨3, ![4, 68, 512]⟩
abbrev S68x4x512 : Shape := ⟨3, ![68, 4, 512]⟩
abbrev S139264 : Shape := ⟨1, ![139264]⟩
abbrev S1179648x128 : Shape := ⟨2, ![1179648, 128]⟩
abbrev S512x1024 : Shape := ⟨2, ![512, 1024]⟩
abbrev S2048 : Shape := ⟨1, ![2048]⟩
abbrev S4096x128 : Shape := ⟨2, ![4096, 128]⟩
abbrev S512x128 : Shape := ⟨2, ![512, 128]⟩
abbrev S1 : Shape := ⟨1, ![1]⟩
abbrev S8x128 : Shape := ⟨2, ![8, 128]⟩

abbrev nBuf : Space → Nat
  | .hbm => 57
  | .vmem => 3
  | .smem => 1
  | _ => 0

abbrev bufTy : (tb : Table) → Fin (tcTables nBuf tb) → BufTy
  | .hbm, ⟨0, _⟩ => ⟨S34816x1024, .f32⟩
  | .hbm, ⟨1, _⟩ => ⟨S4x34816, .i32⟩
  | .hbm, ⟨2, _⟩ => ⟨S4x34816, .i32⟩
  | .hbm, ⟨3, _⟩ => ⟨S32x128, .i32⟩
  | .hbm, ⟨4, _⟩ => ⟨S32x1, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S32x1x1, .i32⟩
  | .hbm, ⟨39, _⟩ => ⟨S1x4x34816, .i32⟩
  | .hbm, ⟨40, _⟩ => ⟨S32x4x34816, .i32⟩
  | .hbm, ⟨41, _⟩ => ⟨S32x4x34816, .i32⟩
  | .hbm, ⟨42, _⟩ => ⟨S32x4x34816, .i1⟩
  | .hbm, ⟨43, _⟩ => ⟨S32x1x1, .i32⟩
  | .hbm, ⟨44, _⟩ => ⟨S_, .i32⟩
  | .hbm, ⟨45, _⟩ => ⟨S_, .i32⟩
  | .hbm, ⟨46, _⟩ => ⟨S32x4x34816, .i32⟩
  | .hbm, ⟨47, _⟩ => ⟨S32x4x34816, .i32⟩
  | .hbm, ⟨48, _⟩ => ⟨S32x4x34816, .i32⟩
  | .hbm, ⟨49, _⟩ => ⟨S_, .i32⟩
  | .hbm, ⟨50, _⟩ => ⟨S4x34816, .i32⟩
  | .hbm, ⟨51, _⟩ => ⟨S4x34816, .i32⟩
  | .hbm, ⟨52, _⟩ => ⟨S4x68x512, .i32⟩
  | .hbm, ⟨53, _⟩ => ⟨S68x4x512, .i32⟩
  | .hbm, ⟨54, _⟩ => ⟨S139264, .i32⟩
  | .hbm, ⟨55, _⟩ => ⟨S_, .f32⟩
  | .hbm, ⟨56, _⟩ => ⟨S1179648x128, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .smem, ⟨0, _⟩ => ⟨S2048, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_call1_call0_c : Ref sig .tc := ⟨.hbm, 33, rfl⟩
abbrev main_call1_call0_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev cc0_stg0_0 : Ref sig .tc := ⟨.vmem, 0, rfl⟩
abbrev cc0_stg0_1 : Ref sig .tc := ⟨.vmem, 1, rfl⟩
abbrev cc0_scratch1 : Ref sig .tc := ⟨.vmem, 2, rfl⟩
abbrev cc0_scratch0 : Ref sig .tc := ⟨.smem, 0, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![68], ![false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_off1 (i : grid0.Coords) : Fin 1 → Nat :=
  let arg0 : BitVec 32 := BitVec.ofNat 32 (i 0).val
  let c2048_i32 : BitVec 32 := 2048#32
  let v0 : BitVec 32 := Scalar.muli arg0 c2048_i32
  let v1 : BitVec 32 := v0
  ![v1.toNat]
@[reducible] def k0_t1_loop : Scf.Loop 32 :=
  let c0_i32 : BitVec 32 := 0#32
  let c512_i32 : BitVec 32 := 512#32
  let v37 : BitVec 32 := Scalar.addi c0_i32 c512_i32
  let c1_i32 : BitVec 32 := 1#32
  ⟨c0_i32, v37, c1_i32⟩
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v39 : BitVec 32 := Scalar.muli arg9 c8_i32
  v39
def k0_off2 (k0_t1 : Fin k0_t1_loop.trips) : Fin 1 → Nat :=
  let c0_i32_15 : BitVec 32 := 0#32
  let c0_i32 : BitVec 32 := 0#32
  let c1_i32 : BitVec 32 := 1#32
  let arg9 : BitVec 32 := Scf.iv c0_i32 c1_i32 k0_t1
  let v41 : BitVec 32 := Scalar.addi c0_i32_15 arg9
  let v42 : Index := Scalar.indexCast v41
  ![v42.toNat]
def k0_mult3 (v43 : BitVec 32) : BitVec 32 :=
  let c8_i32_16 : BitVec 32 := 8#32
  let v44 : BitVec 32 := Scalar.muli v43 c8_i32_16
  v44

def k0_off3 (v43 : BitVec 32) : Fin 2 → Nat :=
  let c8_i32_16 : BitVec 32 := 8#32
  let v44 : BitVec 32 := Scalar.muli v43 c8_i32_16
  let v45 : BitVec 32 := v44
  let c0_i32_17 : BitVec 32 := 0#32
  ![v45.toNat, 0]

def k0_chk1 (v43 : BitVec 32) : Prop :=
  (8 ∣ (k0_mult3 v43).toNat) ∧
  (∀ a, (k0_off3 v43) a + S8x128.size a ≤ S1179648x128.size a)
theorem k0_mult3_dvd : ∀ (v43 : BitVec 32) (k0_hw1 : k0_chk1 v43), 8 ∣ (k0_mult3 v43).toNat := fun v43 k0_hw1 => k0_hw1.1
theorem k0_off3_inb : ∀ (v43 : BitVec 32) (k0_hw1 : k0_chk1 v43), ∀ a, (k0_off3 v43) a + S8x128.size a ≤ S1179648x128.size a := fun v43 k0_hw1 => k0_hw1.2

def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v39 : BitVec 32 := Scalar.muli arg9 c8_i32
  let v40 : BitVec 32 := v39
  let c0_i32_18 : BitVec 32 := 0#32
  ![v40.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_19 : BitVec 32 := 8#32
  let v48 : BitVec 32 := Scalar.muli arg9 c8_i32_19
  v48
def k0_off5 (k0_t1 : Fin k0_t1_loop.trips) : Fin 1 → Nat :=
  let c512_i32_20 : BitVec 32 := 512#32
  let c0_i32 : BitVec 32 := 0#32
  let c1_i32 : BitVec 32 := 1#32
  let arg9 : BitVec 32 := Scf.iv c0_i32 c1_i32 k0_t1
  let v50 : BitVec 32 := Scalar.addi c512_i32_20 arg9
  let v51 : Index := Scalar.indexCast v50
  ![v51.toNat]
def k0_mult5 (v52 : BitVec 32) : BitVec 32 :=
  let c8_i32_21 : BitVec 32 := 8#32
  let v53 : BitVec 32 := Scalar.muli v52 c8_i32_21
  v53

def k0_off6 (v52 : BitVec 32) : Fin 2 → Nat :=
  let c8_i32_21 : BitVec 32 := 8#32
  let v53 : BitVec 32 := Scalar.muli v52 c8_i32_21
  let v54 : BitVec 32 := v53
  let c0_i32_22 : BitVec 32 := 0#32
  ![v54.toNat, 0]

def k0_chk2 (v52 : BitVec 32) : Prop :=
  (8 ∣ (k0_mult5 v52).toNat) ∧
  (∀ a, (k0_off6 v52) a + S8x128.size a ≤ S1179648x128.size a)
theorem k0_mult5_dvd : ∀ (v52 : BitVec 32) (k0_hw2 : k0_chk2 v52), 8 ∣ (k0_mult5 v52).toNat := fun v52 k0_hw2 => k0_hw2.1
theorem k0_off6_inb : ∀ (v52 : BitVec 32) (k0_hw2 : k0_chk2 v52), ∀ a, (k0_off6 v52) a + S8x128.size a ≤ S1179648x128.size a := fun v52 k0_hw2 => k0_hw2.2

def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_19 : BitVec 32 := 8#32
  let v48 : BitVec 32 := Scalar.muli arg9 c8_i32_19
  let v49 : BitVec 32 := v48
  let c0_i32_23 : BitVec 32 := 0#32
  ![v49.toNat, 0]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_24 : BitVec 32 := 8#32
  let v57 : BitVec 32 := Scalar.muli arg9 c8_i32_24
  v57
def k0_off8 (k0_t1 : Fin k0_t1_loop.trips) : Fin 1 → Nat :=
  let c1024_i32 : BitVec 32 := 1024#32
  let c0_i32 : BitVec 32 := 0#32
  let c1_i32 : BitVec 32 := 1#32
  let arg9 : BitVec 32 := Scf.iv c0_i32 c1_i32 k0_t1
  let v59 : BitVec 32 := Scalar.addi c1024_i32 arg9
  let v60 : Index := Scalar.indexCast v59
  ![v60.toNat]
def k0_mult7 (v61 : BitVec 32) : BitVec 32 :=
  let c8_i32_25 : BitVec 32 := 8#32
  let v62 : BitVec 32 := Scalar.muli v61 c8_i32_25
  v62

def k0_off9 (v61 : BitVec 32) : Fin 2 → Nat :=
  let c8_i32_25 : BitVec 32 := 8#32
  let v62 : BitVec 32 := Scalar.muli v61 c8_i32_25
  let v63 : BitVec 32 := v62
  let c0_i32_26 : BitVec 32 := 0#32
  ![v63.toNat, 0]

def k0_chk3 (v61 : BitVec 32) : Prop :=
  (8 ∣ (k0_mult7 v61).toNat) ∧
  (∀ a, (k0_off9 v61) a + S8x128.size a ≤ S1179648x128.size a)
theorem k0_mult7_dvd : ∀ (v61 : BitVec 32) (k0_hw3 : k0_chk3 v61), 8 ∣ (k0_mult7 v61).toNat := fun v61 k0_hw3 => k0_hw3.1
theorem k0_off9_inb : ∀ (v61 : BitVec 32) (k0_hw3 : k0_chk3 v61), ∀ a, (k0_off9 v61) a + S8x128.size a ≤ S1179648x128.size a := fun v61 k0_hw3 => k0_hw3.2

def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_24 : BitVec 32 := 8#32
  let v57 : BitVec 32 := Scalar.muli arg9 c8_i32_24
  let v58 : BitVec 32 := v57
  let c0_i32_27 : BitVec 32 := 0#32
  ![v58.toNat, 0]
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_28 : BitVec 32 := 8#32
  let v66 : BitVec 32 := Scalar.muli arg9 c8_i32_28
  v66
def k0_off11 (k0_t1 : Fin k0_t1_loop.trips) : Fin 1 → Nat :=
  let c1536_i32 : BitVec 32 := 1536#32
  let c0_i32 : BitVec 32 := 0#32
  let c1_i32 : BitVec 32 := 1#32
  let arg9 : BitVec 32 := Scf.iv c0_i32 c1_i32 k0_t1
  let v68 : BitVec 32 := Scalar.addi c1536_i32 arg9
  let v69 : Index := Scalar.indexCast v68
  ![v69.toNat]
def k0_mult9 (v70 : BitVec 32) : BitVec 32 :=
  let c8_i32_29 : BitVec 32 := 8#32
  let v71 : BitVec 32 := Scalar.muli v70 c8_i32_29
  v71

def k0_off12 (v70 : BitVec 32) : Fin 2 → Nat :=
  let c8_i32_29 : BitVec 32 := 8#32
  let v71 : BitVec 32 := Scalar.muli v70 c8_i32_29
  let v72 : BitVec 32 := v71
  let c0_i32_30 : BitVec 32 := 0#32
  ![v72.toNat, 0]

def k0_chk4 (v70 : BitVec 32) : Prop :=
  (8 ∣ (k0_mult9 v70).toNat) ∧
  (∀ a, (k0_off12 v70) a + S8x128.size a ≤ S1179648x128.size a)
theorem k0_mult9_dvd : ∀ (v70 : BitVec 32) (k0_hw4 : k0_chk4 v70), 8 ∣ (k0_mult9 v70).toNat := fun v70 k0_hw4 => k0_hw4.1
theorem k0_off12_inb : ∀ (v70 : BitVec 32) (k0_hw4 : k0_chk4 v70), ∀ a, (k0_off12 v70) a + S8x128.size a ≤ S1179648x128.size a := fun v70 k0_hw4 => k0_hw4.2

def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_28 : BitVec 32 := 8#32
  let v66 : BitVec 32 := Scalar.muli arg9 c8_i32_28
  let v67 : BitVec 32 := v66
  let c0_i32_31 : BitVec 32 := 0#32
  ![v67.toNat, 0]
@[reducible] def k0_t2_loop : Scf.Loop 32 :=
  let c0_i32_11 : BitVec 32 := 0#32
  let c512_i32_12 : BitVec 32 := 512#32
  let v38 : BitVec 32 := Scalar.addi c0_i32_11 c512_i32_12
  let c1_i32_13 : BitVec 32 := 1#32
  ⟨c0_i32_11, v38, c1_i32_13⟩
def k0_mult10 (k0_t2 : Fin k0_t2_loop.trips) : BitVec 32 :=
  let c0_i32_11 : BitVec 32 := 0#32
  let c1_i32_13 : BitVec 32 := 1#32
  let arg9 : BitVec 32 := Scf.iv c0_i32_11 c1_i32_13 k0_t2
  let c8_i32 : BitVec 32 := 8#32
  let v39 : BitVec 32 := Scalar.muli arg9 c8_i32
  v39
def k0_off14 (k0_t2 : Fin k0_t2_loop.trips) : Fin 1 → Nat :=
  let c0_i32_15 : BitVec 32 := 0#32
  let c0_i32_11 : BitVec 32 := 0#32
  let c1_i32_13 : BitVec 32 := 1#32
  let arg9 : BitVec 32 := Scf.iv c0_i32_11 c1_i32_13 k0_t2
  let v41 : BitVec 32 := Scalar.addi c0_i32_15 arg9
  let v42 : Index := Scalar.indexCast v41
  ![v42.toNat]
def k0_mult11 (v43 : BitVec 32) : BitVec 32 :=
  let c8_i32_16 : BitVec 32 := 8#32
  let v44 : BitVec 32 := Scalar.muli v43 c8_i32_16
  v44

def k0_off15 (v43 : BitVec 32) : Fin 2 → Nat :=
  let c8_i32_16 : BitVec 32 := 8#32
  let v44 : BitVec 32 := Scalar.muli v43 c8_i32_16
  let v45 : BitVec 32 := v44
  let c0_i32_17 : BitVec 32 := 0#32
  ![v45.toNat, 0]

def k0_chk5 (v43 : BitVec 32) : Prop :=
  (8 ∣ (k0_mult11 v43).toNat) ∧
  (∀ a, (k0_off15 v43) a + S8x128.size a ≤ S1179648x128.size a)
theorem k0_mult11_dvd : ∀ (v43 : BitVec 32) (k0_hw5 : k0_chk5 v43), 8 ∣ (k0_mult11 v43).toNat := fun v43 k0_hw5 => k0_hw5.1
theorem k0_off15_inb : ∀ (v43 : BitVec 32) (k0_hw5 : k0_chk5 v43), ∀ a, (k0_off15 v43) a + S8x128.size a ≤ S1179648x128.size a := fun v43 k0_hw5 => k0_hw5.2

def k0_off16 (k0_t2 : Fin k0_t2_loop.trips) : Fin 2 → Nat :=
  let c0_i32_11 : BitVec 32 := 0#32
  let c1_i32_13 : BitVec 32 := 1#32
  let arg9 : BitVec 32 := Scf.iv c0_i32_11 c1_i32_13 k0_t2
  let c8_i32 : BitVec 32 := 8#32
  let v39 : BitVec 32 := Scalar.muli arg9 c8_i32
  let v40 : BitVec 32 := v39
  let c0_i32_18 : BitVec 32 := 0#32
  ![v40.toNat, 0]
def k0_mult12 (k0_t2 : Fin k0_t2_loop.trips) : BitVec 32 :=
  let c0_i32_11 : BitVec 32 := 0#32
  let c1_i32_13 : BitVec 32 := 1#32
  let arg9 : BitVec 32 := Scf.iv c0_i32_11 c1_i32_13 k0_t2
  let c8_i32_19 : BitVec 32 := 8#32
  let v48 : BitVec 32 := Scalar.muli arg9 c8_i32_19
  v48
def k0_off17 (k0_t2 : Fin k0_t2_loop.trips) : Fin 1 → Nat :=
  let c512_i32_20 : BitVec 32 := 512#32
  let c0_i32_11 : BitVec 32 := 0#32
  let c1_i32_13 : BitVec 32 := 1#32
  let arg9 : BitVec 32 := Scf.iv c0_i32_11 c1_i32_13 k0_t2
  let v50 : BitVec 32 := Scalar.addi c512_i32_20 arg9
  let v51 : Index := Scalar.indexCast v50
  ![v51.toNat]
def k0_mult13 (v52 : BitVec 32) : BitVec 32 :=
  let c8_i32_21 : BitVec 32 := 8#32
  let v53 : BitVec 32 := Scalar.muli v52 c8_i32_21
  v53

def k0_off18 (v52 : BitVec 32) : Fin 2 → Nat :=
  let c8_i32_21 : BitVec 32 := 8#32
  let v53 : BitVec 32 := Scalar.muli v52 c8_i32_21
  let v54 : BitVec 32 := v53
  let c0_i32_22 : BitVec 32 := 0#32
  ![v54.toNat, 0]

def k0_chk6 (v52 : BitVec 32) : Prop :=
  (8 ∣ (k0_mult13 v52).toNat) ∧
  (∀ a, (k0_off18 v52) a + S8x128.size a ≤ S1179648x128.size a)
theorem k0_mult13_dvd : ∀ (v52 : BitVec 32) (k0_hw6 : k0_chk6 v52), 8 ∣ (k0_mult13 v52).toNat := fun v52 k0_hw6 => k0_hw6.1
theorem k0_off18_inb : ∀ (v52 : BitVec 32) (k0_hw6 : k0_chk6 v52), ∀ a, (k0_off18 v52) a + S8x128.size a ≤ S1179648x128.size a := fun v52 k0_hw6 => k0_hw6.2

def k0_off19 (k0_t2 : Fin k0_t2_loop.trips) : Fin 2 → Nat :=
  let c0_i32_11 : BitVec 32 := 0#32
  let c1_i32_13 : BitVec 32 := 1#32
  let arg9 : BitVec 32 := Scf.iv c0_i32_11 c1_i32_13 k0_t2
  let c8_i32_19 : BitVec 32 := 8#32
  let v48 : BitVec 32 := Scalar.muli arg9 c8_i32_19
  let v49 : BitVec 32 := v48
  let c0_i32_23 : BitVec 32 := 0#32
  ![v49.toNat, 0]
def k0_mult14 (k0_t2 : Fin k0_t2_loop.trips) : BitVec 32 :=
  let c0_i32_11 : BitVec 32 := 0#32
  let c1_i32_13 : BitVec 32 := 1#32
  let arg9 : BitVec 32 := Scf.iv c0_i32_11 c1_i32_13 k0_t2
  let c8_i32_24 : BitVec 32 := 8#32
  let v57 : BitVec 32 := Scalar.muli arg9 c8_i32_24
  v57
def k0_off20 (k0_t2 : Fin k0_t2_loop.trips) : Fin 1 → Nat :=
  let c1024_i32 : BitVec 32 := 1024#32
  let c0_i32_11 : BitVec 32 := 0#32
  let c1_i32_13 : BitVec 32 := 1#32
  let arg9 : BitVec 32 := Scf.iv c0_i32_11 c1_i32_13 k0_t2
  let v59 : BitVec 32 := Scalar.addi c1024_i32 arg9
  let v60 : Index := Scalar.indexCast v59
  ![v60.toNat]
def k0_mult15 (v61 : BitVec 32) : BitVec 32 :=
  let c8_i32_25 : BitVec 32 := 8#32
  let v62 : BitVec 32 := Scalar.muli v61 c8_i32_25
  v62

def k0_off21 (v61 : BitVec 32) : Fin 2 → Nat :=
  let c8_i32_25 : BitVec 32 := 8#32
  let v62 : BitVec 32 := Scalar.muli v61 c8_i32_25
  let v63 : BitVec 32 := v62
  let c0_i32_26 : BitVec 32 := 0#32
  ![v63.toNat, 0]

def k0_chk7 (v61 : BitVec 32) : Prop :=
  (8 ∣ (k0_mult15 v61).toNat) ∧
  (∀ a, (k0_off21 v61) a + S8x128.size a ≤ S1179648x128.size a)
theorem k0_mult15_dvd : ∀ (v61 : BitVec 32) (k0_hw7 : k0_chk7 v61), 8 ∣ (k0_mult15 v61).toNat := fun v61 k0_hw7 => k0_hw7.1
theorem k0_off21_inb : ∀ (v61 : BitVec 32) (k0_hw7 : k0_chk7 v61), ∀ a, (k0_off21 v61) a + S8x128.size a ≤ S1179648x128.size a := fun v61 k0_hw7 => k0_hw7.2

def k0_off22 (k0_t2 : Fin k0_t2_loop.trips) : Fin 2 → Nat :=
  let c0_i32_11 : BitVec 32 := 0#32
  let c1_i32_13 : BitVec 32 := 1#32
  let arg9 : BitVec 32 := Scf.iv c0_i32_11 c1_i32_13 k0_t2
  let c8_i32_24 : BitVec 32 := 8#32
  let v57 : BitVec 32 := Scalar.muli arg9 c8_i32_24
  let v58 : BitVec 32 := v57
  let c0_i32_27 : BitVec 32 := 0#32
  ![v58.toNat, 0]
def k0_mult16 (k0_t2 : Fin k0_t2_loop.trips) : BitVec 32 :=
  let c0_i32_11 : BitVec 32 := 0#32
  let c1_i32_13 : BitVec 32 := 1#32
  let arg9 : BitVec 32 := Scf.iv c0_i32_11 c1_i32_13 k0_t2
  let c8_i32_28 : BitVec 32 := 8#32
  let v66 : BitVec 32 := Scalar.muli arg9 c8_i32_28
  v66
def k0_off23 (k0_t2 : Fin k0_t2_loop.trips) : Fin 1 → Nat :=
  let c1536_i32 : BitVec 32 := 1536#32
  let c0_i32_11 : BitVec 32 := 0#32
  let c1_i32_13 : BitVec 32 := 1#32
  let arg9 : BitVec 32 := Scf.iv c0_i32_11 c1_i32_13 k0_t2
  let v68 : BitVec 32 := Scalar.addi c1536_i32 arg9
  let v69 : Index := Scalar.indexCast v68
  ![v69.toNat]
def k0_mult17 (v70 : BitVec 32) : BitVec 32 :=
  let c8_i32_29 : BitVec 32 := 8#32
  let v71 : BitVec 32 := Scalar.muli v70 c8_i32_29
  v71

def k0_off24 (v70 : BitVec 32) : Fin 2 → Nat :=
  let c8_i32_29 : BitVec 32 := 8#32
  let v71 : BitVec 32 := Scalar.muli v70 c8_i32_29
  let v72 : BitVec 32 := v71
  let c0_i32_30 : BitVec 32 := 0#32
  ![v72.toNat, 0]

def k0_chk8 (v70 : BitVec 32) : Prop :=
  (8 ∣ (k0_mult17 v70).toNat) ∧
  (∀ a, (k0_off24 v70) a + S8x128.size a ≤ S1179648x128.size a)
theorem k0_mult17_dvd : ∀ (v70 : BitVec 32) (k0_hw8 : k0_chk8 v70), 8 ∣ (k0_mult17 v70).toNat := fun v70 k0_hw8 => k0_hw8.1
theorem k0_off24_inb : ∀ (v70 : BitVec 32) (k0_hw8 : k0_chk8 v70), ∀ a, (k0_off24 v70) a + S8x128.size a ≤ S1179648x128.size a := fun v70 k0_hw8 => k0_hw8.2

def k0_off25 (k0_t2 : Fin k0_t2_loop.trips) : Fin 2 → Nat :=
  let c0_i32_11 : BitVec 32 := 0#32
  let c1_i32_13 : BitVec 32 := 1#32
  let arg9 : BitVec 32 := Scf.iv c0_i32_11 c1_i32_13 k0_t2
  let c8_i32_28 : BitVec 32 := 8#32
  let v66 : BitVec 32 := Scalar.muli arg9 c8_i32_28
  let v67 : BitVec 32 := v66
  let c0_i32_31 : BitVec 32 := 0#32
  ![v67.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S34816x1024 : Shape := ⟨2, ![34816, 1024]⟩
abbrev S4x34816 : Shape := ⟨2, ![4, 34816]⟩
abbrev S32x128 : Shape := ⟨2, ![32, 128]⟩
abbrev S32x1 : Shape := ⟨2, ![32, 1]⟩
abbrev S32 : Shape := ⟨1, ![32]⟩
abbrev S_ : Shape := ⟨0, ![]⟩
abbrev S4x34816x1 : Shape := ⟨3, ![4, 34816, 1]⟩
abbrev S139264 : Shape := ⟨1, ![139264]⟩
abbrev S34816 : Shape := ⟨1, ![34816]⟩
abbrev S147456 : Shape := ⟨1, ![147456]⟩
abbrev S139264x1 : Shape := ⟨2, ![139264, 1]⟩
abbrev S1x1024 : Shape := ⟨2, ![1, 1024]⟩
abbrev S34817x1024 : Shape := ⟨2, ![34817, 1024]⟩
abbrev S147456x1 : Shape := ⟨2, ![147456, 1]⟩
abbrev S147456x1024 : Shape := ⟨2, ![147456, 1024]⟩
abbrev S1179648x128 : Shape := ⟨2, ![1179648, 128]⟩

abbrev nBuf : Space → Nat
  | .hbm => 75
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S4x34816, .i32⟩
  | .hbm, ⟨2, _⟩ => ⟨S4x34816, .i32⟩
  | .hbm, ⟨3, _⟩ => ⟨S32x128, .i32⟩
  | .hbm, ⟨4, _⟩ => ⟨S32x1, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S4x34816, .i32⟩
  | .hbm, ⟨39, _⟩ => ⟨S4x34816, .i1⟩
  | .hbm, ⟨40, _⟩ => ⟨S_, .i32⟩
  | .hbm, ⟨41, _⟩ => ⟨S4x34816, .i32⟩
  | .hbm, ⟨42, _⟩ => ⟨S4x34816, .i32⟩
  | .hbm, ⟨43, _⟩ => ⟨S4x34816, .i32⟩
  | .hbm, ⟨44, _⟩ => ⟨S4x34816x1, .i32⟩
  | .hbm, ⟨45, _⟩ => ⟨S4x34816, .i32⟩
  | .hbm, ⟨46, _⟩ => ⟨S4x34816, .i32⟩
  | .hbm, ⟨47, _⟩ => ⟨S139264, .i32⟩
  | .hbm, ⟨48, _⟩ => ⟨S34816, .i32⟩
  | .hbm, ⟨49, _⟩ => ⟨S4x34816, .i32⟩
  | .hbm, ⟨50, _⟩ => ⟨S139264, .i32⟩
  | .hbm, ⟨51, _⟩ => ⟨S_, .i32⟩
  | .hbm, ⟨52, _⟩ => ⟨S147456, .i32⟩
  | .hbm, ⟨53, _⟩ => ⟨S_, .i32⟩
  | .hbm, ⟨54, _⟩ => ⟨S139264, .i32⟩
  | .hbm, ⟨55, _⟩ => ⟨S139264, .i1⟩
  | .hbm, ⟨56, _⟩ => ⟨S_, .i32⟩
  | .hbm, ⟨57, _⟩ => ⟨S139264, .i32⟩
  | .hbm, ⟨58, _⟩ => ⟨S139264, .i32⟩
  | .hbm, ⟨59, _⟩ => ⟨S139264, .i32⟩
  | .hbm, ⟨60, _⟩ => ⟨S139264x1, .i32⟩
  | .hbm, ⟨61, _⟩ => ⟨S147456, .i32⟩
  | .hbm, ⟨62, _⟩ => ⟨S_, .f32⟩
  | .hbm, ⟨63, _⟩ => ⟨S1x1024, .f32⟩
  | .hbm, ⟨64, _⟩ => ⟨S34817x1024, .f32⟩
  | .hbm, ⟨65, _⟩ => ⟨S_, .i32⟩
  | .hbm, ⟨66, _⟩ => ⟨S147456, .i32⟩
  | .hbm, ⟨67, _⟩ => ⟨S147456, .i1⟩
  | .hbm, ⟨68, _⟩ => ⟨S_, .i32⟩
  | .hbm, ⟨69, _⟩ => ⟨S147456, .i32⟩
  | .hbm, ⟨70, _⟩ => ⟨S147456, .i32⟩
  | .hbm, ⟨71, _⟩ => ⟨S147456, .i32⟩
  | .hbm, ⟨72, _⟩ => ⟨S147456x1, .i32⟩
  | .hbm, ⟨73, _⟩ => ⟨S147456x1024, .f32⟩
  | .hbm, ⟨74, _⟩ => ⟨S1179648x128, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_call1_call0_c : Ref sig .tc := ⟨.hbm, 33, rfl⟩
abbrev main_call1_call0_v0 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]
-- ==== Projection.lean ====
abbrev S16x2176x1024 : Shape := ⟨3, ![16, 2176, 1024]⟩
abbrev S1024x6176 : Shape := ⟨2, ![1024, 6176]⟩
abbrev S34816x1024 : Shape := ⟨2, ![34816, 1024]⟩
abbrev S1024x6144 : Shape := ⟨2, ![1024, 6144]⟩
abbrev S34816x6144 : Shape := ⟨2, ![34816, 6144]⟩
abbrev S1024x1024 : Shape := ⟨2, ![1024, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16x2176x1024, .f32⟩
  | .hbm, ⟨1, _⟩ => ⟨S1024x6176, .f32⟩
  | .hbm, ⟨2, _⟩ => ⟨S34816x1024, .f32⟩
  | .hbm, ⟨3, _⟩ => ⟨S1024x6144, .f32⟩
  | .hbm, ⟨4, _⟩ => ⟨S1024x6144, .bf16⟩
  | .hbm, ⟨5, _⟩ => ⟨S34816x6144, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectionReferenceIdeal.lean ====
abbrev S16x2176x1024 : Shape := ⟨3, ![16, 2176, 1024]⟩
abbrev S1024x6176 : Shape := ⟨2, ![1024, 6176]⟩
abbrev S16x2176x6176 : Shape := ⟨3, ![16, 2176, 6176]⟩
abbrev S16x2176x6144 : Shape := ⟨3, ![16, 2176, 6144]⟩
abbrev S34816x6144 : Shape := ⟨2, ![34816, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16x2176x1024, .f32⟩
  | .hbm, ⟨1, _⟩ => ⟨S1024x6176, .f32⟩
  | .hbm, ⟨2, _⟩ => ⟨S16x2176x6176, .f32⟩
  | .hbm, ⟨3, _⟩ => ⟨S16x2176x6144, .f32⟩
  | .hbm, ⟨4, _⟩ => ⟨S34816x6144, .f32⟩
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Experts.lean ====
abbrev S1179648x128 : Shape := ⟨2, ![1179648, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩
abbrev S576 : Shape := ⟨1, ![576]⟩
abbrev S576x1 : Shape := ⟨2, ![576, 1]⟩
abbrev S1x32 : Shape := ⟨2, ![1, 32]⟩
abbrev S576x32 : Shape := ⟨2, ![576, 32]⟩
abbrev S1 : Shape := ⟨1, ![1]⟩
abbrev S32x1x1024 : Shape := ⟨3, ![32, 1, 1024]⟩
abbrev S2048x128 : Shape := ⟨2, ![2048, 128]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S256x256 : Shape := ⟨2, ![256, 256]⟩
abbrev S1x1024x256 : Shape := ⟨3, ![1, 1024, 256]⟩
abbrev S1024x256 : Shape := ⟨2, ![1024, 256]⟩
abbrev S1024x128 : Shape := ⟨2, ![1024, 128]⟩
abbrev S256x128 : Shape := ⟨2, ![256, 128]⟩
abbrev S256x1024 : Shape := ⟨2, ![256, 1024]⟩
abbrev S1x1024 : Shape := ⟨2, ![1, 1024]⟩

abbrev nBuf : Space → Nat
  | .hbm => 76
  | .vmem => 17
  | .smem => 2
  | _ => 0

abbrev bufTy : (tb : Table) → Fin (tcTables nBuf tb) → BufTy
  | .hbm, ⟨0, _⟩ => ⟨S1179648x128, .f32⟩
  | .hbm, ⟨1, _⟩ => ⟨S32x128, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x1, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S576, .i32⟩
  | .hbm, ⟨39, _⟩ => ⟨S_, .i32⟩
  | .hbm, ⟨40, _⟩ => ⟨S576, .i32⟩
  | .hbm, ⟨41, _⟩ => ⟨S576, .i32⟩
  | .hbm, ⟨42, _⟩ => ⟨S576x1, .i32⟩
  | .hbm, ⟨43, _⟩ => ⟨S1x32, .i32⟩
  | .hbm, ⟨44, _⟩ => ⟨S576x32, .i32⟩
  | .hbm, ⟨45, _⟩ => ⟨S576x32, .i32⟩
  | .hbm, ⟨46, _⟩ => ⟨S576x32, .i1⟩
  | .hbm, ⟨47, _⟩ => ⟨S576x32, .i32⟩
  | .hbm, ⟨48, _⟩ => ⟨S_, .i32⟩
  | .hbm, ⟨49, _⟩ => ⟨S576, .i32⟩
  | .hbm, ⟨50, _⟩ => ⟨S_, .i32⟩
  | .hbm, ⟨51, _⟩ => ⟨S576, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S1, .i1⟩
  | .hbm, ⟨61, _⟩ => ⟨S1, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S1, .i1⟩
  | .hbm, ⟨66, _⟩ => ⟨S1, .i1⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S32x1024, .f32⟩
  | .hbm, ⟨71, _⟩ => ⟨S32x1x1024, .f32⟩
  | .hbm, ⟨72, _⟩ => ⟨S32x1024, .f32⟩
  | .hbm, ⟨73, _⟩ => ⟨S32x1x1024, .f32⟩
  | .hbm, ⟨74, _⟩ => ⟨S32x1x1024, .f32⟩
  | .hbm, ⟨75, _⟩ => ⟨S1179648x128, .f32⟩
  | .local _ .vmem, ⟨0, _⟩ => ⟨S2048x128, .f32⟩
  | .local _ .vmem, ⟨1, _⟩ => ⟨S2048x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S2048x128, .f32⟩
  | .local _ .vmem, ⟨13, _⟩ => ⟨S2048x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .smem, ⟨0, _⟩ => ⟨S576, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v22 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v21 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_v21.idx, main_v23.idx], fun | 0 => main_v21.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsReferenceIdeal.lean ====
abbrev S1179648x128 : Shape := ⟨2, ![1179648, 128]⟩
abbrev S32x128 : Shape := ⟨2, ![32, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1 : Shape := ⟨2, ![32, 1]⟩
abbrev S32 : Shape := ⟨1, ![32]⟩
abbrev S_ : Shape := ⟨0, ![]⟩
abbrev S576x256x1024 : Shape := ⟨3, ![576, 256, 1024]⟩
abbrev S576 : Shape := ⟨1, ![576]⟩
abbrev S576x1 : Shape := ⟨2, ![576, 1]⟩
abbrev S1x32 : Shape := ⟨2, ![1, 32]⟩
abbrev S576x32 : Shape := ⟨2, ![576, 32]⟩
abbrev S576x1024x2048 : Shape := ⟨3, ![576, 1024, 2048]⟩
abbrev S576x256x2048 : Shape := ⟨3, ![576, 256, 2048]⟩
abbrev S576x2048 : Shape := ⟨2, ![576, 2048]⟩
abbrev S576x1x2048 : Shape := ⟨3, ![576, 1, 2048]⟩
abbrev S576x1024x1024 : Shape := ⟨3, ![576, 1024, 1024]⟩
abbrev S576x1024 : Shape := ⟨2, ![576, 1024]⟩
abbrev S576x1x1024 : Shape := ⟨3, ![576, 1, 1024]⟩
abbrev S1 : Shape := ⟨1, ![1]⟩
abbrev S576x1x1 : Shape := ⟨3, ![576, 1, 1]⟩

abbrev nBuf : Space → Nat
  | .hbm => 152
  | .vmem => 0
  | .smem => 0
  | _ => 0

abbrev hbmTy0_0 (i : Nat) : BufTy := match i % 128 with
  | 0 => ⟨S1179648x128, .f32⟩
  | 1 => ⟨S32x128, .i32⟩
  | 2 => ⟨S32x1024x2048, .f32⟩
  | 3 => ⟨S32x2048, .f32⟩
  | 4 => ⟨S32x1024x1024, .f32⟩
  | 5 => ⟨S32x1024, .f32⟩
  | 6 => ⟨S32x1, .i32⟩
  | 7 => ⟨S32, .i32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S_, .i32⟩
  | 16 => ⟨S32, .i32⟩
  | 17 => ⟨S32, .i32⟩
  | 18 => ⟨S32, .i32⟩
  | 19 => ⟨S_, .i32⟩
  | 20 => ⟨S32, .i32⟩
  | 21 => ⟨S32, .i1⟩
  | 22 => ⟨S32, .i32⟩
  | 23 => ⟨S32, .i32⟩
  | 24 => ⟨S_, .i32⟩
  | 25 => ⟨S32, .i32⟩
  | 26 => ⟨S32, .i1⟩
  | 27 => ⟨S32, .i1⟩
  | 28 => ⟨S_, .i32⟩
  | 29 => ⟨S32, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S32, .i32⟩
  | 38 => ⟨S576x256x1024, .f32⟩
  | 39 => ⟨S576, .i32⟩
  | 40 => ⟨S_, .i32⟩
  | 41 => ⟨S576, .i32⟩
  | 42 => ⟨S576, .i32⟩
  | 43 => ⟨S576x1, .i32⟩
  | 44 => ⟨S1x32, .i32⟩
  | 45 => ⟨S576x32, .i32⟩
  | 46 => ⟨S576x32, .i32⟩
  | 47 => ⟨S576x32, .i1⟩
  | 48 => ⟨S576x32, .i32⟩
  | 49 => ⟨S_, .i32⟩
  | 50 => ⟨S576, .i32⟩
  | 51 => ⟨S_, .i32⟩
  | 52 => ⟨S576, .i32⟩
  | 53 => ⟨S576, .i32⟩
  | 54 => ⟨S_, .i32⟩
  | 55 => ⟨S576, .i32⟩
  | 56 => ⟨S576, .i1⟩
  | 57 => ⟨S_, .i32⟩
  | 58 => ⟨S576, .i32⟩
  | 59 => ⟨S576, .i32⟩
  | 60 => ⟨S576, .i32⟩
  | 61 => ⟨S576x1, .i32⟩
  | 62 => ⟨S576x1024x2048, .f32⟩
  | 63 => ⟨S576x256x2048, .f32⟩
  | 64 => ⟨S_, .i32⟩
  | 65 => ⟨S576, .i32⟩
  | 66 => ⟨S576, .i1⟩
  | 67 => ⟨S_, .i32⟩
  | 68 => ⟨S576, .i32⟩
  | 69 => ⟨S576, .i32⟩
  | 70 => ⟨S576, .i32⟩
  | 71 => ⟨S576x1, .i32⟩
  | 72 => ⟨S576x2048, .f32⟩
  | 73 => ⟨S576x1x2048, .f32⟩
  | 74 => ⟨S576x256x2048, .f32⟩
  | 75 => ⟨S576x256x2048, .f32⟩
  | 76 => ⟨S576x256x1024, .f32⟩
  | 77 => ⟨S_, .f32⟩
  | 78 => ⟨S576x256x1024, .f32⟩
  | 79 => ⟨S576x256x1024, .f32⟩
  | 80 => ⟨S576x256x1024, .f32⟩
  | 81 => ⟨S_, .f32⟩
  | 82 => ⟨S_, .f32⟩
  | 83 => ⟨S_, .f32⟩
  | 84 => ⟨S576x256x1024, .f32⟩
  | 85 => ⟨S576x256x1024, .f32⟩
  | 86 => ⟨S_, .f32⟩
  | 87 => ⟨S576x256x1024, .f32⟩
  | 88 => ⟨S576x256x1024, .f32⟩
  | 89 => ⟨S_, .f32⟩
  | 90 => ⟨S576x256x1024, .f32⟩
  | 91 => ⟨S576x256x1024, .f32⟩
  | 92 => ⟨S576x256x1024, .f32⟩
  | 93 => ⟨S576x256x1024, .f32⟩
  | 94 => ⟨S_, .f32⟩
  | 95 => ⟨S576x256x1024, .f32⟩
  | 96 => ⟨S576x256x1024, .f32⟩
  | 97 => ⟨S_, .f32⟩
  | 98 => ⟨S576x256x1024, .f32⟩
  | 99 => ⟨S576x256x1024, .f32⟩
  | 100 => ⟨S576x256x1024, .f32⟩
  | 101 => ⟨S_, .f32⟩
  | 102 => ⟨S576x256x1024, .f32⟩
  | 103 => ⟨S576x256x1024, .f32⟩
  | 104 => ⟨S576x256x1024, .f32⟩
  | 105 => ⟨S_, .i32⟩
  | 106 => ⟨S576, .i32⟩
  | 107 => ⟨S576, .i1⟩
  | 108 => ⟨S_, .i32⟩
  | 109 => ⟨S576, .i32⟩
  | 110 => ⟨S576, .i32⟩
  | 111 => ⟨S576, .i32⟩
  | 112 => ⟨S576x1, .i32⟩
  | 113 => ⟨S576x1024x1024, .f32⟩
  | 114 => ⟨S576x256x1024, .f32⟩
  | 115 => ⟨S_, .i32⟩
  | 116 => ⟨S576, .i32⟩
  | 117 => ⟨S576, .i1⟩
  | 118 => ⟨S_, .i32⟩
  | 119 => ⟨S576, .i32⟩
  | 120 => ⟨S576, .i32⟩
  | 121 => ⟨S576, .i32⟩
  | 122 => ⟨S576x1, .i32⟩
  | 123 => ⟨S576x1024, .f32⟩
  | 124 => ⟨S576x1x1024, .f32⟩
  | 125 => ⟨S576x256x1024, .f32⟩
  | 126 => ⟨S576x256x1024, .f32⟩
  | 127 => ⟨S576, .i32⟩
  | _ => ⟨S1179648x128, .f32⟩

abbrev hbmTy0_1 (i : Nat) : BufTy := match i % 128 with
  | 0 => ⟨S1, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i1⟩
  | 11 => ⟨S_, .i1⟩
  | 12 => ⟨S_, .i32⟩
  | 13 => ⟨S_, .i32⟩
  | 14 => ⟨S_, .i32⟩
  | 15 => ⟨S576, .i32⟩
  | 16 => ⟨S576, .i1⟩
  | 17 => ⟨S576x1x1, .i1⟩
  | 18 => ⟨S_, .f32⟩
  | 19 => ⟨S_, .f32⟩
  | 20 => ⟨S576x256x1024, .i1⟩
  | 21 => ⟨S576x256x1024, .f32⟩
  | 22 => ⟨S576x256x1024, .f32⟩
  | 23 => ⟨S1179648x128, .f32⟩
  | _ => ⟨S1179648x128, .f32⟩

abbrev hbmTy (i : Nat) : BufTy := match i / 128 with
  | 0 => hbmTy0_0 i
  | 1 => hbmTy0_1 i
  | _ => ⟨S1179648x128, .f32⟩

abbrev bufTy : (tb : Table) → Fin (tcTables nBuf tb) → BufTy
  | .hbm, ⟨i, _⟩ => hbmTy i
  | _, _ => ⟨S1179648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_13 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_16 : Ref sig .tc := ⟨.hbm, 105, rfl⟩
abbrev main_v58 : Ref sig .tc := ⟨.hbm, 106, rfl⟩
abbrev main_v59 : Ref sig .tc := ⟨.hbm, 107, rfl⟩
abbrev main_c_17 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_18 : Ref sig .tc := ⟨.hbm, 115, rfl⟩
abbrev main_v66 : Ref sig .tc := ⟨.hbm, 116, rfl⟩
abbrev main_v67 : Ref sig .tc := ⟨.hbm, 117, rfl⟩
abbrev main_c_19 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_20 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c : Ref sig .tc := ⟨.hbm, 137, rfl⟩
abbrev main_call3_v6 : Ref sig .tc := ⟨.hbm, 138, rfl⟩
abbrev main_call3_v7 : Ref sig .tc := ⟨.hbm, 139, rfl⟩
abbrev main_call3_c_0 : Ref sig .tc := ⟨.hbm, 140, rfl⟩
abbrev main_call3_v8 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_21 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v83 : Ref sig .tc := ⟨.hbm, 150, rfl⟩
abbrev main_v84 : Ref sig .tc := ⟨.hbm, 151, rfl⟩

abbrev nD : Nat := 1
abbrev τ : Topo := Topo.v7x

variable {F : FTy → Type} [FloatOps F]
-- ==== Glu.lean ====
abbrev S16x2176x1024 : Shape := ⟨3, ![16, 2176, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S1x1024 : Shape := ⟨2, ![1, 1024]⟩
abbrev S1x544x1024 : Shape := ⟨3, ![1, 544, 1024]⟩
abbrev S544x1024 : Shape := ⟨2, ![544, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16x2176x1024, .f32⟩
  | .hbm, ⟨1, _⟩ => ⟨S1024x2048, .f32⟩
  | .hbm, ⟨2, _⟩ => ⟨S2048, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16x2176x1024, .f32⟩
  | .local _ .vmem, ⟨0, _⟩ => ⟨S1x544x1024, .f32⟩
  | .local _ .vmem, ⟨1, _⟩ => ⟨S1x544x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x544x1024, .f32⟩
  | .local _ .vmem, ⟨7, _⟩ => ⟨S1x544x1024, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S16x2176x1024 : Shape := ⟨3, ![16, 2176, 1024]⟩
abbrev S1024x2048 : Shape := ⟨2, ![1024, 2048]⟩
abbrev S2048 : Shape := ⟨1, ![2048]⟩
abbrev S16x2064x1024 : Shape := ⟨3, ![16, 2064, 1024]⟩
abbrev S16x2064x2048 : Shape := ⟨3, ![16, 2064, 2048]⟩
abbrev S1x1x2048 : Shape := ⟨3, ![1, 1, 2048]⟩
abbrev S_ : Shape := ⟨0, ![]⟩
abbrev S16x112x1024 : Shape := ⟨3, ![16, 112, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x2176x1024, .f32⟩
  | .hbm, ⟨1, _⟩ => ⟨S1024x2048, .f32⟩
  | .hbm, ⟨2, _⟩ => ⟨S2048, .f32⟩
  | .hbm, ⟨3, _⟩ => ⟨S16x2064x1024, .f32⟩
  | .hbm, ⟨4, _⟩ => ⟨S16x2064x2048, .f32⟩
  | .hbm, ⟨5, _⟩ => ⟨S1x1x2048, .f32⟩
  | .hbm, ⟨6, _⟩ => ⟨S16x2064x2048, .f32⟩
  | .hbm, ⟨7, _⟩ => ⟨S16x2064x2048, .f32⟩
  | .hbm, ⟨8, _⟩ => ⟨S16x2064x1024, .f32⟩
  | .hbm, ⟨9, _⟩ => ⟨S16x2064x1024, .f32⟩
  | .hbm, ⟨10, _⟩ => ⟨S16x2064x1024, .f32⟩
  | .hbm, ⟨11, _⟩ => ⟨S16x2064x1024, .f32⟩
  | .hbm, ⟨12, _⟩ => ⟨S_, .f32⟩
  | .hbm, ⟨13, _⟩ => ⟨S16x2064x1024, .f32⟩
  | .hbm, ⟨14, _⟩ => ⟨S16x2064x1024, .f32⟩
  | .hbm, ⟨15, _⟩ => ⟨S_, .f32⟩
  | .hbm, ⟨16, _⟩ => ⟨S16x2064x1024, .f32⟩
  | .hbm, ⟨17, _⟩ => ⟨S16x2064x1024, .f32⟩
  | .hbm, ⟨18, _⟩ => ⟨S16x2064x1024, .f32⟩
  | .hbm, ⟨19, _⟩ => ⟨S_, .f32⟩
  | .hbm, ⟨20, _⟩ => ⟨S16x112x1024, .f32⟩
  | .hbm, ⟨21, _⟩ => ⟨S16x2176x1024, .f32⟩
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Output.lean ====
abbrev S16x2176x2048 : Shape := ⟨3, ![16, 2176, 2048]⟩
abbrev S16x2176x1024 : Shape := ⟨3, ![16, 2176, 1024]⟩
abbrev S2048x1024 : Shape := ⟨2, ![2048, 1024]⟩
abbrev S1024 : Shape := ⟨1, ![1024]⟩
abbrev S34816x2048 : Shape := ⟨2, ![34816, 2048]⟩
abbrev S34816x1024 : Shape := ⟨2, ![34816, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16x2176x2048, .f32⟩
  | .hbm, ⟨1, _⟩ => ⟨S16x2176x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S34816x2048, .f32⟩
  | .hbm, ⟨6, _⟩ => ⟨S2048x1024, .bf16⟩
  | .hbm, ⟨7, _⟩ => ⟨S34816x1024, .f32⟩
  | .hbm, ⟨8, _⟩ => ⟨S1x1024, .f32⟩
  | .hbm, ⟨9, _⟩ => ⟨S1x1024, .f32⟩
  | .hbm, ⟨10, _⟩ => ⟨S34816x1024, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutputReferenceIdeal.lean ====
abbrev S16x2176x2048 : Shape := ⟨3, ![16, 2176, 2048]⟩
abbrev S16x2176x1024 : Shape := ⟨3, ![16, 2176, 1024]⟩
abbrev S2048x1024 : Shape := ⟨2, ![2048, 1024]⟩
abbrev S1024 : Shape := ⟨1, ![1024]⟩
abbrev S_ : Shape := ⟨0, ![]⟩
abbrev S16x2176 : Shape := ⟨2, ![16, 2176]⟩
abbrev S16x2176x1 : Shape := ⟨3, ![16, 2176, 1]⟩
abbrev S1x1x1024 : Shape := ⟨3, ![1, 1, 1024]⟩
abbrev S34816x1024 : Shape := ⟨2, ![34816, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2176x2048, .f32⟩
  | .hbm, ⟨1, _⟩ => ⟨S16x2176x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16x2176x1024, .f32⟩
  | .hbm, ⟨7, _⟩ => ⟨S16x2176x1024, .f32⟩
  | .hbm, ⟨8, _⟩ => ⟨S16x2176x1024, .f32⟩
  | .hbm, ⟨9, _⟩ => ⟨S16x2176x1024, .f32⟩
  | .hbm, ⟨10, _⟩ => ⟨S_, .f32⟩
  | .hbm, ⟨11, _⟩ => ⟨S16x2176, .f32⟩
  | .hbm, ⟨12, _⟩ => ⟨S16x2176x1, .f32⟩
  | .hbm, ⟨13, _⟩ => ⟨S_, .f32⟩
  | .hbm, ⟨14, _⟩ => ⟨S16x2176x1, .f32⟩
  | .hbm, ⟨15, _⟩ => ⟨S16x2176x1, .f32⟩
  | .hbm, ⟨16, _⟩ => ⟨S16x2176x1024, .f32⟩
  | .hbm, ⟨17, _⟩ => ⟨S16x2176x1024, .f32⟩
  | .hbm, ⟨18, _⟩ => ⟨S16x2176x1024, .f32⟩
  | .hbm, ⟨19, _⟩ => ⟨S_, .f32⟩
  | .hbm, ⟨20, _⟩ => ⟨S16x2176, .f32⟩
  | .hbm, ⟨21, _⟩ => ⟨S16x2176x1, .f32⟩
  | .hbm, ⟨22, _⟩ => ⟨S_, .f32⟩
  | .hbm, ⟨23, _⟩ => ⟨S16x2176x1, .f32⟩
  | .hbm, ⟨24, _⟩ => ⟨S16x2176x1, .f32⟩
  | .hbm, ⟨25, _⟩ => ⟨S_, .f32⟩
  | .hbm, ⟨26, _⟩ => ⟨S16x2176x1, .f32⟩
  | .hbm, ⟨27, _⟩ => ⟨S16x2176x1, .f32⟩
  | .hbm, ⟨28, _⟩ => ⟨S16x2176x1, .f32⟩
  | .hbm, ⟨29, _⟩ => ⟨S16x2176x1024, .f32⟩
  | .hbm, ⟨30, _⟩ => ⟨S16x2176x1024, .f32⟩
  | .hbm, ⟨31, _⟩ => ⟨S1x1x1024, .f32⟩
  | .hbm, ⟨32, _⟩ => ⟨S16x2176x1024, .f32⟩
  | .hbm, ⟨33, _⟩ => ⟨S16x2176x1024, .f32⟩
  | .hbm, ⟨34, _⟩ => ⟨S1x1x1024, .f32⟩
  | .hbm, ⟨35, _⟩ => ⟨S16x2176x1024, .f32⟩
  | .hbm, ⟨36, _⟩ => ⟨S16x2176x1024, .f32⟩
  | .hbm, ⟨37, _⟩ => ⟨S34816x1024, .f32⟩
  | _, _ => ⟨S16x2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Same.lean ====
module

public import proofs.«01_k».proof.Proof.Gen.Kernel
public import proofs.«01_k».proof.Proof.Gen.KernelIdeal

@[expose] public section

set_option maxRecDepth 16384

noncomputable section

namespace Cert.Dispatch

open Idealize.ShloMosaic Idealize.SL.Sem

variable {F : FTy → Type} [FloatOps F]

/-! ## The kernel and its idealization are one program

No operation is rewritten: the two printed programs agree at every float instance. -/

theorem same_point : (fun i => Cert.Kernel.cc0_moe_dispatch (F := F) i) = fun i => Cert.KernelIdeal.cc0_moe_dispatch (F := F) i := rfl
theorem same_body : Cert.Kernel.defs₀ (F := F) = Cert.KernelIdeal.defs₀ (F := F) := by
  unfold Cert.Kernel.defs₀ Cert.KernelIdeal.defs₀
  refine congrArg Defs.onTc ?_
  funext l a
  fin_cases l
  obtain ⟨t, s⟩ := a
  rfl
theorem same_defs : Cert.Kernel.defs (F := F) = Cert.KernelIdeal.defs (F := F) := congrArg (Pipeline.defs (Cert.KernelIdeal.pcfgs (F := F))) same_body
set_option maxHeartbeats 1000000 in
theorem same_main : Cert.Kernel.main (F := F) = Cert.KernelIdeal.main (F := F) := by
  funext c
  unfold Cert.Kernel.main Cert.KernelIdeal.main Cert.Kernel.fn_floor_divide.body Cert.KernelIdeal.fn_floor_divide.body
    Cert.Kernel.fn_cumsum.body Cert.KernelIdeal.fn_cumsum.body
    Cert.Kernel.fn_cumsum_0.body Cert.KernelIdeal.fn_cumsum_0.body
    Cert.Kernel.fn_where.body Cert.KernelIdeal.fn_where.body
    Cert.Kernel.fn_where_1.body Cert.KernelIdeal.fn_where_1.body
  rfl

theorem same_run (s : MemSt Cert.KernelIdeal.nD Cert.KernelIdeal.τ Cert.KernelIdeal.sig (Elt F)) :
    θ_run (Cert.Kernel.defs (F := F)) (onTc (τ := Cert.Kernel.τ) (Cert.Kernel.main (F := F))) s
      = θ_run (Cert.KernelIdeal.defs (F := F)) (onTc (τ := Cert.KernelIdeal.τ) (Cert.KernelIdeal.main (F := F))) s :=
  congrArg (fun p : (_ × _) => θ_run (Val := Elt F) p.1 (onTc (τ := Cert.KernelIdeal.τ) p.2) s) (Prod.ext same_defs same_main :
    ((Cert.Kernel.defs (F := F), Cert.Kernel.main (F := F)) : _ × _) = (Cert.KernelIdeal.defs (F := F), Cert.KernelIdeal.main (F := F)))

/-- What is proved of the idealization's run holds of the kernel's. -/
theorem run_kernel (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun w => w Q) (same_run s)).mpr h

end Cert.Dispatch
end
-- ==== Proof.Copies.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.Routed
public import Idealize.ShloMosaic.Lib.Pipeline.Value
public import Idealize.ShloMosaic.Lib.Batch
public import Idealize.ShloMosaic.Lib.Ring
public import Idealize.ShloMosaic.Lib.Tactic
public import Idealize.ShloMosaic.Lib.WordCmp
public import Idealize.SL.BI.BigOpNat

@[expose] public section

set_option maxRecDepth 16384

noncomputable section

namespace Cert.Dispatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

/-! ## The copies' pieces: eight rows of 128 -/

/-- The elements of rows `8 d … 8 d + 7` of an array of rows of 128. -/
def slab (n d : ℕ) : Finset (⟨2, ![n, 128]⟩ : Shape).Idx := Finset.univ.filter fun y => (y 0).val / 8 = d

theorem mem_slab {n d : ℕ} (y : (⟨2, ![n, 128]⟩ : Shape).Idx) : y ∈ slab n d ↔ (y 0).val / 8 = d := by
  simp [slab]

theorem slab_disjoint {n d d' : ℕ} (h : d ≠ d') : Disjoint (slab n d) (slab n d') := by
  rw [Finset.disjoint_left]; intro y hy hy'; rw [mem_slab] at hy hy'; exact h (hy.symm.trans hy')

/-- The window of eight rows at row `8 d` is that piece. -/
theorem rect_slab {n d : ℕ} (off : Fin 2 → Nat) (inb : ∀ a, off a + S8x128.size a ≤ (⟨2, ![n, 128]⟩ : Shape).size a)
    (ho : off = ![8 * d, 0]) : (Rect.unit (s := ⟨2, ![n, 128]⟩) off S8x128.size inb).set = slab n d := by
  subst ho
  ext y; rw [Rect.mem_set_unit, mem_slab]
  have h1 : (y 1).val < 128 := (y 1).isLt
  constructor
  · intro H; have a0 : 8 * d ≤ (y 0).val ∧ (y 0).val < 8 * d + 8 := H 0; omega
  · intro H a; fin_cases a
    · show 8 * d ≤ (y 0).val ∧ (y 0).val < 8 * d + 8; omega
    · show 0 ≤ (y 1).val ∧ (y 1).val < 0 + 128; omega

section Copy

variable (c : Dev nD)

/-- The result array, the rows staged for the copies, and the staged row numbers, as the launch names them. -/
abbrev xbuf : Memref sig .tc .hbm S1179648x128 .f32 := Memref.whole main_v24
abbrev rows : Memref sig .tc .vmem S4096x128 .f32 := Memref.whole cc0_scratch1
abbrev nums : Memref sig .tc .smem S2048 .i32 := Memref.whole cc0_scratch0

abbrev xAt (S : Finset S1179648x128.Idx) (q : PosShare TreeShare) (f : S1179648x128.Idx → Elt F .f32) : sProp 𝕄 :=
  xbuf.view.loc (c : Thread nD τ) ↦[S]{q} f
abbrev rowsAt (S : Finset S4096x128.Idx) (q : PosShare TreeShare) (f : S4096x128.Idx → Elt F .f32) : sProp 𝕄 :=
  rows.view.loc (c : Thread nD τ) ↦[S]{q} f
abbrev numsAt (f : S2048.Idx → Elt F .i32) : sProp 𝕄 :=
  nums.view.loc (c : Thread nD τ) ↦{fullShare} f

/-- The four shares of a staged piece: one for each copy that reads it. -/
def part (k : ℕ) : PosShare TreeShare :=
  if k < 3 then Transfers.shareTokN fullShare k else Transfers.shareDrop fullShare 3

/-- What copy `t` leaves: the piece of the result it writes at its final contents, and its share of the piece it reads. -/
def landed (d : ℕ → ℕ) (R : S4096x128.Idx → Elt F .f32) (X' : S1179648x128.Idx → Elt F .f32) (t : ℕ) : sProp 𝕄 :=
  iprop(xAt c (slab 1179648 (d t)) fullShare X' ∗ rowsAt c (slab 4096 (t / 4)) (part (t % 4)) R)

instance landed_storable (d : ℕ → ℕ) (R : S4096x128.Idx → Elt F .f32) (X' : S1179648x128.Idx → Elt F .f32) (t : ℕ) :
    BI.Storable (upEmb : UEmb _ 𝕄) (landed c d R X' t) := by unfold landed; infer_instance

/-- The words of one copy. -/
def words : ℕ := Ref.dmaCredit main_v24 S8x128 .f32

theorem words_pos : 0 < words := sig.dmaCredit_pos _ _ _ _ _ (by decide : 0 < S8x128.numel)

/-- A point's 2048 copies on their one semaphore: `j` issued, `u` words of them waited for. -/
abbrev flights (d : ℕ → ℕ) (R : S4096x128.Idx → Elt F .f32) (X' : S1179648x128.Idx → Elt F .f32) (j u : ℕ) : sProp 𝕄 :=
  Transfers.Batch (countersEmb (U := Pipeline.UC sig nD τ)) (c : Thread nD τ) (.dma cc0_scratch3.sem) () words (n := 2048)
    (fun t => landed c d R X' t.val) j u

/-- ONE COPY issued: the piece of the result it writes and its share of the piece it reads are handed over. -/
theorem wp_copy {α : Type} (off : Fin 2 → Nat) (inb : ∀ a, off a + S8x128.size a ≤ S1179648x128.size a)
    (offs : Fin 2 → Nat) (inbs : ∀ a, offs a + S8x128.size a ≤ S4096x128.size a) {hsrc hdst hsem}
    {k : PUnit → Prog (TpuEff nD τ sig (Elt F) Λ₀ .tc) α} {Q : α → sProp 𝕄}
    {d : ℕ → ℕ} {R : S4096x128.Idx → Elt F .f32} {X X' : S1179648x128.Idx → Elt F .f32} {j : ℕ}
    (ho : off = ![8 * d j, 0]) (hos : offs = ![8 * (j / 4), 0]) (hj : j < 2048)
    (hv : ∀ y z, (y 0).val / 8 = d j → (z 0).val = 8 * (j / 4) + (y 0).val % 8 → (z 1).val = (y 1).val → X' y = R z) :
    iprop(rowsAt c (slab 4096 (j / 4)) (part (j % 4)) R ∗ xAt c (slab 1179648 (d j)) fullShare X ∗ flights c d R X' j 0)
      ⊢ iprop((flights c d R X' (j + 1) 0 -∗ wp frame (wpE defs₀ Variants.none (c : Thread nD τ) none) Set.univ (k ⟨⟩) Q)
        -∗ wp frame (wpE defs₀ Variants.none (c : Thread nD τ) none) Set.univ
          (.op (.enqueueDma (rows.slice (Rect.unit (s := S4096x128) offs S8x128.size inbs) (fun _ => rfl))
            (.here (xbuf.slice (Rect.unit (s := S1179648x128) off S8x128.size inb) (fun _ => rfl))) (.dma cc0_scratch3.sem) hsrc hdst hsem) k) Q) := by
  have e1 : (rows.slice (Rect.unit (s := S4096x128) offs S8x128.size inbs) (fun _ => rfl)).view.set = slab 4096 (j / 4) :=
    (View.set_slice_whole _ _).trans (rect_slab offs inbs hos)
  have e2 : (xbuf.slice (Rect.unit (s := S1179648x128) off S8x128.size inb) (fun _ => rfl)).view.set = slab 1179648 (d j) :=
    (View.set_slice_whole _ _).trans (rect_slab off inb ho)
  have hD : iprop((xAt c (slab 1179648 (d j)) fullShare ((xbuf.slice (Rect.unit (s := S1179648x128) off S8x128.size inb) (fun _ => rfl)).view.write
        (Elt F) X (ReadAs.same.apply ((rows.slice (Rect.unit (s := S4096x128) offs S8x128.size inbs) (fun _ => rfl)).view.read (Elt F) R)) Finset.univ))
      ∗ rowsAt c (slab 4096 (j / 4)) (part (j % 4)) R) ⊢ landed c d R X' j := by
    unfold landed
    refine sep_mono_left (Entails.of_eq (pointsTo_congr fun y hy => ?_))
    rw [← e2] at hy
    obtain ⟨x, -, rfl⟩ := Finset.mem_map.mp hy
    rw [View.write_emb_of_mem _ _ (Finset.mem_univ x)]
    refine Eq.trans ?_ (hv _ ((rows.slice (Rect.unit (s := S4096x128) offs S8x128.size inbs) (fun _ => rfl)).view.emb x) ?_ ?_ ?_).symm
    · rfl
    · subst ho
      have : (x 0).val < 8 := (x 0).isLt
      show (8 * d j + 1 * (x 0).val) / 8 = d j
      omega
    · subst ho hos
      have : (x 0).val < 8 := (x 0).isLt
      show 8 * (j / 4) + 1 * (x 0).val = 8 * (j / 4) + (8 * d j + 1 * (x 0).val) % 8
      omega
    · subst ho hos; rfl
  have key := Transfers.wp_dmaBatch (countersEmb (U := Pipeline.UC sig nD τ)) (defs := defs₀ (F := F)) Variants.none (c : Thread nD τ) none
    (src := (rows.slice (Rect.unit (s := S4096x128) offs S8x128.size inbs) (fun _ => rfl))) (via := ReadAs.same)
    (dst := (xbuf.slice (Rect.unit (s := S1179648x128) off S8x128.size inb) (fun _ => rfl)))
    (sm := .dma cc0_scratch3.sem) (hsrc := hsrc) (hdst := hdst) (hsem := hsem) (k := k) (Q := Q)
    (q := part (j % 4)) (fs := R) (Sd := slab 1179648 (d j)) (fd := X) (D := fun t : Fin 2048 => landed c d R X' t.val) (j := j) (u := 0)
    () words (by rfl) (by rw [e2]) hj (Nat.zero_le _) (by rw [e1]; exact hD)
  rw [e1] at key; exact key

/-! ## The words of one trip -/

theorem trips1 : k0_t1_loop.trips = 512 := by decide
theorem trips2 : k0_t2_loop.trips = 512 := by decide

theorem iv_toNat {k : ℕ} (h : k < 512) : (Scf.iv 0#32 1#32 k).toNat = k := by
  simp only [Scf.iv, BitVec.toNat_add, BitVec.toNat_mul, BitVec.toNat_ofNat]; omega

/-- A row number's piece: eight rows a token. -/
theorem mul8_toNat {v : BitVec 32} (h : v.toNat < 147456) : (Scalar.muli v 8#32).toNat = 8 * v.toNat := by
  simp only [Scalar.muli, IntOp.muli, BitVec.toNat_mul, BitVec.toNat_ofNat]; omega

theorem dst_off {v : BitVec 32} (h : v.toNat < 147456) : (![(Scalar.muli v 8#32).toNat, 0] : Fin 2 → Nat) = ![8 * v.toNat, 0] := by
  rw [mul8_toNat h]

theorem dst_ok {v : BitVec 32} (h : v.toNat < 147456) :
    8 ∣ (Scalar.muli v 8#32).toNat ∧ ∀ a, (![(Scalar.muli v 8#32).toNat, 0] : Fin 2 → Nat) a + S8x128.size a ≤ S1179648x128.size a := by
  rw [mul8_toNat h]
  refine ⟨⟨_, rfl⟩, fun a => ?_⟩
  fin_cases a
  · show 8 * v.toNat + 8 ≤ 1179648; omega
  · show 0 + 128 ≤ 128; omega

theorem src_off {k : ℕ} (h : k < 512) : (![(Scalar.muli (Scf.iv 0#32 1#32 k) 8#32).toNat, 0] : Fin 2 → Nat) = ![8 * k, 0] := by
  rw [mul8_toNat (by rw [iv_toNat h]; omega), iv_toNat h]

theorem num_off {k : ℕ} (h : k < 512) (r : ℕ) (hr : r < 4) :
    (![(Scalar.indexCast (Scalar.addi (BitVec.ofNat 32 (r * 512)) (Scf.iv 0#32 1#32 k))).toNat] : Fin 1 → Nat) = ![r * 512 + k] := by
  have e : (Scalar.indexCast (Scalar.addi (BitVec.ofNat 32 (r * 512)) (Scf.iv 0#32 1#32 k))).toNat = r * 512 + k := by
    show (BitVec.ofNat 32 (r * 512) + Scf.iv 0#32 1#32 k).toNat = _
    rw [BitVec.toNat_add, iv_toNat h, BitVec.toNat_ofNat]; omega
  rw [e]

/-- The four reads of one staged piece share it. -/
theorem rows_split (S : Finset S4096x128.Idx) (R : S4096x128.Idx → Elt F .f32) :
    (rowsAt c S fullShare R : sProp 𝕄) = iprop(rowsAt c S (part 0) R ∗ rowsAt c S (part 1) R ∗ rowsAt c S (part 2) R ∗ rowsAt c S (part 3) R) := by
  have h := Transfers.pointsTo_toks_range (ℓ := rows.view.loc (c : Thread nD τ)) (S := S) (f := R) (Ix := Unit) (Name := ℕ)
    (U := Pipeline.UC sig nD τ) (Lvl := ℕ) fullShare 3
  rw [bigSep_range_succ, bigSep_range_succ, bigSep_range_succ, Finset.range_zero, bigSep_empty] at h
  have e0 : part 0 = Transfers.shareTokN fullShare 0 := rfl
  have e1 : part 1 = Transfers.shareTokN fullShare 1 := rfl
  have e2 : part 2 = Transfers.shareTokN fullShare 2 := rfl
  have e3 : part 3 = Transfers.shareDrop fullShare 3 := rfl
  rw [e0, e1, e2, e3]
  refine BI.Entails.antisymm (BIBase.Entails.trans h.1 ?_) (BIBase.Entails.trans ?_ h.2)
  · iintro ⟨HD, H2, H1, H0, -⟩
    isplitl [H0]; · iexact H0
    isplitl [H1]; · iexact H1
    isplitl [H2]; · iexact H2
    iexact HD
  · iintro ⟨H0, H1, H2, HD⟩
    isplitl [HD]; · iexact HD
    isplitl [H2]; · iexact H2
    isplitl [H1]; · iexact H1
    isplitl [H0]; · iexact H0
    iempintro

theorem Ico_head (a b : ℕ) (h : a < b) (Φ : ℕ → sProp 𝕄) :
    bigSep (Finset.Ico a b) Φ = iprop(Φ a ∗ bigSep (Finset.Ico (a + 1) b) Φ) := by
  have e : Finset.Ico a b = insert a (Finset.Ico (a + 1) b) := by ext x; simp only [Finset.mem_insert, Finset.mem_Ico]; omega
  rw [e, bigSep_insert (by simp)]; rfl

/-- A row number read and the copy's side conditions assumed. -/
theorem wp_num {α : Type} (off : Fin 1 → Nat) (inb : ∀ a, off a + S1.size a ≤ S2048.size a) {h1 : (Rect.unit (s := S2048) off S1.size inb).shape.numel = 1} {h2}
    {chk : BitVec 32 → Prop} {dec : ∀ v, Decidable (chk v)}
    {k : (v : BitVec 32) → PLift (chk v) → Prog (TpuEff nD τ sig (Elt F) Λ₀ .tc) α} {Q : α → sProp 𝕄}
    {d : ℕ → ℕ} {f : S2048.Idx → Elt F .i32} {n t : ℕ} (ho : off = ![n]) (ht : t < 2048) (hn : n = t % 4 * 512 + t / 4)
    (hd : ∀ t x, t < 2048 → (x 0).val = t % 4 * 512 + t / 4 → BitVec.toNat (f x) = d t) (hr : ∀ t, d t < 147456)
    (hchk : ∀ v : BitVec 32, v.toNat < 147456 → chk v) :
    (numsAt c f : sProp 𝕄)
      ⊢ iprop((∀ v : BitVec 32, ∀ h : PLift (chk v), ⌜v.toNat = d t⌝ -∗ numsAt c f -∗ wp frame (wpE defs₀ Variants.none (c : Thread nD τ) none) Set.univ (k v h) Q)
        -∗ wp frame (wpE defs₀ Variants.none (c : Thread nD τ) none) Set.univ
          ((smemLoad nums (Rect.unit (s := S2048) off S1.size inb) h1 h2 : Prog (TpuEff nD τ sig (Elt F) Λ₀ .tc) (Elt F .i32)) >>= fun v =>
            .op (.assume (chk v) (dec v)) (k v)) Q) := by
  rw [show ((smemLoad nums (Rect.unit (s := S2048) off S1.size inb) h1 h2 : Prog (TpuEff nD τ sig (Elt F) Λ₀ .tc) (Elt F .i32)) >>= fun v =>
      .op (.assume (chk v) (dec v)) (k v)) = smemLoadElt nums (Rect.unit (s := S2048) off S1.size inb) (View.loads_smem_one h2 h1)
        (Shape.Idx.first (h1.symm ▸ Nat.one_pos)) (fun v => .op (.assume (chk v) (dec v)) (k v)) from rfl]
  iintro HN Hk
  iapply (wp_smemLoadElt Variants.none (c : Thread nD τ) none Set.univ (m := nums) (r := Rect.unit (s := S2048) off S1.size inb) (S := Finset.univ)
    (x := Shape.Idx.first (h1.symm ▸ Nat.one_pos)) (f := f) (Finset.subset_univ _)) $$ HN
  iintro HN
  have hv : BitVec.toNat ((nums.access (Rect.unit (s := S2048) off S1.size inb)).read (Elt F) f (Shape.Idx.first (h1.symm ▸ Nat.one_pos))) = d t := by
    refine hd t _ ht ?_
    subst ho
    have : (Shape.Idx.first (s := (Rect.unit (s := S2048) ![n] S1.size inb).shape) (h1.symm ▸ Nat.one_pos) 0).val < 1 := (Shape.Idx.first _ 0).isLt
    show n + 1 * (Shape.Idx.first _ 0).val = _
    omega
  iapply (wp_assume Variants.none (c : Thread nD τ) none Set.univ (hchk _ (by rw [hv]; exact hr t)))
  iapply Hk $$ [] HN
  ipureintro; exact hv

section Loops

variable (i : grid0.Coords) (arg2 : Memref sig .tc .vmem S512x1024 .f32) (harg2 : arg2.IsWhole)
variable (d : ℕ → ℕ) (f : S2048.Idx → Elt F .i32) (R : S4096x128.Idx → Elt F .f32) (X X' : S1179648x128.Idx → Elt F .f32)

/-- Before trip `k` of the issuing loop: `4 k` copies issued; the pieces the rest write, the pieces the rest read, and the row numbers held. -/
def issuing (k : ℕ) (_ : Unit) : sProp 𝕄 :=
  iprop(flights c d R X' (4 * k) 0 ∗ bigSep (Finset.Ico (4 * k) 2048) (fun t => xAt c (slab 1179648 (d t)) fullShare X)
    ∗ bigSep (Finset.Ico k 512) (fun r => rowsAt c (slab 4096 r) fullShare R) ∗ numsAt c f)

abbrev body1 := k0_t1_body (F := F) i (Memref.whole main_v23) (Memref.isWhole_whole _) arg2 harg2 xbuf (Memref.isWhole_whole _) xbuf
  (Memref.isWhole_whole _) nums (Memref.isWhole_whole _) rows (Memref.isWhole_whole _) cc0_scratch2 cc0_scratch3
abbrev body2 := k0_t2_body (F := F) i (Memref.whole main_v23) (Memref.isWhole_whole _) arg2 harg2 xbuf (Memref.isWhole_whole _) xbuf
  (Memref.isWhole_whole _) nums (Memref.isWhole_whole _) rows (Memref.isWhole_whole _) cc0_scratch2 cc0_scratch3

theorem issue_step (hd : ∀ t x, t < 2048 → (x 0).val = t % 4 * 512 + t / 4 → (f x).toNat = d t) (hr : ∀ t, d t < 147456)
    (hv : ∀ t y z, t < 2048 → (y 0).val / 8 = d t → (z 0).val = 8 * (t / 4) + (y 0).val % 8 → (z 1).val = (y 1).val → X' y = R z)
    (k : Fin k0_t1_loop.trips) (acc : Unit) :
    issuing c d f R X X' k acc ⊢ wp frame (wpE defs₀ Variants.none (c : Thread nD τ) none) Set.univ (body1 i arg2 harg2 k acc)
      (issuing c d f R X X' (k.val + 1)) := by
  have hk : k.val < 512 := trips1 ▸ k.isLt
  unfold issuing
  rw [Ico_head (4 * k.val) _ (by omega), Ico_head (4 * k.val + 1) _ (by omega), Ico_head (4 * k.val + 2) _ (by omega), Ico_head (4 * k.val + 3) _ (by omega),
    Ico_head k.val _ hk, rows_split c (slab 4096 k.val)]
  iintro ⟨HB, ⟨H0, H1, H2, H3, HX⟩, ⟨⟨R0, R1, R2, R3⟩, HR⟩, HN⟩
  unfold body1 k0_t1_body
  rw [k0_part1_eq_skeleton]
  unfold k0_part1_skel
  simp only [bind_assoc, pure_bind, Prog.bind_lift, Prog.bind_op, Prog.pure_eq_ret, Prog.bind_ret]
  iapply (wp_num c (t := 4 * k.val + 0) (n := 0 * 512 + k.val) _ _ (num_off hk 0 (by decide)) (by omega) (by omega) hd hr (fun v h => dst_ok h)) $$ HN
  iintro %v0 %h0 %e0 HN
  iapply (wp_copy c (d := d) (R := R) (X := X) (X' := X') (j := 4 * k.val + 0) _ _ _ _ ((dst_off (by rw [e0]; exact hr _)).trans (by rw [e0]))
    ((src_off hk).trans (by rw [show (4 * k.val + 0) / 4 = k.val by omega])) (by omega) (fun y z => hv _ y z (by omega))) $$ [R0 H0 HB]
  · rw [show (4 * k.val + 0) / 4 = k.val by omega, show (4 * k.val + 0) % 4 = 0 by omega]
    isplitl [R0]; · iexact R0
    isplitl [H0]; · iexact H0
    iexact HB
  iintro HB
  iapply (wp_num c (t := 4 * k.val + 1) (n := 1 * 512 + k.val) _ _ (num_off hk 1 (by decide)) (by omega) (by omega) hd hr (fun v h => dst_ok h)) $$ HN
  iintro %v1 %h1 %e1 HN
  iapply (wp_copy c (d := d) (R := R) (X := X) (X' := X') (j := 4 * k.val + 1) _ _ _ _ ((dst_off (by rw [e1]; exact hr _)).trans (by rw [e1]))
    ((src_off hk).trans (by rw [show (4 * k.val + 1) / 4 = k.val by omega])) (by omega) (fun y z => hv _ y z (by omega))) $$ [R1 H1 HB]
  · rw [show (4 * k.val + 1) / 4 = k.val by omega, show (4 * k.val + 1) % 4 = 1 by omega]
    isplitl [R1]; · iexact R1
    isplitl [H1]; · iexact H1
    iexact HB
  iintro HB
  iapply (wp_num c (t := 4 * k.val + 2) (n := 2 * 512 + k.val) _ _ (num_off hk 2 (by decide)) (by omega) (by omega) hd hr (fun v h => dst_ok h)) $$ HN
  iintro %v2 %h2 %e2 HN
  iapply (wp_copy c (d := d) (R := R) (X := X) (X' := X') (j := 4 * k.val + 2) _ _ _ _ ((dst_off (by rw [e2]; exact hr _)).trans (by rw [e2]))
    ((src_off hk).trans (by rw [show (4 * k.val + 2) / 4 = k.val by omega])) (by omega) (fun y z => hv _ y z (by omega))) $$ [R2 H2 HB]
  · rw [show (4 * k.val + 2) / 4 = k.val by omega, show (4 * k.val + 2) % 4 = 2 by omega]
    isplitl [R2]; · iexact R2
    isplitl [H2]; · iexact H2
    iexact HB
  iintro HB
  iapply (wp_num c (t := 4 * k.val + 3) (n := 3 * 512 + k.val) _ _ (num_off hk 3 (by decide)) (by omega) (by omega) hd hr (fun v h => dst_ok h)) $$ HN
  iintro %v3 %h3 %e3 HN
  iapply (wp_copy c (d := d) (R := R) (X := X) (X' := X') (j := 4 * k.val + 3) _ _ _ _ ((dst_off (by rw [e3]; exact hr _)).trans (by rw [e3]))
    ((src_off hk).trans (by rw [show (4 * k.val + 3) / 4 = k.val by omega])) (by omega) (fun y z => hv _ y z (by omega))) $$ [R3 H3 HB]
  · rw [show (4 * k.val + 3) / 4 = k.val by omega, show (4 * k.val + 3) % 4 = 3 by omega]
    isplitl [R3]; · iexact R3
    isplitl [H3]; · iexact H3
    iexact HB
  iintro HB
  sl_step
  isplitl [HB]; · iexact HB
  isplitl [HX]; · iexact HX
  isplitl [HR]; · iexact HR
  iexact HN

/-- Before trip `k` of the waiting loop: the words of `4 k` copies waited for, the row numbers held. -/
def waiting (k : ℕ) (_ : Unit) : sProp 𝕄 :=
  iprop(flights c d R X' 2048 (4 * k * words) ∗ numsAt c f ∗ ∃ W, owes (c : Thread nD τ) 0 W)

/-- ONE WAIT, for the words of one copy. -/
theorem wp_wait {α : Type} (off : Fin 2 → Nat) (inb : ∀ a, off a + S8x128.size a ≤ S1179648x128.size a)
    (offs : Fin 2 → Nat) (inbs : ∀ a, offs a + S8x128.size a ≤ S4096x128.size a) {hsrc hdst}
    {k : PUnit → Prog (TpuEff nD τ sig (Elt F) Λ₀ .tc) α} {Q : α → sProp 𝕄} {n : ℕ} (hn : n < 2048) (W : Waits sig Unit) :
    iprop(flights c d R X' 2048 (n * words) ∗ owes (c : Thread nD τ) 0 W)
      ⊢ iprop((flights c d R X' 2048 ((n + 1) * words) -∗ (∃ W, owes (c : Thread nD τ) 0 W) -∗ wp frame (wpE defs₀ Variants.none (c : Thread nD τ) none) Set.univ (k ⟨⟩) Q)
        -∗ wp frame (wpE defs₀ Variants.none (c : Thread nD τ) none) Set.univ
          (.op (.waitDma2 cc0_scratch3.sem (rows.slice (Rect.unit (s := S4096x128) offs S8x128.size inbs) (fun _ => rfl))
            (xbuf.slice (Rect.unit (s := S1179648x128) off S8x128.size inb) (fun _ => rfl)) hsrc hdst) k) Q) := by
  have hle : n * words + 1 * words ≤ words * 2048 := by
    rw [← Nat.add_mul, Nat.mul_comm words]; exact Nat.mul_le_mul_right _ (by omega)
  iintro ⟨HB, HO⟩ Hk
  iapply (Transfers.wp_waitBatchMul (countersEmb (U := Pipeline.UC sig nD τ)) Variants.none (c : Thread nD τ) none () (N := words)
    (dstw := (xbuf.slice (Rect.unit (s := S1179648x128) off S8x128.size inb) (fun _ => rfl))) 1 (by rw [Nat.one_mul]; rfl) (j := 2048) hle) $$ [HB HO]
  · isplitl [HB]; · iexact HB
    iexact HO
  iintro ⟨HB, HO⟩
  iapply Hk $$ [HB] [HO]
  · rw [Nat.add_mul]; iexact HB
  · iexists _; iexact HO

theorem wait_step (hd : ∀ t x, t < 2048 → (x 0).val = t % 4 * 512 + t / 4 → (f x).toNat = d t) (hr : ∀ t, d t < 147456)
    (k : Fin k0_t2_loop.trips) (acc : Unit) :
    waiting c d f R X' k acc ⊢ wp frame (wpE defs₀ Variants.none (c : Thread nD τ) none) Set.univ (body2 i arg2 harg2 k acc)
      (waiting c d f R X' (k.val + 1)) := by
  have hk : k.val < 512 := trips2 ▸ k.isLt
  unfold waiting
  iintro ⟨HB, HN, ⟨%W, HO⟩⟩
  unfold body2 k0_t2_body
  rw [k0_part2_eq_skeleton]
  unfold k0_part2_skel
  simp only [bind_assoc, pure_bind, Prog.bind_lift, Prog.bind_op, Prog.pure_eq_ret, Prog.bind_ret]
  iapply (wp_num c (t := 4 * k.val + 0) (n := 0 * 512 + k.val) _ _ (num_off hk 0 (by decide)) (by omega) (by omega) hd hr (fun v h => dst_ok h)) $$ HN
  iintro %v0 %h0 %e0 HN
  iapply (wp_wait c d R X' (n := 4 * k.val + 0) _ _ _ _ (by omega) _) $$ [HB HO]
  · isplitl [HB]; · iexact HB
    iexact HO
  iintro HB ⟨%W0, HO⟩
  iapply (wp_num c (t := 4 * k.val + 1) (n := 1 * 512 + k.val) _ _ (num_off hk 1 (by decide)) (by omega) (by omega) hd hr (fun v h => dst_ok h)) $$ HN
  iintro %v1 %h1 %e1 HN
  iapply (wp_wait c d R X' (n := 4 * k.val + 1) _ _ _ _ (by omega) _) $$ [HB HO]
  · isplitl [HB]; · iexact HB
    iexact HO
  iintro HB ⟨%W1, HO⟩
  iapply (wp_num c (t := 4 * k.val + 2) (n := 2 * 512 + k.val) _ _ (num_off hk 2 (by decide)) (by omega) (by omega) hd hr (fun v h => dst_ok h)) $$ HN
  iintro %v2 %h2 %e2 HN
  iapply (wp_wait c d R X' (n := 4 * k.val + 2) _ _ _ _ (by omega) _) $$ [HB HO]
  · isplitl [HB]; · iexact HB
    iexact HO
  iintro HB ⟨%W2, HO⟩
  iapply (wp_num c (t := 4 * k.val + 3) (n := 3 * 512 + k.val) _ _ (num_off hk 3 (by decide)) (by omega) (by omega) hd hr (fun v h => dst_ok h)) $$ HN
  iintro %v3 %h3 %e3 HN
  iapply (wp_wait c d R X' (n := 4 * k.val + 3) _ _ _ _ (by omega) _) $$ [HB HO]
  · isplitl [HB]; · iexact HB
    iexact HO
  iintro HB ⟨%W3, HO⟩
  sl_step
  isplitl [HB]; · iexact HB
  isplitl [HN]; · iexact HN
  iexists _; iexact HO

end Loops

end Copy

end Cert.Dispatch

end
-- ==== Proof.BothLoops.lean ====
module

public import proofs.«01_k».proof.Proof.Copies

@[expose] public section

set_option maxRecDepth 16384

noncomputable section

namespace Cert.Dispatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

/-! # A point's two loops: 2048 copies issued, then waited for -/

section

variable (c : Dev nD)

theorem regroup (A B C D E : sProp 𝕄) : iprop(A ∗ B ∗ C ∗ D ∗ E) = iprop((D ∗ C ∗ B ∗ A) ∗ E) := by
  have h1 : iprop(A ∗ B ∗ C ∗ D ∗ E) ⊢ iprop((D ∗ C ∗ B ∗ A) ∗ E) := by
    iintro ⟨H3, H2, H1, H0, H⟩
    isplitl [H0 H1 H2 H3]
    · isplitl [H0]; · iexact H0
      isplitl [H1]; · iexact H1
      isplitl [H2]; · iexact H2
      iexact H3
    · iexact H
  have h2 : iprop((D ∗ C ∗ B ∗ A) ∗ E) ⊢ iprop(A ∗ B ∗ C ∗ D ∗ E) := by
    iintro ⟨⟨H0, H1, H2, H3⟩, H⟩
    isplitl [H3]; · iexact H3
    isplitl [H2]; · iexact H2
    isplitl [H1]; · iexact H1
    isplitl [H0]; · iexact H0
    iexact H
  exact BI.Entails.antisymm h1 h2

/-- A separating conjunction over `4 n` numbers, by fours. -/
theorem by_fours (n : ℕ) (Φ : ℕ → sProp 𝕄) :
    bigSep (Finset.range (4 * n)) Φ
      = bigSep (Finset.range n) fun r => iprop(Φ (4 * r) ∗ Φ (4 * r + 1) ∗ Φ (4 * r + 2) ∗ Φ (4 * r + 3)) := by
  induction n with
  | zero => rfl
  | succ n ih =>
    rw [show 4 * (n + 1) = 4 * n + 1 + 1 + 1 + 1 by omega, bigSep_range_succ, bigSep_range_succ, bigSep_range_succ, bigSep_range_succ,
      bigSep_range_succ, ih]
    exact regroup _ _ _ _ _

/-- The staged rows are the pieces the copies read. -/
theorem rows_pieces (R : S4096x128.Idx → Elt F .f32) :
    (rowsAt c Finset.univ fullShare R : sProp 𝕄) = bigSep (Finset.range 512) fun r => rowsAt c (slab 4096 r) fullShare R := by
  have e : (Finset.univ : Finset S4096x128.Idx) = (Finset.range 512).biUnion (slab 4096) := by
    ext y
    simp only [Finset.mem_univ, Finset.mem_biUnion, Finset.mem_range, true_iff]
    have : (y 0).val < 4096 := (y 0).isLt
    exact ⟨(y 0).val / 8, by omega, (mem_slab y).mpr rfl⟩
  unfold rowsAt
  rw [e]
  exact pointsTo_biUnion _ _ (fun t _ t' _ h => slab_disjoint h)

/-- The pieces the copies write. -/
def written (d : ℕ → ℕ) : Finset S1179648x128.Idx := (Finset.range 2048).biUnion fun t => slab 1179648 (d t)

theorem mem_written (d : ℕ → ℕ) (y : S1179648x128.Idx) : y ∈ written d ↔ ∃ t, t < 2048 ∧ (y 0).val / 8 = d t := by
  unfold written
  simp only [Finset.mem_biUnion, Finset.mem_range, mem_slab]

theorem written_pieces {d : ℕ → ℕ} (hinj : ∀ t t', t < 2048 → t' < 2048 → d t = d t' → t = t') (X : S1179648x128.Idx → Elt F .f32) :
    (xAt c (written d) fullShare X : sProp 𝕄) = bigSep (Finset.range 2048) fun t => xAt c (slab 1179648 (d t)) fullShare X := by
  unfold xAt written
  exact pointsTo_biUnion _ _ (fun t ht t' ht' h => slab_disjoint fun he =>
    h (hinj t t' (Finset.mem_range.mp ht) (Finset.mem_range.mp ht') he))

/-- The written pieces at their final contents and the rest, which no copy touched, are the whole result. -/
theorem rejoin (d : ℕ → ℕ) (X X' : S1179648x128.Idx → Elt F .f32) (hX : ∀ y, (∀ t, t < 2048 → (y 0).val / 8 ≠ d t) → X' y = X y) :
    iprop(xAt c (written d) fullShare X' ∗ xAt c (Finset.univ \ written d) fullShare X) ⊢ (xAt c Finset.univ fullShare X' : sProp 𝕄) := by
  have e : (xAt c (Finset.univ \ written d) fullShare X : sProp 𝕄) = xAt c (Finset.univ \ written d) fullShare X' := by
    have key : ∀ S : Finset S1179648x128.Idx, (∀ y ∈ S, X y = X' y) → (xAt c S fullShare X : sProp 𝕄) = xAt c S fullShare X' :=
      fun S h => pointsTo_congr h
    refine key _ fun y hy => (hX y fun t ht he => ?_).symm
    rw [Finset.mem_sdiff] at hy
    have hy' : ¬ ∃ t, t < 2048 ∧ (y 0).val / 8 = d t := by
      rw [← mem_written]
      exact hy.2
    exact hy' ⟨t, ht, he⟩
  rw [e]
  exact (pointsTo_split_subset (Finset.subset_univ _)).2

/-- Everything landed: the pieces written at their final contents, and the staged rows. -/
theorem landed_all (d : ℕ → ℕ) (R : S4096x128.Idx → Elt F .f32) (X' : S1179648x128.Idx → Elt F .f32) :
    (bigSep Finset.univ (fun t : Fin 2048 => landed c d R X' t.val) : sProp 𝕄)
      = iprop(bigSep (Finset.range 2048) (fun t => xAt c (slab 1179648 (d t)) fullShare X') ∗ rowsAt c Finset.univ fullShare R) := by
  rw [Ring.bigSep_fin_eq_range 2048 _ (fun t => landed c d R X' t) (fun _ _ => rfl)]
  unfold landed
  rw [rows_pieces]
  refine (BI.bigSep_sep _ _ _).trans (congrArg (BI.sep _) ?_)
  refine (by_fours 512 (fun t => rowsAt c (slab 4096 (t / 4)) (part (t % 4)) R)).trans ?_
  refine bigSep_congr fun r hr => ?_
  rw [rows_split, show 4 * r / 4 = r by omega, show (4 * r + 1) / 4 = r by omega, show (4 * r + 2) / 4 = r by omega, show (4 * r + 3) / 4 = r by omega,
    show 4 * r % 4 = 0 by omega, show (4 * r + 1) % 4 = 1 by omega, show (4 * r + 2) % 4 = 2 by omega, show (4 * r + 3) % 4 = 3 by omega]

variable (i : grid0.Coords) (arg2 : Memref sig .tc .vmem S512x1024 .f32) (harg2 : arg2.IsWhole)
variable (d : ℕ → ℕ) (f : S2048.Idx → Elt F .i32) (R : S4096x128.Idx → Elt F .f32) (X X' : S1179648x128.Idx → Elt F .f32)

/-- The two loops, to the body's end. -/
abbrev bothLoops : Prog (TpuEff nD τ sig (Elt F) Λ₀ .tc) PUnit := do
  Scf.Loop.for k0_t1_loop k0_t1_ok ⟨⟩ (body1 (F := F) i arg2 harg2)
  Scf.Loop.for k0_t2_loop k0_t2_ok ⟨⟩ (body2 (F := F) i arg2 harg2)
  pure ⟨⟩

/-- BOTH LOOPS: the copies' 2048 pieces of the result come back written, the rest of it, the rows and the numbers unchanged. -/
theorem wp_bothLoops (hd : ∀ t x, t < 2048 → (x 0).val = t % 4 * 512 + t / 4 → (f x).toNat = d t) (hr : ∀ t, d t < 147456)
    (hinj : ∀ t t', t < 2048 → t' < 2048 → d t = d t' → t = t')
    (hv : ∀ t y z, t < 2048 → (y 0).val / 8 = d t → (z 0).val = 8 * (t / 4) + (y 0).val % 8 → (z 1).val = (y 1).val → X' y = R z)
    (hX : ∀ y, (∀ t, t < 2048 → (y 0).val / 8 ≠ d t) → X' y = X y) (W : Waits sig Unit) :
    iprop(xAt c Finset.univ fullShare X ∗ rowsAt c Finset.univ fullShare R ∗ numsAt c f ∗ semVal ((c : Thread nD τ), SemLoc.dma cc0_scratch3.sem) 0
        ∗ owes (c : Thread nD τ) 0 W)
      ⊢ wp frame (wpE defs₀ Variants.none (c : Thread nD τ) none) Set.univ (bothLoops i arg2 harg2)
        (fun _ => iprop(xAt c Finset.univ fullShare X' ∗ rowsAt c Finset.univ fullShare R ∗ numsAt c f
          ∗ semVal ((c : Thread nD τ), SemLoc.dma cc0_scratch3.sem) 0 ∗ ∃ W, owes (c : Thread nD τ) 0 W)) := by
  iintro ⟨HX, HR, HN, Hc, HO⟩
  ihave HX' := (pointsTo_split_subset (Finset.subset_univ (written d))).1 $$ HX
  icases HX' with ⟨HX, Hrest⟩
  ihave HXp := (Entails.of_eq (written_pieces c hinj X)) $$ HX
  ihave HRp := (Entails.of_eq (rows_pieces c R)) $$ HR
  imod (Transfers.batch_alloc' (Lvl := ℕ) (countersEmb (U := Pipeline.UC sig nD τ)) (c : Thread nD τ) () words
    (fun t : Fin 2048 => landed c d R X' t.val) (sm := .dma cc0_scratch3.sem) (E := Set.univ)) $$ Hc with HB
  sl_unfold [bothLoops]
  sl_for (issuing c d f R X X') $$ [HB HXp HRp HN]
  · intro k acc; exact issue_step c i arg2 harg2 d f R X X' hd hr hv k acc
  · unfold issuing
    rw [Nat.mul_zero, ← Finset.range_eq_Ico, ← Finset.range_eq_Ico]
    isplitl [HB]; · iexact HB
    isplitl [HXp]; · iexact HXp
    isplitl [HRp]; · iexact HRp
    iexact HN
  iintro %acc HI
  ihave HI' := (show issuing c d f R X X' k0_t1_loop.trips acc ⊢ iprop(flights c d R X' 2048 (4 * 0 * words) ∗ numsAt c f) from by
    unfold issuing
    rw [trips1, show 4 * 512 = 2048 from rfl, Nat.mul_zero, Nat.zero_mul]
    iintro ⟨HB, -, -, HN⟩
    isplitl [HB]; · iexact HB
    iexact HN) $$ HI
  icases HI' with ⟨HB, HN⟩
  sl_for (waiting c d f R X') $$ [HB HN HO]
  · intro k acc; exact wait_step c i arg2 harg2 d f R X' hd hr k acc
  · unfold waiting
    isplitl [HB]; · iexact HB
    isplitl [HN]; · iexact HN
    iexists _; iexact HO
  iintro %acc' HI
  ihave HI' := (show waiting c d f R X' k0_t2_loop.trips acc' ⊢ iprop(flights c d R X' 2048 (words * 2048) ∗ numsAt c f ∗ ∃ W, owes (c : Thread nD τ) 0 W) from by
    unfold waiting
    rw [trips2, show 4 * 512 = 2048 from rfl, Nat.mul_comm]) $$ HI
  icases HI' with ⟨HB, HN, HO⟩
  imod (Transfers.batch_collect' (countersEmb (U := Pipeline.UC sig nD τ)) (c : Thread nD τ) words_pos) $$ HB with ⟨HD, Hc⟩
  ihave HD' := (Entails.of_eq (landed_all c d R X')) $$ HD
  icases HD' with ⟨HXp, HR⟩
  ihave HX := (Entails.of_eq (written_pieces c hinj X').symm) $$ HXp
  ihave HXall := (rejoin c d X X' hX) $$ [HX Hrest]
  · isplitl [HX]; · iexact HX
    iexact Hrest
  sl_step
  isplitl [HXall]; · iexact HXall
  isplitl [HR]; · iexact HR
  isplitl [HN]; · iexact HN
  isplitl [Hc]; · iexact Hc
  iexact HO

end

end Cert.Dispatch

end
-- ==== Proof.Body.lean ====
module

public import proofs.«01_k».proof.Proof.BothLoops
public import Idealize.ShloMosaic.Lib.PointwiseCore
public import Idealize.ShloMosaic.Lib.VecWindow

@[expose] public section

set_option maxRecDepth 16384

noncomputable section

namespace Cert.Dispatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

/-! ## The staged rows and the staged row numbers -/

/-- A block of 512 tokens cut into pieces of 128: row `8 r + s` is segment `s` of token `r`. -/
def staged (B : S512x1024.Idx → Elt F .f32) (z : S4096x128.Idx) : Elt F .f32 :=
  B (ix2 (⟨(z 0).val / 8, by have := (z 0).isLt; change _ < 4096 at this; omega⟩ : Fin 512)
    (⟨(z 0).val % 8 * 128 + (z 1).val, by have := (z 1).isLt; change _ < 128 at this; omega⟩ : Fin 1024))

/-- The block's eight segments, stored every eighth row. -/
abbrev pieces (B : S512x1024.Idx → Elt F .f32) : List (View.Piece (Elt F) S4096x128 .f32) :=
  [⟨⟨(⟨![7, 0], S512x128.size, ![8, 1], inb_S4096x128_S512x128_7_0_s_8_1⟩ : LoadRect S4096x128), spos_8_1⟩, k0_pay1 (k0_pay9 B)⟩,
   ⟨⟨(⟨![6, 0], S512x128.size, ![8, 1], inb_S4096x128_S512x128_6_0_s_8_1⟩ : LoadRect S4096x128), spos_8_1⟩, k0_pay8 B⟩,
   ⟨⟨(⟨![5, 0], S512x128.size, ![8, 1], inb_S4096x128_S512x128_5_0_s_8_1⟩ : LoadRect S4096x128), spos_8_1⟩, k0_pay7 B⟩,
   ⟨⟨(⟨![4, 0], S512x128.size, ![8, 1], inb_S4096x128_S512x128_4_0_s_8_1⟩ : LoadRect S4096x128), spos_8_1⟩, k0_pay6 B⟩,
   ⟨⟨(⟨![3, 0], S512x128.size, ![8, 1], inb_S4096x128_S512x128_3_0_s_8_1⟩ : LoadRect S4096x128), spos_8_1⟩, k0_pay5 B⟩,
   ⟨⟨(⟨![2, 0], S512x128.size, ![8, 1], inb_S4096x128_S512x128_2_0_s_8_1⟩ : LoadRect S4096x128), spos_8_1⟩, k0_pay4 B⟩,
   ⟨⟨(⟨![1, 0], S512x128.size, ![8, 1], inb_S4096x128_S512x128_1_0_s_8_1⟩ : LoadRect S4096x128), spos_8_1⟩, k0_pay3 B⟩,
   ⟨⟨(⟨![0, 0], S512x128.size, ![8, 1], inb_S4096x128_S512x128_0_0_s_8_1⟩ : LoadRect S4096x128), spos_8_1⟩, k0_pay2 B⟩]

theorem mem_piece {s : ℕ} (hs : s < 8) (inb) (z : S4096x128.Idx) (h : (z 0).val % 8 = s) :
    z ∈ (⟨(⟨![s, 0], S512x128.size, ![8, 1], inb⟩ : LoadRect S4096x128), spos_8_1⟩ : Rect S4096x128).set := by
  refine (LoadRect.mem_set _).mpr ?_
  have h0 : (z 0).val < 4096 := (z 0).isLt
  have h1 : (z 1).val < 128 := (z 1).isLt
  intro a; fin_cases a
  · exact ⟨(z 0).val / 8, by change _ < 512; omega, by change (z 0).val = s + 8 * ((z 0).val / 8); omega⟩
  · exact ⟨(z 1).val, by change _ < 128; omega, by change (z 1).val = 0 + 1 * (z 1).val; omega⟩

theorem staged_at {s : ℕ} (hs : s < 8) (inb) (B : S512x1024.Idx → Elt F .f32) (x : S512x128.Idx) (y : S512x1024.Idx) (h0 : (y 0).val = (x 0).val)
    (h1 : (y 1).val = s * 128 + (x 1).val) :
    B y = staged B ((⟨(⟨![s, 0], S512x128.size, ![8, 1], inb⟩ : LoadRect S4096x128), spos_8_1⟩ : Rect S4096x128).emb x) := by
  have e0 : ((⟨(⟨![s, 0], S512x128.size, ![8, 1], inb⟩ : LoadRect S4096x128), spos_8_1⟩ : Rect S4096x128).emb x 0).val = s + 8 * (x 0).val := rfl
  have e1 : ((⟨(⟨![s, 0], S512x128.size, ![8, 1], inb⟩ : LoadRect S4096x128), spos_8_1⟩ : Rect S4096x128).emb x 1).val = 0 + 1 * (x 1).val := rfl
  unfold staged
  refine congrArg B (funext fun a => Fin.ext ?_)
  fin_cases a
  · show (y 0).val = _ / 8
    rw [e0, h0]; omega
  · show (y 1).val = _ % 8 * 128 + _
    rw [e0, e1, h1]; omega

theorem seg_at {s : ℕ} (hs : s < 8) (hsl hc) (B : S512x1024.Idx → Elt F .f32) (inb) (x : S512x128.Idx) :
    shapeCast S512x128 (extractStridedSlice S512x128 ![0, s * 128] B hsl) hc x
      = staged B ((⟨(⟨![s, 0], S512x128.size, ![8, 1], inb⟩ : LoadRect S4096x128), spos_8_1⟩ : Rect S4096x128).emb x) := by
  rw [shapeCast_self]
  refine staged_at hs inb B x _ ?_ ?_
  · exact Nat.zero_add _
  · rfl

theorem staged_eq (fr : S4096x128.Idx → Elt F .f32) (B : S512x1024.Idx → Elt F .f32) :
    rows.view.writes (Elt F) fr (pieces B) = staged B := by
  funext z
  have key := View.read_writes_apply_of_pieces rows.view fr (staged B) (pieces B) (by
    simp only [pieces, List.forall_mem_cons, List.not_mem_nil, false_imp_iff, implies_true, and_true]
    refine ⟨?_, ?_, ?_, ?_, ?_, ?_, ?_, ?_⟩ <;> intro x
    · exact seg_at (s := 7) (by decide) slices_S512x1024_o0_896_S512x128 shapeCasts_S512x128_S512x128 B _ x
    · exact seg_at (s := 6) (by decide) slices_S512x1024_o0_768_S512x128 shapeCasts_S512x128_S512x128 B _ x
    · exact seg_at (s := 5) (by decide) slices_S512x1024_o0_640_S512x128 shapeCasts_S512x128_S512x128 B _ x
    · exact seg_at (s := 4) (by decide) slices_S512x1024_o0_512_S512x128 shapeCasts_S512x128_S512x128 B _ x
    · exact seg_at (s := 3) (by decide) slices_S512x1024_o0_384_S512x128 shapeCasts_S512x128_S512x128 B _ x
    · exact seg_at (s := 2) (by decide) slices_S512x1024_o0_256_S512x128 shapeCasts_S512x128_S512x128 B _ x
    · exact seg_at (s := 1) (by decide) slices_S512x1024_o0_128_S512x128 shapeCasts_S512x128_S512x128 B _ x
    · exact seg_at (s := 0) (by decide) slices_S512x1024_o0_0_S512x128 shapeCasts_S512x128_S512x128 B _ x
    ) z (by
    have h8 : (z 0).val % 8 < 8 := Nat.mod_lt _ (by decide)
    rcases (by omega : (z 0).val % 8 = 0 ∨ (z 0).val % 8 = 1 ∨ (z 0).val % 8 = 2 ∨ (z 0).val % 8 = 3 ∨ (z 0).val % 8 = 4 ∨ (z 0).val % 8 = 5
      ∨ (z 0).val % 8 = 6 ∨ (z 0).val % 8 = 7) with h | h | h | h | h | h | h | h
    · exact List.exists_mem_cons_of_exists (List.exists_mem_cons_of_exists (List.exists_mem_cons_of_exists (List.exists_mem_cons_of_exists (List.exists_mem_cons_of_exists (List.exists_mem_cons_of_exists (List.exists_mem_cons_of_exists (List.exists_mem_cons_of _ (mem_piece (by decide) _ z h))))))))
    · exact List.exists_mem_cons_of_exists (List.exists_mem_cons_of_exists (List.exists_mem_cons_of_exists (List.exists_mem_cons_of_exists (List.exists_mem_cons_of_exists (List.exists_mem_cons_of_exists (List.exists_mem_cons_of _ (mem_piece (by decide) _ z h)))))))
    · exact List.exists_mem_cons_of_exists (List.exists_mem_cons_of_exists (List.exists_mem_cons_of_exists (List.exists_mem_cons_of_exists (List.exists_mem_cons_of_exists (List.exists_mem_cons_of _ (mem_piece (by decide) _ z h))))))
    · exact List.exists_mem_cons_of_exists (List.exists_mem_cons_of_exists (List.exists_mem_cons_of_exists (List.exists_mem_cons_of_exists (List.exists_mem_cons_of _ (mem_piece (by decide) _ z h)))))
    · exact List.exists_mem_cons_of_exists (List.exists_mem_cons_of_exists (List.exists_mem_cons_of_exists (List.exists_mem_cons_of _ (mem_piece (by decide) _ z h))))
    · exact List.exists_mem_cons_of_exists (List.exists_mem_cons_of_exists (List.exists_mem_cons_of _ (mem_piece (by decide) _ z h)))
    · exact List.exists_mem_cons_of_exists (List.exists_mem_cons_of _ (mem_piece (by decide) _ z h))
    · exact List.exists_mem_cons_of _ (mem_piece (by decide) _ z h)
    )
  rw [← key]
  rfl

/-- The row numbers that a point stages: the 2048 words of its slice. -/
theorem off1_eq (i : grid0.Coords) : k0_off1 i = ![2048 * (i 0).val] := by
  have h : (i 0).val < 68 := (i 0).isLt
  unfold k0_off1
  simp only [Scalar.muli, IntOp.muli, BitVec.toNat_mul, BitVec.toNat_ofNat]
  congr 1; omega

section Body

variable (c : Dev nD) (i : grid0.Coords) (arg2 : Memref sig .tc .vmem S512x1024 .f32) (harg2 : arg2.IsWhole)

abbrev dest : Memref sig .tc .hbm S139264 .i32 := Memref.whole main_v23

abbrev destAt (f : S139264.Idx → Elt F .i32) : sProp 𝕄 := dest.view.loc (c : Thread nD τ) ↦{fullShare} f

/-- The `p`-th word of the array of row numbers, as a number. -/
def word (N : S139264.Idx → Elt F .i32) (p : ℕ) : ℕ := if h : p < 139264 then BitVec.toNat (w := 32) (N (ix1 (⟨p, h⟩ : Fin 139264))) else 0

/-- The row that copy `t` of point `i` writes. -/
def rowOf (N : S139264.Idx → Elt F .i32) (i t : ℕ) : ℕ := word N (2048 * i + (t % 4 * 512 + t / 4))

/-- The words a point stages. -/
def stagedNums (N : S139264.Idx → Elt F .i32) (i : grid0.Coords) (x : S2048.Idx) : Elt F .i32 :=
  N (ix1 (⟨2048 * (i 0).val + (x 0).val, by
    have h : (i 0).val < 68 := (i 0).isLt
    have h' : (x 0).val < 2048 := (x 0).isLt
    omega⟩ : Fin 139264))

theorem nums_eq (N : S139264.Idx → Elt F .i32) (fi : S2048.Idx → Elt F .i32) :
    View.write (Elt F) nums.view fi (ReadAs.same.apply
      ((dest.slice (Rect.unit (s := S139264) (k0_off1 i) S2048.size (k0_off1_inb i)) (fun _ => rfl)).view.read (Elt F) N)) Finset.univ = stagedNums N i := by
  funext x
  refine (View.write_emb_of_mem (v := nums.view) _ _ (Finset.mem_univ x)).trans ?_
  refine congrArg N (funext fun a => Fin.ext ?_)
  fin_cases a
  show k0_off1 i 0 + 1 * (x 0).val = 2048 * (i 0).val + (x 0).val
  rw [off1_eq]; simp

theorem stagedNums_row (N : S139264.Idx → Elt F .i32) (t : ℕ) (x : S2048.Idx) (ht : t < 2048) (hx : (x 0).val = t % 4 * 512 + t / 4) :
    BitVec.toNat (w := 32) (stagedNums N i x) = rowOf N (i 0).val t := by
  have h : (i 0).val < 68 := (i 0).isLt
  unfold stagedNums rowOf word
  rw [dif_pos (by omega)]
  simp only [hx]

/-- ONE POINT: the rows that the point's words name are written with its tokens, everything else is as it was. -/
theorem wp_body (N : S139264.Idx → Elt F .i32) (B : S512x1024.Idx → Elt F .f32) (X X' : S1179648x128.Idx → Elt F .f32) (W : Waits sig Unit)
    (hr : ∀ p, word N p < 147456) (hinj : ∀ p q, p < 139264 → q < 139264 → word N p = word N q → p = q)
    (hv : ∀ t y z, t < 2048 → (y 0).val / 8 = rowOf N (i 0).val t → (z 0).val = 8 * (t / 4) + (y 0).val % 8 → (z 1).val = (y 1).val → X' y = staged B z)
    (hX : ∀ y, (∀ t, t < 2048 → (y 0).val / 8 ≠ rowOf N (i 0).val t) → X' y = X y) :
    iprop(destAt c N ∗ owns (c : Thread nD τ) arg2 fullShare B ∗ xAt c Finset.univ fullShare X ∗ (∃ f, numsAt c f) ∗ (∃ f, rowsAt c Finset.univ fullShare f)
        ∗ semVal ((c : Thread nD τ), SemLoc.dma cc0_scratch2.sem) 0 ∗ semVal ((c : Thread nD τ), SemLoc.dma cc0_scratch3.sem) 0
        ∗ owes (c : Thread nD τ) 0 W)
      ⊢ wp frame (wpE (defs₀ (F := F)) Variants.none (c : Thread nD τ) none) Set.univ
        (cc0_moe_dispatch i dest (Memref.isWhole_whole _) arg2 harg2 xbuf (Memref.isWhole_whole _) xbuf (Memref.isWhole_whole _)
          nums (Memref.isWhole_whole _) rows (Memref.isWhole_whole _) cc0_scratch2 cc0_scratch3)
        (fun _ => iprop(destAt c N ∗ owns (c : Thread nD τ) arg2 fullShare B ∗ xAt c Finset.univ fullShare X' ∗ (∃ f, numsAt c f) ∗ (∃ f, rowsAt c Finset.univ fullShare f)
          ∗ semVal ((c : Thread nD τ), SemLoc.dma cc0_scratch2.sem) 0 ∗ semVal ((c : Thread nD τ), SemLoc.dma cc0_scratch3.sem) 0
          ∗ ∃ W, owes (c : Thread nD τ) 0 W)) := by
  have hi : (i 0).val < 68 := (i 0).isLt
  have hloops := wp_bothLoops c i arg2 harg2 (rowOf N (i 0).val) (stagedNums N i) (staged B) X X' (fun t x ht hx => stagedNums_row i N t x ht hx)
    (fun t => hr _) (fun t t' ht ht' h => by
      have := hinj _ _ (by omega) (by omega) h
      omega) hv hX
  rw [cc0_moe_dispatch_eq_skeleton]
  unfold cc0_moe_dispatch_skel
  rw [k0_part3_eq_skeleton]
  unfold k0_part3_skel
  unfold owns
  iintro ⟨HN, ⟨%fb, %eb, HB⟩, HX, ⟨%fi, HI⟩, ⟨%fr, HR⟩, Hc2, Hc3, HO⟩
  sl_exec
  ihave HR' := (Entails.of_eq (show (_ : sProp 𝕄) = rowsAt c Finset.univ fullShare (staged B) from by
    rw [← staged_eq fr B, ← eb, ← View.readAt_full arg2.view fb inb_S512x1024_S512x1024_0_0])) $$ HR
  ihave HI' := (Entails.of_eq (show (_ : sProp 𝕄) = numsAt c (stagedNums N i) from by
    rw [← nums_eq i N fi]; rfl)) $$ HI
  iapply (wp_wand _ _ _) $$ [HX HR' HI' Hc3 HO]
  · iapply (hloops _)
    isplitl [HX]; · iexact HX
    isplitl [HR']; · iexact HR'
    isplitl [HI']; · iexact HI'
    isplitl [Hc3]; · iexact Hc3
    iexact HO
  iintro %a ⟨HX, HR, HI, Hc3, HO⟩
  isplitl [HN]; · iexact HN
  isplitl [HB]
  · iexists fb; isplitr; · ipureintro; exact eb
    iexact HB
  isplitl [HX]; · iexact HX
  isplitl [HI]; · iexists _; iexact HI
  isplitl [HR]; · iexists _; iexact HR
  isplitl [Hc2]; · iexact Hc2
  isplitl [Hc3]; · iexact Hc3
  iexact HO

end Body

end Cert.Dispatch

end
-- ==== Proof.Run.lean ====
module

public import proofs.«01_k».proof.Proof.Body

@[expose] public section

set_option maxRecDepth 16384

noncomputable section

namespace Cert.Dispatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## What the result holds after the first words -/

/-- The token of word `p`: the words lie by blocks of 512 tokens, within a block by choice, then by token. -/
def token (p : ℕ) : Fin 34816 := ⟨(p / 2048 * 512 + p % 512) % 34816, Nat.mod_lt _ (by decide)⟩

theorem token_val (t a b : ℕ) (ht : t < 68) (ha : a < 4) (hb : b < 512) : (token (2048 * t + (a * 512 + b))).val = 512 * t + b := by
  have h1 : (2048 * t + (a * 512 + b)) / 2048 = t := by omega
  have h2 : (2048 * t + (a * 512 + b)) % 512 = b := by omega
  show ((2048 * t + (a * 512 + b)) / 2048 * 512 + (2048 * t + (a * 512 + b)) % 512) % 34816 = _
  rw [h1, h2]; omega

/-- The element of token `n` that stands in place `y` of the piece the token is copied to. -/
def segment (T : S34816x1024.Idx → Elt F .f32) (n : Fin 34816) (y : S1179648x128.Idx) : Elt F .f32 :=
  T (ix2 n (⟨(y 0).val % 8 * 128 + (y 1).val, by have := (y 1).isLt; change _ < 128 at this; omega⟩ : Fin 1024))

open Classical in
/-- The result after the first `n` words: where one of them names the row, its token, elsewhere what was there before. -/
def filled (N : S139264.Idx → Elt F .i32) (T : S34816x1024.Idx → Elt F .f32) (Z : S1179648x128.Idx → Elt F .f32) (n : ℕ) (y : S1179648x128.Idx) :
    Elt F .f32 :=
  if h : ∃ p, p < n ∧ p < 139264 ∧ word N p = (y 0).val / 8 then segment T (token h.choose) y else Z y

/-- No two words name one row. -/
def Distinct (N : S139264.Idx → Elt F .i32) : Prop := ∀ p q, p < 139264 → q < 139264 → word N p = word N q → p = q

theorem filled_hit {N : S139264.Idx → Elt F .i32} (hN : Distinct N) (T : S34816x1024.Idx → Elt F .f32) (Z : S1179648x128.Idx → Elt F .f32) {n p : ℕ}
    (hp : p < n) (hp' : p < 139264) (y : S1179648x128.Idx) (h : word N p = (y 0).val / 8) : filled N T Z n y = segment T (token p) y := by
  have hx : ∃ p, p < n ∧ p < 139264 ∧ word N p = (y 0).val / 8 := ⟨p, hp, hp', h⟩
  unfold filled
  rw [dif_pos hx, hN _ _ hx.choose_spec.2.1 hp' (hx.choose_spec.2.2.trans h.symm)]

theorem filled_miss {N : S139264.Idx → Elt F .i32} (T : S34816x1024.Idx → Elt F .f32) (Z : S1179648x128.Idx → Elt F .f32) {n : ℕ} (y : S1179648x128.Idx)
    (h : ∀ p, p < n → p < 139264 → word N p ≠ (y 0).val / 8) : filled N T Z n y = Z y := by
  unfold filled
  exact dif_neg fun ⟨p, hp, hp', e⟩ => h p hp hp' e

theorem filled_zero (N : S139264.Idx → Elt F .i32) (T : S34816x1024.Idx → Elt F .f32) (Z : S1179648x128.Idx → Elt F .f32) : filled N T Z 0 = Z :=
  funext fun y => filled_miss T Z y fun p hp => absurd hp (Nat.not_lt_zero p)

/-! ## What the launch finds -/

abbrev N₀ (c : Dev nD) : S139264.Idx → Elt F .i32 := V m c main_v23
abbrev T₀ (c : Dev nD) : S34816x1024.Idx → Elt F .f32 := V m c main_arg0
abbrev Z₀ (c : Dev nD) : S1179648x128.Idx → Elt F .f32 := V m c main_v24

/-- The words name rows of the result, no two the same. -/
def Rows : Prop := ∀ c : Dev nD, (∀ p, word (N₀ m c) p < 147456) ∧ Distinct (N₀ m c)

abbrev B₀ (c : Dev nD) (t : Fin cfg0.N) : S512x1024.Idx → Elt F .f32 := iblk m c 0 t

theorem coords_eq : ∀ t : Fin cfg0.N, (grid0.coords t 0).val = t.val := by decide

theorem transform_eq (i : grid0.Coords) : cc0_transform_1 i = ![(i 0).val, 0] := by
  have h : (i 0).val < 68 := (i 0).isLt
  unfold cc0_transform_1
  simp only [BitVec.toNat_ofNat]
  congr 1; omega

theorem B₀_eq (c : Dev nD) (t : Fin cfg0.N) (x : S512x1024.Idx) (y : S34816x1024.Idx) (h0 : (y 0).val = 512 * t.val + (x 0).val) (h1 : (y 1).val = (x 1).val) :
    B₀ m c t x = T₀ m c y := by
  show V m c main_arg0 _ = V m c main_arg0 _
  refine congrArg (V m c main_arg0) (funext fun a => Fin.ext ?_)
  fin_cases a
  · show cc0_transform_1 (grid0.coords t) 0 * 512 + 1 * (x 0).val = (y 0).val
    rw [transform_eq, h0, ← coords_eq t]; simp [Nat.mul_comm]
  · show cc0_transform_1 (grid0.coords t) 1 * 1024 + 1 * (x 1).val = (y 1).val
    rw [transform_eq, h1]; simp

/-- The result when the first `n` points are done. -/
abbrev X₀ (c : Dev nD) (n : ℕ) : S1179648x128.Idx → Elt F .f32 := filled (N₀ m c) (T₀ m c) (Z₀ m c) (2048 * n)

/-- What a point's copies write is the next contents of the result. -/
theorem step_written (hR : Rows m) (c : Dev nD) (t : Fin cfg0.N) (k : ℕ) (y : S1179648x128.Idx) (z : S4096x128.Idx) (hk : k < 2048)
    (hy : (y 0).val / 8 = rowOf (N₀ m c) (grid0.coords t 0).val k) (hz : (z 0).val = 8 * (k / 4) + (y 0).val % 8) (hz' : (z 1).val = (y 1).val) :
    X₀ m c (t.val + 1) y = staged (B₀ m c t) z := by
  have ht : t.val < 68 := Nat.lt_of_lt_of_eq t.isLt N_0
  rw [coords_eq] at hy
  unfold X₀
  rw [filled_hit (hR c).2 (p := 2048 * t.val + (k % 4 * 512 + k / 4)) _ _ (by omega) (by omega) y hy.symm]
  unfold segment staged
  refine (B₀_eq m c t _ _ ?_ ?_).symm
  · show (token _).val = 512 * t.val + (z 0).val / 8
    rw [token_val t.val (k % 4) (k / 4) (by omega) (by omega) (by omega)]
    omega
  · show (y 0).val % 8 * 128 + (y 1).val = (z 0).val % 8 * 128 + (z 1).val
    omega

/-- What they do not write stays. -/
theorem step_kept (hR : Rows m) (c : Dev nD) (t : Fin cfg0.N) (y : S1179648x128.Idx)
    (hy : ∀ k, k < 2048 → (y 0).val / 8 ≠ rowOf (N₀ m c) (grid0.coords t 0).val k) : X₀ m c (t.val + 1) y = X₀ m c t.val y := by
  rw [coords_eq] at hy
  unfold X₀
  by_cases h : ∃ p, p < 2048 * t.val ∧ p < 139264 ∧ word (N₀ m c) p = (y 0).val / 8
  · obtain ⟨p, hp, hp', e⟩ := h
    rw [filled_hit (hR c).2 _ _ (by omega) hp' y e, filled_hit (hR c).2 _ _ hp hp' y e]
  · rw [filled_miss _ _ y fun p hp hp' e => h ⟨p, hp, hp', e⟩, filled_miss]
    intro p hp hp' e
    by_cases hlt : p < 2048 * t.val
    · exact h ⟨p, hlt, hp', e⟩
    · have := hy ((p - 2048 * t.val) % 512 * 4 + (p - 2048 * t.val) / 512) (by omega)
      refine this ?_
      unfold rowOf
      rw [← e]
      congr 1
      omega

/-! ## The proof data and the body's obligation -/

/-- Between points: the words, the result as far as it is filled, the scratch, the semaphores at zero. -/
def Inv (c : Dev nD) (n : ℕ) : sProp 𝕄 :=
  iprop(destAt c (N₀ m c) ∗ xAt c Finset.univ fullShare (X₀ m c n) ∗ (∃ f, numsAt c f) ∗ (∃ f, rowsAt c Finset.univ fullShare f)
    ∗ semVal ((c : Thread nD τ), SemLoc.dma cc0_scratch2.sem) 0 ∗ semVal ((c : Thread nD τ), SemLoc.dma cc0_scratch3.sem) 0 ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
  Φ t := Inv m c t.val
  q _ := fullShare
  owed _ := 0

theorem A_eq (c : Dev nD) (w : Fin cfg0.W) : (dats m 0 c).A w = V m c (Pipeline.arrRef spec0 w) := by dsimp only [dats]
theorem after_eq (c : Dev nD) (t : Fin cfg0.N) : (dats m 0 c).after 0 t = iblk m c 0 t := by dsimp only [dats]

theorem before_eq (c : Dev nD) (t : Fin cfg0.N) (d) : (dats m 0 c).before 0 t d = iblk m c 0 t :=
  ((dats m 0 c).before_in_eq_fetched 0 rfl (fun _ => rfl) (fun _ _ _ => rfl)
    (fun t => by rw [after_eq]; unfold Dat.blockOf iblk; rw [A_eq]; try rfl) t d).trans (by unfold Dat.fetched Dat.blockOf iblk; rw [A_eq]; try rfl)

abbrev stg (t : Fin cfg0.N) : Memref sig .tc .vmem S512x1024 .f32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (stg t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (stg t) fullShare ((dats m 0 c).after 0 t))

theorem sound_body (hR : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl, after_eq]
  unfold Dat.owesAt Pipeline.owesWithin
  rw [show (dats m 0 c).owed t.castSucc = 0 from rfl, show (dats m 0 c).owed t.succ = 0 from rfl]
  unfold Inv
  simp only [before_eq]
  iintro ⟨⟨HN, HX, HI, HS, Hc2, Hc3, Hp⟩, ⟨%W, -, HW⟩, ⟨%d0, H0⟩⟩
  have body := fun hs => wp_body c (grid0.coords t) (stg t) hs (N₀ m c) (B₀ m c t) (X₀ m c t.val) (X₀ m c (t.val + 1)) W (hR c).1 (hR c).2
    (fun k y z hk hy hz hz' => step_written m hR c t k y z hk hy hz hz') (fun y hy => step_kept m hR c t y hy)
  iapply (wp_wand _ _ _) $$ [HN HX HI HS Hc2 Hc3 HW H0]
  · iapply (body _)
    isplitl [HN]; · iexact HN
    isplitl [H0]; · iexact H0
    isplitl [HX]; · iexact HX
    isplitl [HI]; · iexact HI
    isplitl [HS]; · iexact HS
    isplitl [Hc2]; · iexact Hc2
    isplitl [Hc3]; · iexact Hc3
    iexact HW
  iintro %a ⟨HN, H0, HX, HI, HS, Hc2, Hc3, ⟨%W', HW⟩⟩
  isplitl [HN HX HI HS Hc2 Hc3 Hp]
  · isplitl [HN]; · iexact HN
    isplitl [HX]; · iexact HX
    isplitl [HI]; · iexact HI
    isplitl [HS]; · iexact HS
    isplitl [Hc2]; · iexact Hc2
    isplitl [Hc3]; · iexact Hc3
    iexact Hp
  isplitl [HW]
  · iexists W'; isplitr; · ipureintro; exact fun _ _ => Or.inl trivial
    iexact HW
  iexact H0

theorem defs₀_row (t : Fin cfg0.N) : defs₀ (F := F) .tc cfg0.body (cfg0.bodyArgs t (cfg0.slots t)) = bodyAt0 t := by
  unfold defs₀; rw [Defs.onTc_tc]

theorem body_obligation (hR : Rows m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

/-! ## The launch -/

set_option maxHeartbeats 800000 in
theorem hmain' : Pipeline.HMain (Ix := Unit) (Name := ℕ) (U := Pipeline.UC sig nD τ) (Lvl := ℕ) cfgs 0 defs₀ Variants.none m (main (F := F)) (V m) :=
  Pipeline.hmain_prefixes cfgs 0 defs₀ Variants.none m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The semaphores of the body's own copies: of the row numbers, of the tokens' rows. -/
abbrev osem0 : Fin 2 → SemLoc sig := fun j => (![SemLoc.dma cc0_scratch2.sem, SemLoc.dma cc0_scratch3.sem] : Fin 2 → SemLoc sig) j
theorem ownSemFacts0 : Pipeline.OwnSemFacts spec0 osem0 := by decide
theorem ownSems0_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma cc0_scratch2.sem) 0 ∗ semVal ((c : Thread nD τ), SemLoc.dma cc0_scratch3.sem) 0) := by
  rw [Pipeline.ownSems0_eq_of_list c osem0 [0, 1] (by decide) (by decide)]; rfl

/-- The buffers beside the staged tokens that the body's copies read and write: the words and the result. -/
def R0 : Finset (Ref sig .tc) := {main_v23, main_v24}
theorem R0_sub : R0 ⊆ Pipeline.restRefs sig spec0 := by decide

/-- What the launch leaves: the result filled by every word, everything else as it was found. -/
def Yend (c : Dev nD) (b : Ref sig .tc) : Buf (Elt F) ((c : Thread nD τ).loc b) :=
  Function.update (V m c) main_v24 (X₀ m c 68) b
theorem Yend_v23 (c : Dev nD) : Yend m c main_v23 = N₀ m c := Function.update_of_ne (by decide) _ _
theorem Yend_v24 (c : Dev nD) : Yend m c main_v24 = X₀ m c 68 := Function.update_self _ _ _

theorem routed_eq (c : Dev nD) (W : (b : Ref sig .tc) → Buf (Elt F) ((c : Thread nD τ).loc b)) :
    (Pipeline.routed R0 c W : sProp 𝕄) = iprop(destAt c (W main_v23) ∗ xAt c Finset.univ fullShare (W main_v24)) := by
  unfold Pipeline.routed; rw [BI.bigSep_eq_bigSepL_of_eq [main_v23, main_v24] (by decide) (by decide)]; rfl

theorem ends_eq (c : Dev nD) (W : (b : Ref sig .tc) → Buf (Elt F) ((c : Thread nD τ).loc b)) :
    (Pipeline.Ends spec0 osem0 R0 c W : sProp 𝕄) = iprop((destAt c (W main_v23) ∗ xAt c Finset.univ fullShare (W main_v24))
      ∗ (semVal ((c : Thread nD τ), SemLoc.dma cc0_scratch2.sem) 0 ∗ semVal ((c : Thread nD τ), SemLoc.dma cc0_scratch3.sem) 0)
      ∗ ((∃ f, rowsAt c Finset.univ fullShare f) ∗ (∃ f, numsAt c f)) ∗ ∃ r, prngReg c r) := by
  unfold Pipeline.Ends
  rw [routed_eq, ownSems0_eq, scopedRest0_eq]; rfl

theorem ends_in (c : Dev nD) : (Pipeline.Ends spec0 osem0 R0 c (V m c) : sProp 𝕄) ⊢ Inv m c 0 := by
  rw [ends_eq]
  unfold Inv X₀
  rw [Nat.mul_zero, filled_zero]
  iintro ⟨⟨HN, HX⟩, ⟨Hc2, Hc3⟩, ⟨HS, HI⟩, Hp⟩
  isplitl [HN]; · iexact HN
  isplitl [HX]; · iexact HX
  isplitl [HI]; · iexact HI
  isplitl [HS]; · iexact HS
  isplitl [Hc2]; · iexact Hc2
  isplitl [Hc3]; · iexact Hc3
  iexact Hp

theorem ends_out (c : Dev nD) : Inv m c 68 ⊢ (Pipeline.Ends spec0 osem0 R0 c (Yend m c) : sProp 𝕄) := by
  rw [ends_eq, Yend_v23, Yend_v24]
  unfold Inv
  iintro ⟨HN, HX, HI, HS, Hc2, Hc3, Hp⟩
  isplitl [HN HX]
  · isplitl [HN]; · iexact HN
    iexact HX
  isplitl [Hc2 Hc3]
  · isplitl [Hc2]; · iexact Hc2
    iexact Hc3
  isplitl [HS HI]
  · isplitl [HS]; · iexact HS
    iexact HI
  iexact Hp

/-- THE RUN: from any memory whose words name distinct rows the program ends, nothing faulting, with the arguments unchanged, the
    result filled, and every semaphore at zero. -/
theorem run_main (hR : Rows m) : θ_run defs (onTc (τ := τ) (main (F := F))) ⟨m, fun _ => 0, ρ⟩ (fun r => (∀ c : Dev nD,
      r.2.mem ((c.tc : Thread nD τ).loc main_v24) = X₀ m c 68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_routed cfgs (dats m) (0 : Fin 1) launch0 (osem := osem0) ownSemFacts0 defs₀ Variants.none m ρ main
    (hbody := fun c => (body_obligation m hR c).loose) (hshare := fun c => (dats m 0 c).share_full fun _ => rfl)
    (howed := fun _ _ => rfl) (V := V m) (hmain := hmain' m) (hA := A_eq m) (R := R0) (hR := R0_sub) (Y := Yend m)
    (hin := fun c => ends_in m c) (hout := fun c => ends_out m c)
    (Q' := _) (hQ' := fun r h => ⟨fun c => ⟨((h.1 c).2.1 main_v24 (by decide)).trans (Yend_v24 m c),
      ((h.1 c).1 0).trans (((dats m 0 c).arrAt_in 0 rfl _).trans ((A_eq m c 0).trans (V_main_arg0 m c))),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).2.2 main_arg3 (Finset.mem_sdiff.mpr ⟨Pipeline.mem_restRefs_of main_arg3 (by decide) (by decide), by decide⟩)).trans (V_main_arg3 m c)⟩, h.2⟩)

end Cert.Dispatch

end
-- ==== Proof.Rows.lean ====
module

public import proofs.«01_k».proof.Proof.Gen.Pre_rows_are_distinct
public import Idealize.ShloMosaic.Lib.Pointwise
public import Idealize.ShloMosaic.Lib.Routing.OpsSet
public import Idealize.ShloMosaic.Lib.Routing.OpsPair
public import Idealize.ShloMosaic.Lib.ReduceAll
public import Idealize.ShloMosaic.PureOps.Reduce
public import Idealize.ShloMosaic.Lib.Tactic.WordOmega

@[expose] public section

set_option maxRecDepth 16384

noncomputable section

namespace Cert.Dispatch

open Idealize.ShloMosaic Idealize.SL.Sem
open Cert.Pre_rows_are_distinct Cert.Pre_rows_are_distinct.Facts

/-! ## The row of an assignment, as a number -/

/-- What is added up before an expert's group: the rows of the groups before it, each filled up to whole blocks. -/
def offsets (cnt : IVec S32x128 32) : IVec S32 32 :=
  let counts : IVec S32 32 := shapeCast S32 (extractStridedSlice S32x1 ![0, 0] cnt slices_S32x128_S32x1_0_0) shapeCasts_S32x1_S32
  let up : IVec S32 32 := subi (addi counts (broadcastInDim S32 ![] bcast_S_S32 (constantI S_ 32 256#32))) (broadcastInDim S32 ![] bcast_S_S32 (constantI S_ 32 1#32))
  let padded : IVec S32 32 := muli (fn_floor_divide (F := Bits) up (constantI S_ 32 256#32)) (broadcastInDim S32 ![] bcast_S_S32 (constantI S_ 32 256#32))
  subi (fn_cumsum (F := Bits) padded) padded

/-- The row of token `n`'s choice `k`: where its expert's group begins, and the token's place in it. -/
def row (e r : IVec S4x34816 32) (cnt : IVec S32x128 32) (k : Fin 4) (n : Fin 34816) : BitVec 32 :=
  IntOp.addi (offsets cnt (ix1 (⟨(e (ix2 k n)).toNat % 32, Nat.mod_lt _ (by decide)⟩ : Fin 32))) (r (ix2 k n))

/-- The rows of the assignments: the experts are the layer's, the rows the buffer's, no two the same. -/
structure RowsOk (e r : IVec S4x34816 32) (cnt : IVec S32x128 32) : Prop where
  expert : ∀ k n, (e (ix2 k n)).toNat < 32
  lt : ∀ k n, (row e r cnt k n).toNat < 147456
  inj : ∀ k n k' n', row e r cnt k n = row e r cnt k' n' → k = k' ∧ n = n'

/-! ## Words -/

theorem in_range {a b : BitVec 32} (hb : b.toNat < 2 ^ 31) (h : IntOp.andi (IntOp.cmpi .sge a 0#32) (IntOp.cmpi .slt a b) = 1#1) :
    a.toNat < b.toNat := by
  word_omega

theorem wrap_eq {a b : BitVec 32} (h : a.toNat < 2 ^ 31) : Scalar.select (IntOp.cmpi .slt a 0#32) (IntOp.addi a b) a = a := Routing.wrap_of_lt a _ h

theorem andi_one {a b : BitVec 1} (h : IntOp.andi a b = 1#1) : a = 1#1 ∧ b = 1#1 := by
  revert a b; decide

/-- Experts' numbers, wrapped where negative: in range they stay. -/
theorem take_expert (x : IVec S32 32) (e : IVec S4x34816 32) (k : Fin 4) (n : Fin 34816) (h : (e (ix2 k n)).toNat < 32) :
    Host.gather gather_S32_S4x34816x1_S4x34816_n_0_n_n_0_2_1 x (broadcastInDim S4x34816x1 ![0, 1] bcast_S4x34816_S4x34816x1_0_1
      (select (cmpi .slt e (broadcastInDim S4x34816 ![] bcast_S_S4x34816 (constantI S_ 32 0#32)))
        (addi e (broadcastInDim S4x34816 ![] bcast_S_S4x34816 (constantI S_ 32 32#32))) e)) (ix2 k n)
      = x (ix1 (⟨(e (ix2 k n)).toNat % 32, Nat.mod_lt _ (by decide)⟩ : Fin 32)) := by
  refine (ValueIdx.gather_take_apply (by decide) gather_S32_S4x34816x1_S4x34816_n_0_n_n_0_2_1_wf x _ (ix2 k n)).trans ?_
  have hw : (broadcastInDim S4x34816x1 ![0, 1] bcast_S4x34816_S4x34816x1_0_1
      (select (cmpi .slt e (broadcastInDim S4x34816 ![] bcast_S_S4x34816 (constantI S_ 32 0#32)))
        (addi e (broadcastInDim S4x34816 ![] bcast_S_S4x34816 (constantI S_ 32 32#32))) e)) (ValueIdx.takeIdx (ix2 k n)) = e (ix2 k n) := by
    refine (broadcastInDim_apply _ _ _ _ (ix2 k n) fun a => ?_).trans (wrap_eq (by omega))
    fin_cases a <;> rfl
  refine congrArg x (congrArg ix1 (Fin.ext ?_))
  show min (BitVec.toInt _).toNat 31 = _
  rw [hw, StableHlo.Predicate.toInt_eq_toNat_of_lt (by omega)]
  show min ((e (ix2 k n)).toNat : ℤ).toNat 31 = (e (ix2 k n)).toNat % 32
  omega

/-! ## What the condition on the router's results says -/

theorem part2_spec {F : FTy → Type} [FloatOps F] (e : IVec S4x34816 32) (D num : IVec S139264 32) (back : IVec S139264x1 32)
    (h : fn_part2 (F := F) e D num back ix0 = 1#1) :
    (∀ k n, (e (ix2 k n)).toNat < 32) ∧ (∀ q, (D (ix1 q)).toNat < 147456) ∧ ∀ q : Fin 139264, back (ix2 q (0 : Fin 1)) = num (ix1 q) := by
  unfold fn_part2 at h
  dsimp only at h
  have hs : Subsingleton S_.Idx := ⟨fun a b => funext fun x => x.elim0⟩
  obtain ⟨h12, h3⟩ := andi_one h
  obtain ⟨h1, h2⟩ := andi_one h12
  refine ⟨fun k n => ?_, fun q => ?_, fun q => ?_⟩
  · have := Host.reduce_andi_all _ _ _ _ _ h1 (ix2 k n)
    exact in_range (b := 32#32) (by decide) this
  · have := Host.reduce_andi_all _ _ _ _ _ h2 (ix1 q)
    exact in_range (b := 147456#32) (by decide) this
  · have := Host.reduce_andi_all _ _ _ _ _ h3 (ix1 q)
    rw [← StableHlo.Predicate.cmpi_eq_iff.1 this]
    exact (Routing.cast21 back _ q (0 : Fin 1) q (by simp)).symm

/-- The rows as one line, choice by choice. -/
def flat (k : Fin 4) (n : Fin 34816) : Fin 139264 := ⟨k.val * 34816 + n.val, by omega⟩

theorem flat_inj {k k' : Fin 4} {n n' : Fin 34816} (h : flat k n = flat k' n') : k = k' ∧ n = n' := by
  have := congrArg Fin.val h
  simp only [flat] at this
  exact ⟨Fin.ext (by omega), Fin.ext (by omega)⟩

theorem wrapped (D : IVec S139264 32) (h : ∀ q, (D (ix1 q)).toNat < 147456) (q : Fin 139264) :
    broadcastInDim S139264x1 ![0] bcast_S139264_S139264x1_0 (select (cmpi .slt D (broadcastInDim S139264 ![] bcast_S_S139264 (constantI S_ 32 0#32)))
      (addi D (broadcastInDim S139264 ![] bcast_S_S139264 (constantI S_ 32 147456#32))) D) (ix2 q (0 : Fin 1)) = D (ix1 q) := by
  have := h q
  refine (Routing.bcCol _ _ q).trans (wrap_eq (a := D (ix1 q)) ?_)
  omega

theorem part1_spec {F : FTy → Type} [FloatOps F] (e r first : IVec S4x34816 32) (h : fn_part1 (F := F) e r first ix0 = 1#1) :
    (∀ k n, (e (ix2 k n)).toNat < 32) ∧ (∀ k n, (IntOp.addi (first (ix2 k n)) (r (ix2 k n))).toNat < 147456)
      ∧ ∀ k n k' n', IntOp.addi (first (ix2 k n)) (r (ix2 k n)) = IntOp.addi (first (ix2 k' n')) (r (ix2 k' n')) → k = k' ∧ n = n' := by
  unfold fn_part1 at h
  dsimp only at h
  obtain ⟨h1, h2, h3⟩ := part2_spec _ _ _ _ h
  have hD : ∀ k n, shapeCast S139264 (addi first r) shapeCasts_S4x34816_S139264 (ix1 (flat k n)) = IntOp.addi (first (ix2 k n)) (r (ix2 k n)) :=
    fun k n => Routing.cast21 (addi first r) _ k n (flat k n) rfl
  refine ⟨h1, fun k n => hD k n ▸ h2 (flat k n), fun k n k' n' hh => flat_inj ?_⟩
  rw [← hD k n, ← hD k' n'] at hh
  generalize shapeCast S139264 (addi first r) shapeCasts_S4x34816_S139264 = D at h2 h3 hh
  generalize flat k n = q at hh
  generalize flat k' n' = q' at hh
  have key : ∀ q : Fin 139264, ∀ b : Fin 147456, (D (ix1 q)).toNat = b.val → BitVec.ofNat 32 q.val = _ := fun q b hb =>
    (h3 q).symm.trans (Routing.gather_row gather_S147456x1_S139264x1_S139264x1_1_0_n_n_0_1_11 rfl rfl rfl rfl rfl _ _ q (0 : Fin 1) b
      ((wrapped D h2 q).trans (by rw [← hb, BitVec.ofNat_toNat, BitVec.setWidth_eq])) (by decide))
  have e1 := key q ⟨_, h2 q⟩ rfl
  have e2 := key q' ⟨_, h2 q⟩ (by rw [← hh])
  have e3 := congrArg BitVec.toNat (e1.trans e2.symm)
  rw [BitVec.toNat_ofNat, BitVec.toNat_ofNat] at e3
  exact Fin.ext (by have := q.isLt; have := q'.isLt; omega)

theorem rows_of_pre {F : FTy → Type} [FloatOps F] (t : FVec F S34816x1024 .f32) (e r : IVec S4x34816 32) (cnt : IVec S32x128 32)
    (h : fn (F := F) t e r cnt = fun _ => 1#1) : RowsOk e r cnt := by
  obtain ⟨h1, h2, h3⟩ := part1_spec (F := F) e r _ (congrFun h ix0)
  have hr : ∀ k n, IntOp.addi (Host.gather gather_S32_S4x34816x1_S4x34816_n_0_n_n_0_2_1 (offsets cnt) (broadcastInDim S4x34816x1 ![0, 1] bcast_S4x34816_S4x34816x1_0_1
      (select (cmpi .slt e (broadcastInDim S4x34816 ![] bcast_S_S4x34816 (constantI S_ 32 0#32)))
        (addi e (broadcastInDim S4x34816 ![] bcast_S_S4x34816 (constantI S_ 32 32#32))) e)) (ix2 k n)) (r (ix2 k n)) = row e r cnt k n := fun k n => by
    rw [take_expert _ _ _ _ (h1 k n)]; rfl
  exact ⟨h1, fun k n => hr k n ▸ h2 k n, fun k n k' n' hh => h3 k n k' n' ((hr k n).trans (hh.trans (hr k' n').symm))⟩

end Cert.Dispatch

end
-- ==== Proof.Tiles.lean ====
module

public import proofs.«01_k».proof.Proof.Run
public import proofs.«01_k».proof.Proof.Rows
public import Idealize.ShloMosaic.Lib.Claim

@[expose] public section

set_option maxRecDepth 16384

noncomputable section

namespace Cert.Dispatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

/-! ## What the host code hands to the call -/

/-- Each assignment's row: where its expert's group begins, picked out by a sum over the experts, plus its place in the group. -/
def picked (first : IVec S32 32) (e r : IVec S4x34816 32) : IVec S4x34816 32 :=
  addi (Host.reduce IntOp.addi (select
      (cmpi .eq (broadcastInDim S32x4x34816 ![0, 1, 2] bcast_S1x4x34816_S32x4x34816_0_1_2 (broadcastInDim S1x4x34816 ![1, 2] bcast_S4x34816_S1x4x34816_1_2 e))
        (broadcastInDim S32x4x34816 ![0, 1, 2] bcast_S32x1x1_S32x4x34816_0_1_2 (broadcastInDim S32x1x1 ![0] bcast_S32_S32x1x1_0 (iotaInDim S32 32 0))))
      (broadcastInDim S32x4x34816 ![0, 1, 2] bcast_S32x1x1_S32x4x34816_0_1_2 (broadcastInDim S32x1x1 ![0] bcast_S32_S32x1x1_0 first))
      (broadcastInDim S32x4x34816 ![] bcast_S_S32x4x34816 (id (constantI S_ 32 0#32))))
    (constantI S_ 32 0#32) reducesTo_S32x4x34816_S4x34816_d0 h_S_) r

/-- The rows by blocks of 512 tokens. -/
def tiles (x : IVec S4x34816 32) : IVec S139264 32 :=
  shapeCast S139264 (transpose S68x4x512 [1, 0, 2] (shapeCast S4x68x512 x shapeCasts_S4x34816_S4x68x512) transposes_S4x68x512_S68x4x512_1_0_2)
    shapeCasts_S68x4x512_S139264

variable (m : (ℓ : Loc nD τ sig) → Buf (Elt F) ℓ)

abbrev argE (c : Dev nD) : IVec S4x34816 32 := m ((c.tc : Thread nD τ).loc main_arg1)
abbrev argR (c : Dev nD) : IVec S4x34816 32 := m ((c.tc : Thread nD τ).loc main_arg2)
abbrev argC (c : Dev nD) : IVec S32x128 32 := m ((c.tc : Thread nD τ).loc main_arg3)

set_option maxHeartbeats 4000000 in
theorem N₀_eq (c : Dev nD) : N₀ m c = tiles (picked (offsets (argC m c)) (argE m c) (argR m c)) := by
  unfold N₀
  show StableHlo.after _ _ _ = _
  simp only [hostOps0, hostOps0_1, hostOps0_2, hostOps0_3, hostOps0_4, hostOps0_5, hostOps0_6, List.flatten_cons, List.flatten_nil, List.cons_append,
    List.nil_append, List.append_nil, StableHlo.TRef.binary, StableHlo.TRef.nullary, StableHlo.TRef.ternary, StableHlo.TRef.unary,
    StableHlo.TRef.toBuf, StableHlo.TRef.ofBuf, cast_eq]
  after_results_simp
  rfl

theorem Z₀_eq (c : Dev nD) (y : S1179648x128.Idx) : Z₀ m c y = (constant S_ .f32 0x00000000#32 : FVec F S_ .f32) ix0 := by
  unfold Z₀
  show StableHlo.after _ _ _ _ = _
  simp only [hostOps0, hostOps0_1, hostOps0_2, hostOps0_3, hostOps0_4, hostOps0_5, hostOps0_6, List.flatten_cons, List.flatten_nil, List.cons_append,
    List.nil_append, List.append_nil, StableHlo.TRef.binary, StableHlo.TRef.nullary, StableHlo.TRef.ternary, StableHlo.TRef.unary,
    StableHlo.TRef.toBuf, StableHlo.TRef.ofBuf, cast_eq]
  after_results_simp
  rfl

/-! ## The rows, word by word -/

theorem fold_pick (S : Finset (Fin 32)) (f : Fin 32 → BitVec 32) (j : Fin 32) :
    S.fold IntOp.addi 0#32 (fun k => if k = j then f k else 0#32) = if j ∈ S then f j else 0#32 := by
  induction S using Finset.cons_induction with
  | empty => rfl
  | cons a S ha ih =>
    rw [Finset.fold_cons, ih]
    by_cases h : a = j
    · subst h
      rw [if_pos rfl, if_neg ha, if_pos (Finset.mem_cons_self _ _)]
      exact BitVec.add_zero _
    · rw [if_neg h]
      by_cases h' : j ∈ S
      · rw [if_pos h', if_pos (Finset.mem_cons_of_mem h')]; exact BitVec.zero_add _
      · rw [if_neg h', if_neg (by rw [Finset.mem_cons]; rintro (h1 | h1); exact h h1.symm; exact h' h1)]; exact BitVec.zero_add _

theorem picked_eq (first : IVec S32 32) (e r : IVec S4x34816 32) (k : Fin 4) (n : Fin 34816) (h : (e (ix2 k n)).toNat < 32) :
    picked first e r (ix2 k n) = IntOp.addi (first (ix1 (⟨(e (ix2 k n)).toNat % 32, Nat.mod_lt _ (by decide)⟩ : Fin 32))) (r (ix2 k n)) := by
  unfold picked
  refine congrArg (fun v => IntOp.addi v (r (ix2 k n))) ?_
  have hr : S32x4x34816.Reduces [0] S4x34816 := by decide
  rw [Host.reduce_eq_fold_single IntOp.addi _ _ reducesTo_S32x4x34816_S4x34816_d0 hr h_S_]
  set j : Fin 32 := ⟨(e (ix2 k n)).toNat % 32, Nat.mod_lt _ (by decide)⟩ with hj
  refine (Finset.fold_congr (g := fun i : Fin 32 => if i = j then first (ix1 i) else 0#32) fun i _ => ?_).trans
    ((fold_pick Finset.univ (fun i => first (ix1 i)) j).trans (if_pos (Finset.mem_univ j)))
  have hl : hr.lift (ix2 k n) i = ix3 i k n := by
    funext a; fin_cases a <;> rfl
  show (select _ _ _ : IVec S32x4x34816 32) (hr.lift (ix2 k n) i) = _
  rw [hl]
  pointwise
  by_cases hij : i = j
  · have he : e (ix2 k n) = BitVec.ofNat 32 i.val := by
      rw [hij, hj]
      show _ = BitVec.ofNat 32 ((e (ix2 k n)).toNat % 32)
      rw [Nat.mod_eq_of_lt h, BitVec.ofNat_toNat, BitVec.setWidth_eq]
    rw [if_pos hij, StableHlo.Predicate.cmpi_eq_iff.2 he]
    rfl
  · have he : ¬ IntOp.cmpi CmpIPredicate.eq (e (ix2 k n)) (BitVec.ofNat 32 i.val) = 1#1 := fun h1 => hij (Fin.ext (by
      have := StableHlo.Predicate.cmpi_eq_iff.1 h1
      rw [hj]
      show i.val = (e (ix2 k n)).toNat % 32
      rw [this, BitVec.toNat_ofNat]
      have := i.isLt
      omega))
    rw [if_neg hij, ValueIdx.eq_zero_of_ne_one he]
    rfl

theorem tiles_eq (x : IVec S4x34816 32) (p : ℕ) (hp : p < 139264) :
    tiles x (ix1 (⟨p, hp⟩ : Fin 139264)) = x (ix2 (⟨p % 2048 / 512, by omega⟩ : Fin 4) (token p)) := by
  unfold tiles
  pointwise
  refine congrArg x ((ix2_inj _ _ _ _).2 ⟨Fin.ext ?_, Fin.ext ?_⟩)
  · show p / 512 % 4 = p % 2048 / 512
    omega
  · show p / 2048 * 512 + p % 512 = (p / 2048 * 512 + p % 512) % 34816
    omega

/-- A word of the call's array is the row of its token's choice. -/
theorem word_eq {c : Dev nD} (ok : RowsOk (argE m c) (argR m c) (argC m c)) {p : ℕ} (hp : p < 139264) :
    word (N₀ m c) p = (row (argE m c) (argR m c) (argC m c) (⟨p % 2048 / 512, by omega⟩ : Fin 4) (token p)).toNat := by
  unfold word
  rw [dif_pos hp, N₀_eq, tiles_eq, picked_eq _ _ _ _ _ (ok.expert _ _)]
  rfl

/-- The word of a token's choice. -/
def place (k : Fin 4) (n : Fin 34816) : ℕ := n.val / 512 * 2048 + k.val * 512 + n.val % 512
theorem place_lt (k : Fin 4) (n : Fin 34816) : place k n < 139264 := by unfold place; omega
theorem place_choice (k : Fin 4) (n : Fin 34816) : place k n % 2048 / 512 = k.val := by unfold place; omega
theorem place_token (k : Fin 4) (n : Fin 34816) : token (place k n) = n := by
  refine Fin.ext ?_
  have h1 : place k n / 2048 = n.val / 512 := by unfold place; omega
  have h2 : place k n % 512 = n.val % 512 := by unfold place; omega
  show (place k n / 2048 * 512 + place k n % 512) % 34816 = n.val
  rw [h1, h2]; omega

theorem word_place {c : Dev nD} (ok : RowsOk (argE m c) (argR m c) (argC m c)) (k : Fin 4) (n : Fin 34816) :
    word (N₀ m c) (place k n) = (row (argE m c) (argR m c) (argC m c) k n).toNat := by
  rw [word_eq m ok (place_lt k n), place_token]
  exact congrArg (fun k => (row (argE m c) (argR m c) (argC m c) k n).toNat) (Fin.ext (place_choice k n))

/-- The call's words name distinct rows of the buffer. -/
theorem rows_ok (ok : ∀ c, RowsOk (argE m c) (argR m c) (argC m c)) : Rows m := fun c => by
  refine ⟨fun p => ?_, fun p q hp hq h => ?_⟩
  · by_cases hp : p < 139264
    · rw [word_eq m (ok c) hp]; exact (ok c).lt _ _
    · unfold word; rw [dif_neg hp]; decide
  · rw [word_eq m (ok c) hp, word_eq m (ok c) hq] at h
    obtain ⟨h1, h2⟩ := (ok c).inj _ _ _ _ (BitVec.eq_of_toNat_eq h)
    have h1 : p % 2048 / 512 = q % 2048 / 512 := congrArg Fin.val h1
    have h2 : (p / 2048 * 512 + p % 512) % 34816 = (q / 2048 * 512 + q % 512) % 34816 := congrArg Fin.val h2
    omega

/-! ## The buffer when the call is done -/

abbrev argT (c : Dev nD) : FVec F S34816x1024 .f32 := m ((c.tc : Thread nD τ).loc main_arg0)

theorem result_hit {c : Dev nD} (ok : RowsOk (argE m c) (argR m c) (argC m c)) (hR : Distinct (N₀ m c)) (k : Fin 4) (n : Fin 34816) (y : S1179648x128.Idx)
    (h : (row (argE m c) (argR m c) (argC m c) k n).toNat = (y 0).val / 8) : X₀ m c 68 y = segment (argT m c) n y := by
  unfold X₀
  rw [filled_hit hR _ _ (p := place k n) (Nat.lt_of_lt_of_le (place_lt k n) (by decide)) (place_lt k n) y ((word_place m ok k n).trans h), place_token]
  exact congrArg (fun T => segment T n y) (V_main_arg0 m c)

theorem result_miss {c : Dev nD} (ok : RowsOk (argE m c) (argR m c) (argC m c)) (y : S1179648x128.Idx)
    (h : ∀ k n, (row (argE m c) (argR m c) (argC m c) k n).toNat ≠ (y 0).val / 8) : X₀ m c 68 y = (constant S_ .f32 0x00000000#32 : FVec F S_ .f32) ix0 := by
  unfold X₀
  rw [filled_miss _ _ y fun p _ hp => by rw [word_eq m ok hp]; exact h _ _]
  exact Z₀_eq m c y

end Cert.Dispatch

end
-- ==== Proof.Value.lean ====
module

public import proofs.«01_k».proof.Proof.Rows
public import proofs.«01_k».proof.Proof.Gen.ReferenceIdeal.Run

@[expose] public section

set_option maxRecDepth 16384

noncomputable section

namespace Cert.Dispatch

open Idealize.ShloMosaic Idealize.SL.Sem Idealize.ShloMosaic.TcCoe
open Cert.ReferenceIdeal Cert.ReferenceIdeal.Gen

variable {F : FTy → Type} [FloatOps F]

/-! ## The reference's result, in its steps -/

/-- The rows, in one line, choice by choice. -/
def line (e r : IVec S4x34816 32) (cnt : IVec S32x128 32) : IVec S139264 32 :=
  shapeCast S139264 (addi (Host.gather gather_S32_S4x34816x1_S4x34816_n_0_n_n_0_2_1 (offsets cnt) (broadcastInDim S4x34816x1 ![0, 1] bcast_S4x34816_S4x34816x1_0_1
      (select (cmpi .slt e (broadcastInDim S4x34816 ![] bcast_S_S4x34816 (constantI S_ 32 0#32)))
        (addi e (broadcastInDim S4x34816 ![] bcast_S_S4x34816 (constantI S_ 32 32#32))) e))) r) shapeCasts_S4x34816_S139264

/-- Each row's index word. -/
def at' (D : IVec S139264 32) : IVec S139264x1 32 :=
  broadcastInDim S139264x1 ![0] bcast_S139264_S139264x1_0 (select (cmpi .slt D (broadcastInDim S139264 ![] bcast_S_S139264 (constantI S_ 32 0#32)))
      (addi D (broadcastInDim S139264 ![] bcast_S_S139264 (constantI S_ 32 147456#32))) D)

/-- Each assignment's token. -/
def tokens : IVec S139264 32 :=
  shapeCast S139264 (broadcastInDim S4x34816 ![1] bcast_S34816_S4x34816_1 (iotaInDim S34816 32 0)) shapeCasts_S4x34816_S139264

/-- The token that each row of the buffer holds, the dummy token where none is sent. -/
def holder (D : IVec S139264 32) : IVec S147456 32 :=
  Host.scatter scatter_S147456_S139264x1_S139264_n_0_0_1 (fun _ b => b) (broadcastInDim S147456 ![] bcast_S_S147456 (constantI S_ 32 34816#32)) (at' D) tokens

/-- The tokens and below them the dummy token. -/
def padded (t : FVec F S34816x1024 .f32) : FVec F S34817x1024 .f32 :=
  concatenate S34817x1024 0 [⟨S34816x1024, t⟩, ⟨S1x1024, (broadcastInDim S1x1024 ![] bcast_S_S1x1024 (constant S_ .f32 0x00000000#32))⟩] concatenates_S34816x1024_S1x1024_S34817x1024_d0

/-- The buffer's rows, one after the other. -/
def buffer (t : FVec F S34816x1024 .f32) (B : IVec S147456 32) : FVec F S1179648x128 .f32 :=
  shapeCast S1179648x128 (Host.gather gather_S34817x1024_S147456x1_S147456x1024_1_0_n_n_0_1_11024 (padded t) (broadcastInDim S147456x1 ![0] bcast_S147456_S147456x1_0
    (select (cmpi .slt B (broadcastInDim S147456 ![] bcast_S_S147456 (constantI S_ 32 0#32)))
      (addi B (broadcastInDim S147456 ![] bcast_S_S147456 (constantI S_ 32 34817#32))) B))) shapeCasts_S147456x1024_S1179648x128

theorem reference_eq (m : (ℓ : Loc nD τ sig) → Buf (Elt F) ℓ) (c : Dev nD) :
    Value.res_out0 m c = buffer (m ((c.tc : Thread nD τ).loc main_arg0))
      (holder (line (m ((c.tc : Thread nD τ).loc main_arg1)) (m ((c.tc : Thread nD τ).loc main_arg2)) (m ((c.tc : Thread nD τ).loc main_arg3)))) := by
  unfold Value.res_out0 Value.res_main_v40
  rfl

theorem line_flat (e r : IVec S4x34816 32) (cnt : IVec S32x128 32) (ok : RowsOk e r cnt) (k : Fin 4) (n : Fin 34816) :
    line e r cnt (ix1 (flat k n)) = row e r cnt k n := by
  refine (Routing.cast21 _ _ k n (flat k n) rfl).trans ?_
  exact congrArg (fun a => IntOp.addi a (r (ix2 k n))) (take_expert (offsets cnt) e k n (ok.expert k n))

theorem exists_flat (q : Fin 139264) : ∃ k n, q = flat k n :=
  ⟨⟨q.val / 34816, by omega⟩, ⟨q.val % 34816, by omega⟩, Fin.ext (by simp only [flat]; omega)⟩

theorem tokens_flat (k : Fin 4) (n : Fin 34816) : tokens (ix1 (flat k n)) = BitVec.ofNat 32 n.val := by
  refine (Routing.cast21 _ _ k n (flat k n) rfl).trans ?_
  refine (broadcastInDim_apply _ _ _ _ (ix1 n) fun a => ?_).trans rfl
  fin_cases a; rfl

theorem line_lt (e r : IVec S4x34816 32) (cnt : IVec S32x128 32) (ok : RowsOk e r cnt) (q : Fin 139264) : (line e r cnt (ix1 q)).toNat < 147456 := by
  obtain ⟨k, n, rfl⟩ := exists_flat q
  rw [line_flat e r cnt ok]; exact ok.lt k n

/-- An update lands on the entry that its index word, read signed, names: the updates need not be as many as the entries. -/
theorem lands {N U : Nat} (d : ScatterDims (Routing.shape1 N) (Routing.shape2 U 1) (Routing.shape1 U)) (hiw : d.insertedWindowDims = [0])
    (hsd : d.scatterDimsToOperandDims = [0]) (hivd : d.indexVectorDim = 1) (idx : IVec (Routing.shape2 U 1) 32) (i : Fin U) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    exact dif_neg fun h => (of_decide_eq_true (List.mem_filter.1 h).2 : _) (by rw [hiw]; exact List.mem_singleton.2 rfl)
  have hsi : d.siIdx (ix1 i) ⟨d.scatterDimsToOperandDims.idxOf 0, List.idxOf_lt_length_iff.2 hm⟩ = ix2 i (0 : Fin 1) := by
    funext b
    refine Fin.ext ?_
    unfold ScatterDims.siIdx
    fin_cases b
    · rw [dif_neg (by rw [hivd]; exact Nat.zero_ne_one)]
      unfold ScatterDims.siCoord
      have e : ∀ X : Fin 1, (ix1 i X).val = i.val := fun X => by rw [Subsingleton.elim X 0]; rfl
      exact e _
    · rw [dif_pos (by rw [hivd])]
      show List.idxOf (0 : Fin 1) d.scatterDimsToOperandDims = 0
      rw [hsd]; exact List.idxOf_cons_self
  have hstart : d.start (ix1 i) idx 0 = (idx (ix2 i (0 : Fin 1))).toInt := by
    unfold ScatterDims.start
    rw [dif_pos hm, hsi]
  refine (Routing.resultIdx?_ix1 d (ix1 i) idx x).trans ?_
  rw [hstart, hwin]
  simp

theorem holder_lands (D : IVec S139264 32) (h : ∀ q, (D (ix1 q)).toNat < 147456) (q : Fin 139264) (x : Fin 147456) :
    scatter_S147456_S139264x1_S139264_n_0_0_1.resultIdx? (ix1 q) (at' D) = some (ix1 x) ↔ (D (ix1 q)).toNat = x.val := by
  refine (lands scatter_S147456_S139264x1_S139264_n_0_0_1 rfl rfl rfl (at' D) q x).trans ?_
  have hq := h q
  have hw : at' D (ix2 q (0 : Fin 1)) = D (ix1 q) := wrapped D h q
  rw [hw, StableHlo.Predicate.toInt_eq_toNat_of_lt (by omega)]
  omega

theorem holder_hit (e r : IVec S4x34816 32) (cnt : IVec S32x128 32) (ok : RowsOk e r cnt) (k : Fin 4) (n : Fin 34816) (x : Fin 147456)
    (h : (row e r cnt k n).toNat = x.val) : holder (line e r cnt) (ix1 x) = BitVec.ofNat 32 n.val := by
  refine Routing.scatter_set_hit _ _ _ _ _ _ (fun j hj => ?_) (ix1 (flat k n))
    ((holder_lands _ (line_lt e r cnt ok) _ x).2 (by rw [line_flat e r cnt ok]; exact h))
  have hj' : j = ix1 (j 0) := funext fun a => by fin_cases a; rfl
  obtain ⟨k', n', hq⟩ := exists_flat (j 0)
  rw [hj', hq] at hj ⊢
  have h2 := (holder_lands _ (line_lt e r cnt ok) _ x).1 hj
  rw [line_flat e r cnt ok] at h2
  obtain ⟨rfl, rfl⟩ := ok.inj k' n' k n (BitVec.eq_of_toNat_eq (h2.trans h.symm))
  exact tokens_flat _ _

theorem holder_miss (e r : IVec S4x34816 32) (cnt : IVec S32x128 32) (ok : RowsOk e r cnt) (x : Fin 147456)
    (h : ∀ k n, (row e r cnt k n).toNat ≠ x.val) : holder (line e r cnt) (ix1 x) = 34816#32 := by
  refine (Routing.scatter_set_miss _ _ _ _ _ fun j hj => ?_).trans rfl
  have hj' : j = ix1 (j 0) := funext fun a => by fin_cases a; rfl
  obtain ⟨k', n', hq⟩ := exists_flat (j 0)
  rw [hj', hq] at hj
  have h2 := (holder_lands _ (line_lt e r cnt ok) _ x).1 hj
  rw [line_flat e r cnt ok] at h2
  exact h _ _ h2

/-! ## A row of the buffer -/

theorem buffer_apply (t : FVec F S34816x1024 .f32) (B : IVec S147456 32) (y : S1179648x128.Idx) (b : Fin 34817)
    (h : B (ix1 (⟨(y 0).val / 8, by have : (y 0).val < 1179648 := (y 0).isLt; omega⟩ : Fin 147456)) = BitVec.ofNat 32 b.val) :
    buffer t B y = padded t (ix2 b (⟨(y 0).val % 8 * 128 + (y 1).val, by have : (y 1).val < 128 := (y 1).isLt; omega⟩ : Fin 1024)) := by
  have hy0 : (y 0).val < 1179648 := (y 0).isLt
  have hy1 : (y 1).val < 128 := (y 1).isLt
  have hb := b.isLt
  refine Eq.trans (b := Host.gather gather_S34817x1024_S147456x1_S147456x1024_1_0_n_n_0_1_11024 (padded t) (broadcastInDim S147456x1 ![0] bcast_S147456_S147456x1_0
    (select (cmpi .slt B (broadcastInDim S147456 ![] bcast_S_S147456 (constantI S_ 32 0#32)))
      (addi B (broadcastInDim S147456 ![] bcast_S_S147456 (constantI S_ 32 34817#32))) B)) (ix2 (⟨(y 0).val / 8, by omega⟩ : Fin 147456) (⟨(y 0).val % 8 * 128 + (y 1).val, by omega⟩ : Fin 1024))) ?_ ?_
  · unfold buffer
    generalize Host.gather _ _ _ = G
    pointwise
  · refine Routing.gather_row gather_S34817x1024_S147456x1_S147456x1024_1_0_n_n_0_1_11024 rfl rfl rfl rfl rfl _ _ _ _ b
      ((Routing.bcCol _ _ _).trans ((wrap_eq (a := B (ix1 _)) ?_).trans h)) (by decide)
    have := congrArg BitVec.toNat h
    rw [BitVec.toNat_ofNat] at this
    omega

theorem padded_token (t : FVec F S34816x1024 .f32) (n : Fin 34816) (j : Fin 1024) :
    padded t (ix2 (⟨n.val, by omega⟩ : Fin 34817) j) = t (ix2 n j) := by
  have hn := n.isLt
  unfold padded
  pointwise

theorem padded_dummy (t : FVec F S34816x1024 .f32) (j : Fin 1024) :
    padded t (ix2 (⟨34816, by omega⟩ : Fin 34817) j) = (constant S_ .f32 0x00000000#32 : FVec F S_ .f32) ix0 := by
  unfold padded
  pointwise

theorem reference_hit (t : FVec F S34816x1024 .f32) (e r : IVec S4x34816 32) (cnt : IVec S32x128 32) (ok : RowsOk e r cnt) (k : Fin 4) (n : Fin 34816)
    (y : S1179648x128.Idx) (h : (row e r cnt k n).toNat = (y 0).val / 8) :
    buffer t (holder (line e r cnt)) y = t (ix2 n (⟨(y 0).val % 8 * 128 + (y 1).val, by have : (y 1).val < 128 := (y 1).isLt; omega⟩ : Fin 1024)) := by
  refine (buffer_apply t _ y ⟨n.val, by omega⟩ (holder_hit e r cnt ok k n _ h)).trans ?_
  exact padded_token t n _

theorem reference_miss (t : FVec F S34816x1024 .f32) (e r : IVec S4x34816 32) (cnt : IVec S32x128 32) (ok : RowsOk e r cnt)
    (y : S1179648x128.Idx) (h : ∀ k n, (row e r cnt k n).toNat ≠ (y 0).val / 8) :
    buffer t (holder (line e r cnt)) y = (constant S_ .f32 0x00000000#32 : FVec F S_ .f32) ix0 := by
  refine (buffer_apply t _ y ⟨34816, by omega⟩ (holder_miss e r cnt ok _ h)).trans ?_
  exact padded_dummy t _

end Cert.Dispatch

end
-- ==== Proof.Mm.lean ====
/-
  The mixer's projection: after the run of `ProjectionIdeal`, element `(r, c)` of the result is the sum over `k` of the
  activations' element `(r / 2176, r % 2176, k)` times the weight's `(k, c)`, and the reference's element is the same sum.
  Each of the 3 · 34 grid points writes its own block of 1024 rows by 2048 columns, and the blocks tile the result; a
  block's element is one row of the staged activations against one column of the staged weight, the change of the
  operands' format being the identity over the extended reals.
-/
module

public import proofs.«01_k».proof.Defs
public import proofs.«01_k».proof.Proof.Gen.Projection.Frame
public import proofs.«01_k».proof.Proof.Gen.ProjectionIdeal.Frame
public import proofs.«01_k».proof.Proof.Gen.ProjectionIdeal.Value
public import proofs.«01_k».proof.Proof.Gen.ProjectionReferenceIdeal.Run
public import proofs.«01_k».proof.Proof.Gen.ProjectionReferenceIdeal.Read
public import Idealize.ShloMosaic.Lib.Pipeline.ValueKit
public import Idealize.ShloMosaic.Lib.Pointwise

@[expose] public section

set_option maxRecDepth 16384

noncomputable section

namespace Cert.Mm

open Idealize.ShloMosaic Idealize.ShloMosaic.TcCoe Idealize.SL.Sem

/-- The product, element by element: row `r` of the result is sequence `r / 2176`, position `r % 2176`. -/
def product (h : (⟨⟨3, ![16, 2176, 1024]⟩, .f32⟩ : BufTy).Contents (Elt Ideal)) (w : (⟨⟨2, ![1024, 6176]⟩, .f32⟩ : BufTy).Contents (Elt Ideal)) :
    (⟨⟨2, ![34816, 6144]⟩, .f32⟩ : BufTy).Contents (Elt Ideal) := fun j =>
  ∑ k : Fin 1024, h (ix3 ⟨(j 0).val / 2176, by have := (j 0).isLt; simp at this; omega⟩ ⟨(j 0).val % 2176, by omega⟩ k)
    * w (ix2 k ⟨(j 1).val, by have := (j 1).isLt; simp at this; omega⟩)

section Ref
open Cert.ProjectionReferenceIdeal Cert.ProjectionReferenceIdeal.Gen Cert.ProjectionReferenceIdeal.Read

/-- The reference's result is the product. -/
theorem reference_eq (h : (⟨S16x2176x1024, .f32⟩ : BufTy).Contents (Elt Ideal)) (w : (⟨S1024x6176, .f32⟩ : BufTy).Contents (Elt Ideal)) :
    val_main_v2 (F := Ideal) h w = product h w := by
  funext j
  rw [val_main_v2_apply, val_main_v1_apply, val_main_v0_apply]
  have h0 : (j 0).val < 34816 := (j 0).isLt
  have h1 : (j 1).val < 6144 := (j 1).isLt
  refine Finset.sum_congr rfl fun k _ => congr (congrArg _ (congrArg h ?_)) (congrArg w ?_)
  · funext a
    match a with
    | ⟨0, _⟩ => refine Fin.ext ?_; show ((j 0).val * 6144 + (j 1).val) / 13369344 = (j 0).val / 2176; omega
    | ⟨1, _⟩ => refine Fin.ext ?_; show ((j 0).val * 6144 + (j 1).val) / 6144 % 2176 = (j 0).val % 2176; omega
    | ⟨2, _⟩ => rfl
  · funext a
    match a with
    | ⟨0, _⟩ => rfl
    | ⟨1, _⟩ => refine Fin.ext ?_; show ((j 0).val * 6144 + (j 1).val) % 6144 = (j 1).val; omega

end Ref

section Run
open Cert.ProjectionIdeal Cert.ProjectionIdeal.Gen

variable (m : (ℓ : Loc nD τ sig) → Buf (Elt Ideal) ℓ) (c : Dev nD)

theorem V_v0 : V m c main_v0 = shapeCast S34816x1024 (m ((c : Thread nD τ).loc main_arg0)) Facts₀.shapeCasts_S16x2176x1024_S34816x1024 := by
  unfold V hostOps0; after_results; rfl

theorem V_v2 : V m c main_v2 = truncf (F := Ideal) .bf16 (extractStridedSlice S1024x6144 ![0, 0] (m ((c : Thread nD τ).loc main_arg1)) Facts₀.slices_S1024x6176_S1024x6144_0_0) Facts₀.bitsLt_bf16_f32 := by
  unfold V hostOps0; after_results

theorem index0 : ∀ t : Fin cfg0.N, win0_0.index t = ![(grid0.coords t 1).val, 0] :=
  (by decide +kernel : ∀ t : Fin grid0.N, win0_0.index t = ![(grid0.coords t 1).val, 0])
theorem index1 : ∀ t : Fin cfg0.N, win0_1.index t = ![0, (grid0.coords t 0).val] :=
  (by decide +kernel : ∀ t : Fin grid0.N, win0_1.index t = ![0, (grid0.coords t 0).val])
theorem index2 : ∀ t : Fin cfg0.N, win0_2.index t = ![(grid0.coords t 1).val, (grid0.coords t 0).val] :=
  (by decide +kernel : ∀ t : Fin grid0.N, win0_2.index t = ![(grid0.coords t 1).val, (grid0.coords t 0).val])

theorem coord0 (t : Fin cfg0.N) : (grid0.coords t 0).val < 3 := (grid0.coords t 0).isLt
theorem coord1 (t : Fin cfg0.N) : (grid0.coords t 1).val < 34 := (grid0.coords t 1).isLt

/-- Row `r` of the reshaped activations is sequence `r / 2176`, position `r % 2176`. -/
theorem reshaped_apply (x : (⟨S16x2176x1024, .f32⟩ : BufTy).Contents (Elt Ideal)) (y : S34816x1024.Idx) (r : ℕ) (b : Fin 1024)
    (e0 : (y 0 : ℕ) = r) (e1 : (y 1 : ℕ) = b.val) : shapeCast S34816x1024 x Facts₀.shapeCasts_S16x2176x1024_S34816x1024 y
      = x (ix3 ⟨r / 2176, by have h : (y 0 : ℕ) < 34816 := (y 0).isLt; omega⟩ ⟨r % 2176, by omega⟩ b) := by
  subst e0
  refine shapeCast_apply (s := S16x2176x1024) (t := S34816x1024) _ _ _ _ ?_
  rewrite [Shape.rowMajor_val_three, Shape.rowMajor_val_two]
  show (((y 0 : ℕ) / 2176) * 2176 + (y 0 : ℕ) % 2176) * 1024 + b.val = (y 0 : ℕ) * 1024 + (y 1 : ℕ)
  omega

/-- The staged activations at a grid point: 1024 rows of the reshaped activations. -/
theorem staged_rows (t : Fin cfg0.N) (a b : Fin 1024) : iblk m c 0 t (ix2 a b) = m ((c : Thread nD τ).loc main_arg0)
    (ix3 ⟨((grid0.coords t 1).val * 1024 + a.val) / 2176, by have := coord1 t; omega⟩ ⟨((grid0.coords t 1).val * 1024 + a.val) % 2176, by omega⟩ b) := by
  show V m c main_v0 (((cfg0.win 0).blk t).view.emb (ix2 a b)) = _
  rw [V_v0]
  refine reshaped_apply _ _ _ _ ?_ ?_
  · blk_simp [index0 t]
  · blk_simp [index0 t]

/-- The staged weight at a grid point: 2048 columns of the weight. -/
theorem staged_cols (t : Fin cfg0.N) (a : Fin 1024) (b : Fin 2048) : iblk m c 1 t (ix2 a b) = m ((c : Thread nD τ).loc main_arg1)
    (ix2 a ⟨(grid0.coords t 0).val * 2048 + b.val, by have := coord0 t; omega⟩) := by
  show V m c main_v2 (((cfg0.win 1).blk t).view.emb (ix2 a b)) = _
  rw [V_v2]
  refine extractStridedSlice_apply (s := S1024x6176) (t := S1024x6144) _ _ Facts₀.slices_S1024x6176_S1024x6144_0_0 _ _ fun x => ?_
  match x with
  | ⟨0, _⟩ =>
    show a.val = 0 + ((((cfg0.win 1).blk t).view.emb (ix2 a b)) 0 : ℕ)
    blk_simp [index1 t];
  | ⟨1, _⟩ =>
    show (grid0.coords t 0).val * 2048 + b.val = 0 + ((((cfg0.win 1).blk t).view.emb (ix2 a b)) 1 : ℕ)
    blk_simp [index1 t];

theorem product_of (h : (⟨⟨3, ![16, 2176, 1024]⟩, .f32⟩ : BufTy).Contents (Elt Ideal)) (w : (⟨⟨2, ![1024, 6176]⟩, .f32⟩ : BufTy).Contents (Elt Ideal))
    (j : (⟨2, ![34816, 6144]⟩ : Shape).Idx) (r q : ℕ) (hr : r < 34816) (hq : q < 6144) (e0 : (j 0 : ℕ) = r) (e1 : (j 1 : ℕ) = q) :
    product h w j = ∑ k : Fin 1024, h (ix3 ⟨r / 2176, by omega⟩ ⟨r % 2176, by omega⟩ k) * w (ix2 k ⟨q, by omega⟩) := by
  subst e0 e1; rfl

/-- The result array after the run is the product. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have h0 : (y 0 : ℕ) < 1024 := (y 0).isLt
  have h1 : (y 1 : ℕ) < 2048 := (y 1).isLt
  have := coord0 t
  have := coord1 t
  refine Eq.trans ?_ (product_of _ _ _ ((grid0.coords t 1).val * 1024 + (y 0 : ℕ)) ((grid0.coords t 0).val * 2048 + (y 1 : ℕ)) (by omega) (by omega) ?_ ?_).symm
  · blk_simp
    rw [after0_2]
    frame_out
    pointwise [k0_pay1]
    refine Finset.sum_congr (M := EReal) rfl fun k _ => ?_
    exact congrArg₂ (fun a b : EReal => a * b) (staged_rows m c t _ _) (staged_cols m c t _ _)
  · blk_simp [index2 t]
  · blk_simp [index2 t]

end Run

theorem frame_kernel : Cert.quiescent_Projection := fun m ρ _ => Cert.Projection.Gen.frame m ρ

theorem frame_kernelIdeal : Cert.quiescent_ProjectionIdeal := fun m ρ _ => Cert.ProjectionIdeal.Gen.frame m ρ

theorem frame_referenceIdeal : Cert.quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run (F := Ideal) m ρ)

/-- The projection and its reference agree. -/
theorem same_ideal : Cert.algebraic_ProjectionIdeal_ProjectionReferenceIdeal := fun m g m' g' _ ha =>
  ⟨fun c => product (m ((c : Thread Cert.ProjectionIdeal.nD Cert.ProjectionIdeal.τ).loc Cert.ProjectionIdeal.main_arg0))
      (m ((c : Thread Cert.ProjectionIdeal.nD Cert.ProjectionIdeal.τ).loc Cert.ProjectionIdeal.main_arg1)),
    (θ_run Cert.ProjectionIdeal.defs _ _).mono (fun _ h c => ⟨(h c).1.trans (result m c), (h c).2⟩) (Cert.ProjectionIdeal.Value.run_blocks m g),
    (θ_run Cert.ProjectionReferenceIdeal.defs _ _).mono (fun _ h c => ⟨(h c).1.trans (by
        refine (Cert.ProjectionReferenceIdeal.Read.val_main_v2_eq _ _).trans ((reference_eq _ _).trans ?_)
        rw [(ha c).1, (ha c).2]), (h c).2⟩) (Cert.ProjectionReferenceIdeal.Value.run (F := Ideal) m' g')⟩

end Cert.Mm

end
-- ==== Proof.FfnKit.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch finds -/

/-- A core's buffers when its blocks start: what the program's host lines leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two tables: which expert a block belongs to, and how many blocks are in use -/

/-- The tables' contents (the program runs on one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every expert named is one of the 32, so that its weights' blocks lie in their arrays. -/
abbrev Ok : Prop := ok0 (F := F) (tbl m)
abbrev adm (hO : Ok m) : (pcfg0 (F := F)).Adm := ⟨tbl m, hO⟩

/-- The tables as the body is handed them. -/
abbrev experts : Memref sig .tc .smem S576 .i32 := Memref.whole main_v21
abbrev used : Memref sig .tc .smem S1 .i32 := Memref.whole main_v23

abbrev expertsAt (c : Dev nD) (f : S576.Idx → Elt F .i32) : sProp 𝕄 := experts.view.loc (c : Thread nD τ) ↦{fullShare.right} f
abbrev usedAt (c : Dev nD) (f : S1.Idx → Elt F .i32) : sProp 𝕄 := used.view.loc (c : Thread nD τ) ↦{fullShare.right} f

theorem tables_eq (T : pre0.Contents (Elt F)) (c : Dev nD) : (Pipeline.ΦT pre0 T c : sProp 𝕄) = iprop(expertsAt c (T 0) ∗ usedAt c (T 1)) := by
  unfold Pipeline.ΦT Pipeline.prefHeld
  rw [show (Finset.univ : Finset (Fin 2)) = insert (0 : Fin 2) {(1 : Fin 2)} from by decide, bigSep_insert (by decide), bigSep_singleton]
  rfl

/-! ## The windows' blocks

From here on the launch's tables `a` and what its buffers hold, `A`, are any. -/

section Blocks

variable (a : (pcfg0 (F := F)).Adm) (A : (c : Dev nD) → (b : Ref sig .tc) → Buf (Elt F) ((c : Thread nD τ).loc b))

/-- Window `w`'s block at point `t`, as the launch finds its array. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (A c (Pipeline.arrRef spec0 w))

theorem before_0_of {c : Dev nD} (dat : Dat τ (Elt F) Unit ℕ (UR sig nD τ) ℕ (cfg0 a) c) (hA : dat.A 0 = A c (Pipeline.arrRef spec0 0))
    (hafter : ∀ t, dat.after 0 t = iblk a A c 0 t) (t : Fin (cfg0 a).N) (d) : dat.before 0 t d = iblk a A c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 a) c) (hA : dat.A 1 = A c (Pipeline.arrRef spec0 1))
    (hafter : ∀ t, dat.after 1 t = iblk a A c 1 t) (t : Fin (cfg0 a).N) (d) : dat.before 1 t d = iblk a A c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 a) c) (hA : dat.A 2 = A c (Pipeline.arrRef spec0 2))
    (hafter : ∀ t, dat.after 2 t = iblk a A c 2 t) (t : Fin (cfg0 a).N) (d) : dat.before 2 t d = iblk a A c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 a) c) (hA : dat.A 3 = A c (Pipeline.arrRef spec0 3))
    (hafter : ∀ t, dat.after 3 t = iblk a A c 3 t) (t : Fin (cfg0 a).N) (d) : dat.before 3 t d = iblk a A c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfg0 a) c) (hA : dat.A 4 = A c (Pipeline.arrRef spec0 4))
    (hafter : ∀ t, dat.after 4 t = iblk a A c 4 t) (t : Fin (cfg0 a).N) (d) : dat.before 4 t d = iblk a A c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfg0 a) c) (hA : dat.A 5 = A c (Pipeline.arrRef spec0 5))
    (hafter : ∀ t, dat.after 5 t = iblk a A c 5 t) (t : Fin (cfg0 a).N) (d) : dat.before 5 t d = iblk a A c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Blocks

/-- The result's block is written back after every point. -/
theorem flush_6 (a : (pcfg0 (F := F)).Adm) : ∀ t : Fin (cfg0 a).N, ((cfg0 a).win 6).flush t = true :=
  (fun t => (Pipeline.Window.flushOf_reads cc0_transform_6 reads0_6 hreads0_6 0 (by decide) (by decide)
    (Pipeline.Window.sep_of_coord cc0_transform_6 0 0 (fun _ => rfl) (by decide)) (P := 1) (m := 0) (by decide) rfl t).mpr (Nat.mod_one _) :
    ∀ t : Fin grid0.N, Pipeline.Window.flushOf grid0 true cc0_transform_6 t = true)

end Cert.Ffn

end
-- ==== Proof.FfnBody.lean ====
module

public import proofs.«01_k».proof.Proof.FfnKit
public import Idealize.ShloMosaic.Lib.PointwiseCore
public import Idealize.ShloMosaic.Lib.VecWindow

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-! ## The weights as the body keeps them -/

/-- Columns `256 k` up to `256 k + 255` of a block of weights. -/
def columns (B : S1x1024x2048.Idx → Elt F .f32) (k : ℕ) (hk : k < 8) (x : S1x1024x256.Idx) : Elt F .f32 :=
  B (ix3 (0 : Fin 1) (⟨(x 1).val, (x 1).isLt⟩ : Fin 1024) (⟨256 * k + (x 2).val, by have := (x 2).isLt; change _ < 256 at this; omega⟩ : Fin 2048))

theorem div_lt (z : S1024x1024.Idx) : (z 1).val / 128 < 8 := by have := (z 1).isLt; change _ < 1024 at this; omega

/-- The even columns (gates), 128 by 128, as the permuted chunks give them. -/
def gates (B : S1x1024x2048.Idx → Elt F .f32) (z : S1024x1024.Idx) : Elt F .bf16 :=
  k0_pay10 (columns B ((z 1).val / 128) (div_lt z)) (ix2 (⟨(z 0).val, (z 0).isLt⟩ : Fin 1024) (⟨(z 1).val % 128, by omega⟩ : Fin 256))

/-- The odd columns. -/
def linears (B : S1x1024x2048.Idx → Elt F .f32) (z : S1024x1024.Idx) : Elt F .bf16 :=
  k0_pay10 (columns B ((z 1).val / 128) (div_lt z)) (ix2 (⟨(z 0).val, (z 0).isLt⟩ : Fin 1024) (⟨128 + (z 1).val % 128, by omega⟩ : Fin 256))

/-! ## A block's tokens through the expert -/

/-- Every eighth row from `k` on: elements `128 k` up to `128 k + 127` of the block's 256 tokens. -/
def segment (X : S2048x128.Idx → Elt F .f32) (k : ℕ) (hk : k < 8) (x : S256x128.Idx) : Elt F .f32 :=
  X (ix2 (⟨k + 8 * (x 0).val, by have := (x 0).isLt; change _ < 256 at this; omega⟩ : Fin 2048) (⟨(x 1).val, (x 1).isLt⟩ : Fin 128))

/-- The tokens through the expert. -/
def outTokens (X : S2048x128.Idx → Elt F .f32) (G L W : S1024x1024.Idx → Elt F .bf16) (bg bl b2 : S1x1x1024.Idx → Elt F .f32) : FVec F S256x1024 .f32 :=
  k0_pay35
    (k0_pay33 (segment X 0 (by decide)) (segment X 1 (by decide)) (segment X 2 (by decide)) (segment X 3 (by decide)) (segment X 4 (by decide))
      (segment X 5 (by decide)) (segment X 6 (by decide)) (segment X 7 (by decide)) G bg)
    (k0_pay34 (segment X 0 (by decide)) (segment X 1 (by decide)) (segment X 2 (by decide)) (segment X 3 (by decide)) (segment X 4 (by decide))
      (segment X 5 (by decide)) (segment X 6 (by decide)) (segment X 7 (by decide)) L bl)
    (Scalar.ofBits .f32 0x3FD9DB23#32) W b2

/-- A token's eight segments laid row by row. -/
def laid (Y : FVec F S256x1024 .f32) (z : S2048x128.Idx) : Elt F .f32 :=
  Y (ix2 (⟨(z 0).val / 8, by have := (z 0).isLt; change _ < 2048 at this; omega⟩ : Fin 256)
    (⟨(z 0).val % 8 * 128 + (z 1).val, by have := (z 1).isLt; change _ < 128 at this; omega⟩ : Fin 1024))

/-! ## What the stores leave -/

theorem columns_at (arg4 : Memref sig .tc .vmem S1x1024x2048 .f32) (f4 : arg4.view.ty.Contents (Elt F)) {k : ℕ} (hk : k < 8) (inb) :
    arg4.view.readAt (Elt F) (Rect.unit (s := S1x1024x2048) ![0, 0, 256 * k] S1x1024x256.size inb).toLoadRect f4
      = columns (arg4.view.read (Elt F) f4) k hk := by
  funext x
  unfold columns
  refine congrArg (arg4.view.read (Elt F) f4) (funext fun a => Fin.ext ?_)
  fin_cases a
  · have h : (x 0).val < 1 := (x 0).isLt
    show 0 + 1 * (x 0).val = 0
    omega
  · show 0 + 1 * (x 1).val = (x 1).val
    omega
  · show 256 * k + 1 * (x 2).val = 256 * k + (x 2).val
    omega

theorem gates_eq (B : S1x1024x2048.Idx → Elt F .f32) (z : S1024x1024.Idx) {k : ℕ} (hk : k < 8) (h : (z 1).val / 128 = k) :
    gates B z = k0_pay10 (columns B k hk) (ix2 (⟨(z 0).val, (z 0).isLt⟩ : Fin 1024) (⟨(z 1).val % 128, by omega⟩ : Fin 256)) := by
  subst h; rfl

theorem linears_eq (B : S1x1024x2048.Idx → Elt F .f32) (z : S1024x1024.Idx) {k : ℕ} (hk : k < 8) (h : (z 1).val / 128 = k) :
    linears B z = k0_pay10 (columns B k hk) (ix2 (⟨(z 0).val, (z 0).isLt⟩ : Fin 1024) (⟨128 + (z 1).val % 128, by omega⟩ : Fin 256)) := by
  subst h; rfl

theorem gate_at {k : ℕ} (hk : k < 8) (hs hc inb) {v : Vec F S1x1024x256 .f32} {B : S1x1024x2048.Idx → Elt F .f32} (hv : v = columns B k hk) (x : S1024x128.Idx) :
    shapeCast S1024x128 (extractStridedSlice S1024x128 ![0, 0] (k0_pay10 v) hs) hc x
      = gates B ((Rect.unit (s := S1024x1024) ![0, 128 * k] S1024x128.size inb).emb x) := by
  have e0 : ((Rect.unit (s := S1024x1024) ![0, 128 * k] S1024x128.size inb).emb x 0).val = 0 + 1 * (x 0).val := rfl
  have e1 : ((Rect.unit (s := S1024x1024) ![0, 128 * k] S1024x128.size inb).emb x 1).val = 128 * k + 1 * (x 1).val := rfl
  have h1 : (x 1).val < 128 := (x 1).isLt
  rw [shapeCast_self, hv, gates_eq B _ hk (by rw [e1]; omega)]
  refine congrArg (k0_pay10 (columns B k hk)) (funext fun a => Fin.ext ?_)
  fin_cases a
  · show 0 + (x 0).val = (_ : ℕ)
    refine Eq.trans ?_ e0.symm; omega
  · show 0 + (x 1).val = _ % 128
    rw [e1]; omega

theorem linear_at {k : ℕ} (hk : k < 8) (hs hc inb) {v : Vec F S1x1024x256 .f32} {B : S1x1024x2048.Idx → Elt F .f32} (hv : v = columns B k hk) (x : S1024x128.Idx) :
    shapeCast S1024x128 (extractStridedSlice S1024x128 ![0, 128] (k0_pay10 v) hs) hc x
      = linears B ((Rect.unit (s := S1024x1024) ![0, 128 * k] S1024x128.size inb).emb x) := by
  have e0 : ((Rect.unit (s := S1024x1024) ![0, 128 * k] S1024x128.size inb).emb x 0).val = 0 + 1 * (x 0).val := rfl
  have e1 : ((Rect.unit (s := S1024x1024) ![0, 128 * k] S1024x128.size inb).emb x 1).val = 128 * k + 1 * (x 1).val := rfl
  have h1 : (x 1).val < 128 := (x 1).isLt
  rw [shapeCast_self, hv, linears_eq B _ hk (by rw [e1]; omega)]
  refine congrArg (k0_pay10 (columns B k hk)) (funext fun a => Fin.ext ?_)
  fin_cases a
  · show 0 + (x 0).val = (_ : ℕ)
    refine Eq.trans ?_ e0.symm; omega
  · show 128 + (x 1).val = 128 + _ % 128
    rw [e1]; omega

theorem mem_columns {k : ℕ} (inb) (z : S1024x1024.Idx) (h : (z 1).val / 128 = k) :
    z ∈ (Rect.unit (s := S1024x1024) ![0, 128 * k] S1024x128.size inb).set := by
  refine (LoadRect.mem_set _).mpr ?_
  have h0 : (z 0).val < 1024 := (z 0).isLt
  intro a; fin_cases a
  · exact ⟨(z 0).val, by change _ < 1024; omega, by change (z 0).val = 0 + 1 * (z 0).val; omega⟩
  · exact ⟨(z 1).val % 128, by change _ < 128; omega, by change (z 1).val = 128 * k + 1 * ((z 1).val % 128); omega⟩

theorem laid_at {s : ℕ} (hs : s < 8) (hsl inb) (Y : FVec F S256x1024 .f32) (x : S256x128.Idx) :
    extractStridedSlice S256x128 ![0, s * 128] Y hsl x
      = laid Y ((⟨(⟨![s, 0], S256x128.size, ![8, 1], inb⟩ : LoadRect S2048x128), spos_8_1⟩ : Rect S2048x128).emb x) := by
  have e0 : ((⟨(⟨![s, 0], S256x128.size, ![8, 1], inb⟩ : LoadRect S2048x128), spos_8_1⟩ : Rect S2048x128).emb x 0).val = s + 8 * (x 0).val := rfl
  have e1 : ((⟨(⟨![s, 0], S256x128.size, ![8, 1], inb⟩ : LoadRect S2048x128), spos_8_1⟩ : Rect S2048x128).emb x 1).val = 0 + 1 * (x 1).val := rfl
  unfold laid
  refine congrArg Y (funext fun a => Fin.ext ?_)
  fin_cases a
  · show 0 + (x 0).val = _ / 8
    rw [e0]; omega
  · show s * 128 + (x 1).val = _ % 8 * 128 + _
    rw [e0, e1]; omega

theorem mem_row {s : ℕ} (hs : s < 8) (inb) (z : S2048x128.Idx) (h : (z 0).val % 8 = s) :
    z ∈ (⟨(⟨![s, 0], S256x128.size, ![8, 1], inb⟩ : LoadRect S2048x128), spos_8_1⟩ : Rect S2048x128).set := by
  refine (LoadRect.mem_set _).mpr ?_
  have h0 : (z 0).val < 2048 := (z 0).isLt
  have h1 : (z 1).val < 128 := (z 1).isLt
  intro a; fin_cases a
  · exact ⟨(z 0).val / 8, by change _ < 256; omega, by change (z 0).val = s + 8 * ((z 0).val / 8); omega⟩
  · exact ⟨(z 1).val, by change _ < 128; omega, by change (z 1).val = 0 + 1 * (z 1).val; omega⟩

theorem segment_at (arg3 : Memref sig .tc .vmem S2048x128 .f32) (f3 : arg3.view.ty.Contents (Elt F)) {s : ℕ} (hs : s < 8) (inb) :
    arg3.view.readAt (Elt F) (⟨![s, 0], S256x128.size, ![8, 1], inb⟩ : LoadRect S2048x128) f3 = segment (arg3.view.read (Elt F) f3) s hs := by
  funext x
  unfold segment
  refine congrArg (arg3.view.read (Elt F) f3) (funext fun a => Fin.ext ?_)
  fin_cases a
  · rfl
  · show 0 + 1 * (x 1).val = (x 1).val
    omega

abbrev w1g : Memref sig .tc .vmem S1024x1024 .bf16 := Memref.whole cc0_scratch0
abbrev w1l : Memref sig .tc .vmem S1024x1024 .bf16 := Memref.whole cc0_scratch1
abbrev w2c : Memref sig .tc .vmem S1024x1024 .bf16 := Memref.whole cc0_scratch2

theorem whole_read (M : Memref sig .tc .vmem S1024x1024 .bf16) (f f' : M.view.ty.Contents (Elt F)) (inb) (h : M.view.read (Elt F) f = M.view.read (Elt F) f') :
    M.view.readAt (Elt F) (Rect.unit (s := S1024x1024) ![0, 0] S1024x1024.size inb).toLoadRect f = M.view.read (Elt F) f' := by
  rw [View.readAt_full, h]

abbrev w1gAt (c : Dev nD) (f : S1024x1024.Idx → Elt F .bf16) : sProp 𝕄 := w1g.view.loc (c : Thread nD τ) ↦{fullShare} f
abbrev w1lAt (c : Dev nD) (f : S1024x1024.Idx → Elt F .bf16) : sProp 𝕄 := w1l.view.loc (c : Thread nD τ) ↦{fullShare} f
abbrev w2cAt (c : Dev nD) (f : S1024x1024.Idx → Elt F .bf16) : sProp 𝕄 := w2c.view.loc (c : Thread nD τ) ↦{fullShare} f

abbrev gatesPieces (arg4 : Memref sig .tc .vmem S1x1024x2048 .f32) (f4 : arg4.view.ty.Contents (Elt F)) : List (View.Piece (Elt F) S1024x1024 .bf16) :=
  [⟨Rect.unit (s := S1024x1024) ![0, 896] S1024x128.size inb_S1024x1024_S1024x128_0_896,
      k0_pay3 k0_pay9 (arg4.view.readAt (Elt F) (Rect.unit (s := S1x1024x2048) ![0, 0, 1792] S1x1024x256.size inb_S1x1024x2048_S1x1024x256_0_0_1792).toLoadRect f4)⟩,
   ⟨Rect.unit (s := S1024x1024) ![0, 768] S1024x128.size inb_S1024x1024_S1024x128_0_768,
      k0_pay30 k0_pay9 (arg4.view.readAt (Elt F) (Rect.unit (s := S1x1024x2048) ![0, 0, 1536] S1x1024x256.size inb_S1x1024x2048_S1x1024x256_0_0_1536).toLoadRect f4)⟩,
   ⟨Rect.unit (s := S1024x1024) ![0, 640] S1024x128.size inb_S1024x1024_S1024x128_0_640,
      k0_pay27 k0_pay9 (arg4.view.readAt (Elt F) (Rect.unit (s := S1x1024x2048) ![0, 0, 1280] S1x1024x256.size inb_S1x1024x2048_S1x1024x256_0_0_1280).toLoadRect f4)⟩,
   ⟨Rect.unit (s := S1024x1024) ![0, 512] S1024x128.size inb_S1024x1024_S1024x128_0_512,
      k0_pay24 k0_pay9 (arg4.view.readAt (Elt F) (Rect.unit (s := S1x1024x2048) ![0, 0, 1024] S1x1024x256.size inb_S1x1024x2048_S1x1024x256_0_0_1024).toLoadRect f4)⟩,
   ⟨Rect.unit (s := S1024x1024) ![0, 384] S1024x128.size inb_S1024x1024_S1024x128_0_384,
      k0_pay21 k0_pay9 (arg4.view.readAt (Elt F) (Rect.unit (s := S1x1024x2048) ![0, 0, 768] S1x1024x256.size inb_S1x1024x2048_S1x1024x256_0_0_768).toLoadRect f4)⟩,
   ⟨Rect.unit (s := S1024x1024) ![0, 256] S1024x128.size inb_S1024x1024_S1024x128_0_256,
      k0_pay18 k0_pay9 (arg4.view.readAt (Elt F) (Rect.unit (s := S1x1024x2048) ![0, 0, 512] S1x1024x256.size inb_S1x1024x2048_S1x1024x256_0_0_512).toLoadRect f4)⟩,
   ⟨Rect.unit (s := S1024x1024) ![0, 128] S1024x128.size inb_S1024x1024_S1024x128_0_128,
      k0_pay15 (k0_pay14 (arg4.view.readAt (Elt F) (Rect.unit (s := S1x1024x2048) ![0, 0, 256] S1x1024x256.size inb_S1x1024x2048_S1x1024x256_0_0_256).toLoadRect f4))⟩,
   ⟨Rect.unit (s := S1024x1024) ![0, 0] S1024x128.size inb_S1024x1024_S1024x128_0_0,
      k0_pay11 (arg4.view.readAt (Elt F) (Rect.unit (s := S1x1024x2048) ![0, 0, 0] S1x1024x256.size inb_S1x1024x2048_S1x1024x256_0_0_0).toLoadRect f4)⟩]

theorem gates_kept (arg4 : Memref sig .tc .vmem S1x1024x2048 .f32) (f4 : arg4.view.ty.Contents (Elt F)) (G : S1024x1024.Idx → Elt F .bf16) :
    w1g.view.read (Elt F) (w1g.view.writes (Elt F) G (gatesPieces arg4 f4)) = gates (arg4.view.read (Elt F) f4) := by
  funext z
  have key := View.read_writes_apply_of_pieces w1g.view G (gates (arg4.view.read (Elt F) f4)) (gatesPieces arg4 f4) (by
    simp only [gatesPieces, List.forall_mem_cons, List.not_mem_nil, false_imp_iff, implies_true, and_true]
    refine ⟨?_, ?_, ?_, ?_, ?_, ?_, ?_, ?_⟩ <;> intro x
    · exact gate_at (k := 7) (by decide) slices_S1024x256_o0_0_S1024x128 shapeCasts_S1024x128_S1024x128 inb_S1024x1024_S1024x128_0_896 (columns_at arg4 f4 (k := 7) (by decide) inb_S1x1024x2048_S1x1024x256_0_0_1792) x
    · exact gate_at (k := 6) (by decide) slices_S1024x256_o0_0_S1024x128 shapeCasts_S1024x128_S1024x128 inb_S1024x1024_S1024x128_0_768 (columns_at arg4 f4 (k := 6) (by decide) inb_S1x1024x2048_S1x1024x256_0_0_1536) x
    · exact gate_at (k := 5) (by decide) slices_S1024x256_o0_0_S1024x128 shapeCasts_S1024x128_S1024x128 inb_S1024x1024_S1024x128_0_640 (columns_at arg4 f4 (k := 5) (by decide) inb_S1x1024x2048_S1x1024x256_0_0_1280) x
    · exact gate_at (k := 4) (by decide) slices_S1024x256_o0_0_S1024x128 shapeCasts_S1024x128_S1024x128 inb_S1024x1024_S1024x128_0_512 (columns_at arg4 f4 (k := 4) (by decide) inb_S1x1024x2048_S1x1024x256_0_0_1024) x
    · exact gate_at (k := 3) (by decide) slices_S1024x256_o0_0_S1024x128 shapeCasts_S1024x128_S1024x128 inb_S1024x1024_S1024x128_0_384 (columns_at arg4 f4 (k := 3) (by decide) inb_S1x1024x2048_S1x1024x256_0_0_768) x
    · exact gate_at (k := 2) (by decide) slices_S1024x256_o0_0_S1024x128 shapeCasts_S1024x128_S1024x128 inb_S1024x1024_S1024x128_0_256 (columns_at arg4 f4 (k := 2) (by decide) inb_S1x1024x2048_S1x1024x256_0_0_512) x
    · exact gate_at (k := 1) (by decide) slices_S1024x256_o0_0_S1024x128 shapeCasts_S1024x128_S1024x128 inb_S1024x1024_S1024x128_0_128 (columns_at arg4 f4 (k := 1) (by decide) inb_S1x1024x2048_S1x1024x256_0_0_256) x
    · exact gate_at (k := 0) (by decide) slices_S1024x256_o0_0_S1024x128 shapeCasts_S1024x128_S1024x128 inb_S1024x1024_S1024x128_0_0 (columns_at arg4 f4 (k := 0) (by decide) inb_S1x1024x2048_S1x1024x256_0_0_0) x
    ) z (by
    have h8 := div_lt z
    rcases (by omega : (z 1).val / 128 = 0 ∨ (z 1).val / 128 = 1 ∨ (z 1).val / 128 = 2 ∨ (z 1).val / 128 = 3 ∨ (z 1).val / 128 = 4 ∨ (z 1).val / 128 = 5 ∨ (z 1).val / 128 = 6 ∨ (z 1).val / 128 = 7) with h | h | h | h | h | h | h | h
    · exact (List.exists_mem_cons_of_exists (List.exists_mem_cons_of_exists (List.exists_mem_cons_of_exists (List.exists_mem_cons_of_exists (List.exists_mem_cons_of_exists (List.exists_mem_cons_of_exists (List.exists_mem_cons_of_exists (List.exists_mem_cons_of _ (mem_columns (k := 0) inb_S1024x1024_S1024x128_0_0 z h)))))))))
    · exact (List.exists_mem_cons_of_exists (List.exists_mem_cons_of_exists (List.exists_mem_cons_of_exists (List.exists_mem_cons_of_exists (List.exists_mem_cons_of_exists (List.exists_mem_cons_of_exists (List.exists_mem_cons_of _ (mem_columns (k := 1) inb_S1024x1024_S1024x128_0_128 z h))))))))
    · exact (List.exists_mem_cons_of_exists (List.exists_mem_cons_of_exists (List.exists_mem_cons_of_exists (List.exists_mem_cons_of_exists (List.exists_mem_cons_of_exists (List.exists_mem_cons_of _ (mem_columns (k := 2) inb_S1024x1024_S1024x128_0_256 z h)))))))
    · exact (List.exists_mem_cons_of_exists (List.exists_mem_cons_of_exists (List.exists_mem_cons_of_exists (List.exists_mem_cons_of_exists (List.exists_mem_cons_of _ (mem_columns (k := 3) inb_S1024x1024_S1024x128_0_384 z h))))))
    · exact (List.exists_mem_cons_of_exists (List.exists_mem_cons_of_exists (List.exists_mem_cons_of_exists (List.exists_mem_cons_of _ (mem_columns (k := 4) inb_S1024x1024_S1024x128_0_512 z h)))))
    · exact (List.exists_mem_cons_of_exists (List.exists_mem_cons_of_exists (List.exists_mem_cons_of _ (mem_columns (k := 5) inb_S1024x1024_S1024x128_0_640 z h))))
    · exact (List.exists_mem_cons_of_exists (List.exists_mem_cons_of _ (mem_columns (k := 6) inb_S1024x1024_S1024x128_0_768 z h)))
    · exact (List.exists_mem_cons_of _ (mem_columns (k := 7) inb_S1024x1024_S1024x128_0_896 z h))
    )
  exact key

abbrev linearsPieces (arg4 : Memref sig .tc .vmem S1x1024x2048 .f32) (f4 : arg4.view.ty.Contents (Elt F)) : List (View.Piece (Elt F) S1024x1024 .bf16) :=
  [⟨Rect.unit (s := S1024x1024) ![0, 896] S1024x128.size inb_S1024x1024_S1024x128_0_896,
      k0_pay4 k0_pay9 (arg4.view.readAt (Elt F) (Rect.unit (s := S1x1024x2048) ![0, 0, 1792] S1x1024x256.size inb_S1x1024x2048_S1x1024x256_0_0_1792).toLoadRect f4)⟩,
   ⟨Rect.unit (s := S1024x1024) ![0, 768] S1024x128.size inb_S1024x1024_S1024x128_0_768,
      k0_pay1 (k0_pay31 k0_pay9 (arg4.view.readAt (Elt F) (Rect.unit (s := S1x1024x2048) ![0, 0, 1536] S1x1024x256.size inb_S1x1024x2048_S1x1024x256_0_0_1536).toLoadRect f4))⟩,
   ⟨Rect.unit (s := S1024x1024) ![0, 640] S1024x128.size inb_S1024x1024_S1024x128_0_640,
      k0_pay28 k0_pay9 (arg4.view.readAt (Elt F) (Rect.unit (s := S1x1024x2048) ![0, 0, 1280] S1x1024x256.size inb_S1x1024x2048_S1x1024x256_0_0_1280).toLoadRect f4)⟩,
   ⟨Rect.unit (s := S1024x1024) ![0, 512] S1024x128.size inb_S1024x1024_S1024x128_0_512,
      k0_pay25 k0_pay9 (arg4.view.readAt (Elt F) (Rect.unit (s := S1x1024x2048) ![0, 0, 1024] S1x1024x256.size inb_S1x1024x2048_S1x1024x256_0_0_1024).toLoadRect f4)⟩,
   ⟨Rect.unit (s := S1024x1024) ![0, 384] S1024x128.size inb_S1024x1024_S1024x128_0_384,
      k0_pay22 k0_pay9 (arg4.view.readAt (Elt F) (Rect.unit (s := S1x1024x2048) ![0, 0, 768] S1x1024x256.size inb_S1x1024x2048_S1x1024x256_0_0_768).toLoadRect f4)⟩,
   ⟨Rect.unit (s := S1024x1024) ![0, 256] S1024x128.size inb_S1024x1024_S1024x128_0_256,
      k0_pay19 k0_pay9 (arg4.view.readAt (Elt F) (Rect.unit (s := S1x1024x2048) ![0, 0, 512] S1x1024x256.size inb_S1x1024x2048_S1x1024x256_0_0_512).toLoadRect f4)⟩,
   ⟨Rect.unit (s := S1024x1024) ![0, 128] S1024x128.size inb_S1024x1024_S1024x128_0_128,
      k0_pay16 (k0_pay13 (arg4.view.readAt (Elt F) (Rect.unit (s := S1x1024x2048) ![0, 0, 256] S1x1024x256.size inb_S1x1024x2048_S1x1024x256_0_0_256).toLoadRect f4))⟩,
   ⟨Rect.unit (s := S1024x1024) ![0, 0] S1024x128.size inb_S1024x1024_S1024x128_0_0,
      k0_pay12 (arg4.view.readAt (Elt F) (Rect.unit (s := S1x1024x2048) ![0, 0, 0] S1x1024x256.size inb_S1x1024x2048_S1x1024x256_0_0_0).toLoadRect f4)⟩]

theorem linears_kept (arg4 : Memref sig .tc .vmem S1x1024x2048 .f32) (f4 : arg4.view.ty.Contents (Elt F)) (G : S1024x1024.Idx → Elt F .bf16) :
    w1l.view.read (Elt F) (w1l.view.writes (Elt F) G (linearsPieces arg4 f4)) = linears (arg4.view.read (Elt F) f4) := by
  funext z
  have key := View.read_writes_apply_of_pieces w1l.view G (linears (arg4.view.read (Elt F) f4)) (linearsPieces arg4 f4) (by
    simp only [linearsPieces, List.forall_mem_cons, List.not_mem_nil, false_imp_iff, implies_true, and_true]
    refine ⟨?_, ?_, ?_, ?_, ?_, ?_, ?_, ?_⟩ <;> intro x
    · exact linear_at (k := 7) (by decide) slices_S1024x256_o0_128_S1024x128 shapeCasts_S1024x128_S1024x128 inb_S1024x1024_S1024x128_0_896 (columns_at arg4 f4 (k := 7) (by decide) inb_S1x1024x2048_S1x1024x256_0_0_1792) x
    · exact linear_at (k := 6) (by decide) slices_S1024x256_o0_128_S1024x128 shapeCasts_S1024x128_S1024x128 inb_S1024x1024_S1024x128_0_768 (columns_at arg4 f4 (k := 6) (by decide) inb_S1x1024x2048_S1x1024x256_0_0_1536) x
    · exact linear_at (k := 5) (by decide) slices_S1024x256_o0_128_S1024x128 shapeCasts_S1024x128_S1024x128 inb_S1024x1024_S1024x128_0_640 (columns_at arg4 f4 (k := 5) (by decide) inb_S1x1024x2048_S1x1024x256_0_0_1280) x
    · exact linear_at (k := 4) (by decide) slices_S1024x256_o0_128_S1024x128 shapeCasts_S1024x128_S1024x128 inb_S1024x1024_S1024x128_0_512 (columns_at arg4 f4 (k := 4) (by decide) inb_S1x1024x2048_S1x1024x256_0_0_1024) x
    · exact linear_at (k := 3) (by decide) slices_S1024x256_o0_128_S1024x128 shapeCasts_S1024x128_S1024x128 inb_S1024x1024_S1024x128_0_384 (columns_at arg4 f4 (k := 3) (by decide) inb_S1x1024x2048_S1x1024x256_0_0_768) x
    · exact linear_at (k := 2) (by decide) slices_S1024x256_o0_128_S1024x128 shapeCasts_S1024x128_S1024x128 inb_S1024x1024_S1024x128_0_256 (columns_at arg4 f4 (k := 2) (by decide) inb_S1x1024x2048_S1x1024x256_0_0_512) x
    · exact linear_at (k := 1) (by decide) slices_S1024x256_o0_128_S1024x128 shapeCasts_S1024x128_S1024x128 inb_S1024x1024_S1024x128_0_128 (columns_at arg4 f4 (k := 1) (by decide) inb_S1x1024x2048_S1x1024x256_0_0_256) x
    · exact linear_at (k := 0) (by decide) slices_S1024x256_o0_128_S1024x128 shapeCasts_S1024x128_S1024x128 inb_S1024x1024_S1024x128_0_0 (columns_at arg4 f4 (k := 0) (by decide) inb_S1x1024x2048_S1x1024x256_0_0_0) x
    ) z (by
    have h8 := div_lt z
    rcases (by omega : (z 1).val / 128 = 0 ∨ (z 1).val / 128 = 1 ∨ (z 1).val / 128 = 2 ∨ (z 1).val / 128 = 3 ∨ (z 1).val / 128 = 4 ∨ (z 1).val / 128 = 5 ∨ (z 1).val / 128 = 6 ∨ (z 1).val / 128 = 7) with h | h | h | h | h | h | h | h
    · exact (List.exists_mem_cons_of_exists (List.exists_mem_cons_of_exists (List.exists_mem_cons_of_exists (List.exists_mem_cons_of_exists (List.exists_mem_cons_of_exists (List.exists_mem_cons_of_exists (List.exists_mem_cons_of_exists (List.exists_mem_cons_of _ (mem_columns (k := 0) inb_S1024x1024_S1024x128_0_0 z h)))))))))
    · exact (List.exists_mem_cons_of_exists (List.exists_mem_cons_of_exists (List.exists_mem_cons_of_exists (List.exists_mem_cons_of_exists (List.exists_mem_cons_of_exists (List.exists_mem_cons_of_exists (List.exists_mem_cons_of _ (mem_columns (k := 1) inb_S1024x1024_S1024x128_0_128 z h))))))))
    · exact (List.exists_mem_cons_of_exists (List.exists_mem_cons_of_exists (List.exists_mem_cons_of_exists (List.exists_mem_cons_of_exists (List.exists_mem_cons_of_exists (List.exists_mem_cons_of _ (mem_columns (k := 2) inb_S1024x1024_S1024x128_0_256 z h)))))))
    · exact (List.exists_mem_cons_of_exists (List.exists_mem_cons_of_exists (List.exists_mem_cons_of_exists (List.exists_mem_cons_of_exists (List.exists_mem_cons_of _ (mem_columns (k := 3) inb_S1024x1024_S1024x128_0_384 z h))))))
    · exact (List.exists_mem_cons_of_exists (List.exists_mem_cons_of_exists (List.exists_mem_cons_of_exists (List.exists_mem_cons_of _ (mem_columns (k := 4) inb_S1024x1024_S1024x128_0_512 z h)))))
    · exact (List.exists_mem_cons_of_exists (List.exists_mem_cons_of_exists (List.exists_mem_cons_of _ (mem_columns (k := 5) inb_S1024x1024_S1024x128_0_640 z h))))
    · exact (List.exists_mem_cons_of_exists (List.exists_mem_cons_of _ (mem_columns (k := 6) inb_S1024x1024_S1024x128_0_768 z h)))
    · exact (List.exists_mem_cons_of _ (mem_columns (k := 7) inb_S1024x1024_S1024x128_0_896 z h))
    )
  exact key

theorem second_kept (f : S1024x1024.Idx → Elt F .bf16) (M : Memref sig .tc .vmem S1024x1024 .bf16) (W : M.view.ty.Contents (Elt F)) :
    M.view.read (Elt F) (M.view.writes (Elt F) W [⟨Rect.unit (s := S1024x1024) ![0, 0] S1024x1024.size inb_S1024x1024_S1024x1024_0_0, f⟩]) = f := by
  have e : ∀ x, (Rect.unit (s := S1024x1024) ![0, 0] S1024x1024.size inb_S1024x1024_S1024x1024_0_0).emb x = x := fun x => funext fun a => Fin.ext (by
    fin_cases a
    · show 0 + 1 * (x 0).val = (x 0).val
      omega
    · show 0 + 1 * (x 1).val = (x 1).val
      omega)
  funext z
  have key := View.read_writes_cons_emb (v := M.view) (f := W) (Rect.unit (s := S1024x1024) ![0, 0] S1024x1024.size inb_S1024x1024_S1024x1024_0_0) f [] z
  rw [e] at key
  exact key

abbrev laidPieces (g l : FVec F S256x1024 .f32) (q : F .f32) (w : Vec F S1024x1024 .bf16) (b : Vec F S1x1x1024 .f32) : List (View.Piece (Elt F) S2048x128 .f32) :=
  [⟨⟨(⟨![7, 0], S256x128.size, ![8, 1], inb_S2048x128_S256x128_7_0_s_8_1⟩ : LoadRect S2048x128), spos_8_1⟩,
      k0_pay7 (k0_pay35 g l q w b)⟩,
   ⟨⟨(⟨![6, 0], S256x128.size, ![8, 1], inb_S2048x128_S256x128_6_0_s_8_1⟩ : LoadRect S2048x128), spos_8_1⟩,
      k0_pay6 (k0_pay35 g l q w b)⟩,
   ⟨⟨(⟨![5, 0], S256x128.size, ![8, 1], inb_S2048x128_S256x128_5_0_s_8_1⟩ : LoadRect S2048x128), spos_8_1⟩,
      k0_pay41 g l q w b⟩,
   ⟨⟨(⟨![4, 0], S256x128.size, ![8, 1], inb_S2048x128_S256x128_4_0_s_8_1⟩ : LoadRect S2048x128), spos_8_1⟩,
      k0_pay40 g l q w b⟩,
   ⟨⟨(⟨![3, 0], S256x128.size, ![8, 1], inb_S2048x128_S256x128_3_0_s_8_1⟩ : LoadRect S2048x128), spos_8_1⟩,
      k0_pay39 g l q w b⟩,
   ⟨⟨(⟨![2, 0], S256x128.size, ![8, 1], inb_S2048x128_S256x128_2_0_s_8_1⟩ : LoadRect S2048x128), spos_8_1⟩,
      k0_pay38 g l q w b⟩,
   ⟨⟨(⟨![1, 0], S256x128.size, ![8, 1], inb_S2048x128_S256x128_1_0_s_8_1⟩ : LoadRect S2048x128), spos_8_1⟩,
      k0_pay37 g l q w b⟩,
   ⟨⟨(⟨![0, 0], S256x128.size, ![8, 1], inb_S2048x128_S256x128_0_0_s_8_1⟩ : LoadRect S2048x128), spos_8_1⟩,
      k0_pay36 g l q w b⟩]

theorem laid_kept (arg9 : Memref sig .tc .vmem S2048x128 .f32) (f9 : arg9.view.ty.Contents (Elt F)) (g l : FVec F S256x1024 .f32) (q : F .f32) (w : Vec F S1024x1024 .bf16)
    (b : Vec F S1x1x1024 .f32) :
    arg9.view.read (Elt F) (arg9.view.writes (Elt F) f9 (laidPieces g l q w b)) = laid (k0_pay35 g l q w b) := by
  funext z
  exact View.read_writes_apply_of_pieces arg9.view f9 (laid (k0_pay35 g l q w b)) (laidPieces g l q w b) (by
    simp only [laidPieces, List.forall_mem_cons, List.not_mem_nil, false_imp_iff, implies_true, and_true]
    refine ⟨?_, ?_, ?_, ?_, ?_, ?_, ?_, ?_⟩ <;> intro x
    · exact laid_at (s := 7) (by decide) slices_S256x1024_o0_896_S256x128 inb_S2048x128_S256x128_7_0_s_8_1 (k0_pay35 g l q w b) x
    · exact laid_at (s := 6) (by decide) slices_S256x1024_o0_768_S256x128 inb_S2048x128_S256x128_6_0_s_8_1 (k0_pay35 g l q w b) x
    · exact laid_at (s := 5) (by decide) slices_S256x1024_o0_640_S256x128 inb_S2048x128_S256x128_5_0_s_8_1 (k0_pay35 g l q w b) x
    · exact laid_at (s := 4) (by decide) slices_S256x1024_o0_512_S256x128 inb_S2048x128_S256x128_4_0_s_8_1 (k0_pay35 g l q w b) x
    · exact laid_at (s := 3) (by decide) slices_S256x1024_o0_384_S256x128 inb_S2048x128_S256x128_3_0_s_8_1 (k0_pay35 g l q w b) x
    · exact laid_at (s := 2) (by decide) slices_S256x1024_o0_256_S256x128 inb_S2048x128_S256x128_2_0_s_8_1 (k0_pay35 g l q w b) x
    · exact laid_at (s := 1) (by decide) slices_S256x1024_o0_128_S256x128 inb_S2048x128_S256x128_1_0_s_8_1 (k0_pay35 g l q w b) x
    · exact laid_at (s := 0) (by decide) slices_S256x1024_o0_0_S256x128 inb_S2048x128_S256x128_0_0_s_8_1 (k0_pay35 g l q w b) x
    ) z (by
    have h8 : (z 0).val % 8 < 8 := Nat.mod_lt _ (by decide)
    rcases (by omega : (z 0).val % 8 = 0 ∨ (z 0).val % 8 = 1 ∨ (z 0).val % 8 = 2 ∨ (z 0).val % 8 = 3 ∨ (z 0).val % 8 = 4 ∨ (z 0).val % 8 = 5 ∨ (z 0).val % 8 = 6 ∨ (z 0).val % 8 = 7) with h | h | h | h | h | h | h | h
    · exact (List.exists_mem_cons_of_exists (List.exists_mem_cons_of_exists (List.exists_mem_cons_of_exists (List.exists_mem_cons_of_exists (List.exists_mem_cons_of_exists (List.exists_mem_cons_of_exists (List.exists_mem_cons_of_exists (List.exists_mem_cons_of _ (mem_row (s := 0) (by decide) inb_S2048x128_S256x128_0_0_s_8_1 z h)))))))))
    · exact (List.exists_mem_cons_of_exists (List.exists_mem_cons_of_exists (List.exists_mem_cons_of_exists (List.exists_mem_cons_of_exists (List.exists_mem_cons_of_exists (List.exists_mem_cons_of_exists (List.exists_mem_cons_of _ (mem_row (s := 1) (by decide) inb_S2048x128_S256x128_1_0_s_8_1 z h))))))))
    · exact (List.exists_mem_cons_of_exists (List.exists_mem_cons_of_exists (List.exists_mem_cons_of_exists (List.exists_mem_cons_of_exists (List.exists_mem_cons_of_exists (List.exists_mem_cons_of _ (mem_row (s := 2) (by decide) inb_S2048x128_S256x128_2_0_s_8_1 z h)))))))
    · exact (List.exists_mem_cons_of_exists (List.exists_mem_cons_of_exists (List.exists_mem_cons_of_exists (List.exists_mem_cons_of_exists (List.exists_mem_cons_of _ (mem_row (s := 3) (by decide) inb_S2048x128_S256x128_3_0_s_8_1 z h))))))
    · exact (List.exists_mem_cons_of_exists (List.exists_mem_cons_of_exists (List.exists_mem_cons_of_exists (List.exists_mem_cons_of _ (mem_row (s := 4) (by decide) inb_S2048x128_S256x128_4_0_s_8_1 z h)))))
    · exact (List.exists_mem_cons_of_exists (List.exists_mem_cons_of_exists (List.exists_mem_cons_of _ (mem_row (s := 5) (by decide) inb_S2048x128_S256x128_5_0_s_8_1 z h))))
    · exact (List.exists_mem_cons_of_exists (List.exists_mem_cons_of _ (mem_row (s := 6) (by decide) inb_S2048x128_S256x128_6_0_s_8_1 z h)))
    · exact (List.exists_mem_cons_of _ (mem_row (s := 7) (by decide) inb_S2048x128_S256x128_7_0_s_8_1 z h))
    )

theorem zero_kept (arg9 : Memref sig .tc .vmem S2048x128 .f32) (f9 : arg9.view.ty.Contents (Elt F)) :
    arg9.view.read (Elt F) (arg9.view.writes (Elt F) f9 [⟨Rect.unit (s := S2048x128) ![0, 0] S2048x128.size inb_S2048x128_S2048x128_0_0, k0_pay8⟩]) = k0_pay8 := by
  have e : ∀ x, (Rect.unit (s := S2048x128) ![0, 0] S2048x128.size inb_S2048x128_S2048x128_0_0).emb x = x := fun x => funext fun a => Fin.ext (by
    fin_cases a
    · show 0 + 1 * (x 0).val = (x 0).val
      omega
    · show 0 + 1 * (x 1).val = (x 1).val
      omega)
  funext z
  have key := View.read_writes_cons_emb (v := arg9.view) (f := f9) (Rect.unit (s := S2048x128) ![0, 0] S2048x128.size inb_S2048x128_S2048x128_0_0) k0_pay8 [] z
  rw [e] at key
  exact key

/-! ## One point -/

/-- The word of the table a point reads as its expert, and the one of the point before it. -/
abbrev word1 (i : grid0.Coords) (E : S576.Idx → Elt F .i32) : BitVec 32 :=
  experts.view.readAt (Elt F) (Rect.unit (s := S576) (k0_off1 i) S1.size (k0_off1_inb i)).toLoadRect E (Shape.Idx.first (show 0 < S1.numel by rw [numel1_S1]; decide))
abbrev word2 (i : grid0.Coords) (E : S576.Idx → Elt F .i32) : BitVec 32 :=
  experts.view.readAt (Elt F) (Rect.unit (s := S576) (k0_off2 i) S1.size (k0_off2_inb i)).toLoadRect E (Shape.Idx.first (show 0 < S1.numel by rw [numel1_S1]; decide))
abbrev wordUsed (U : S1.Idx → Elt F .i32) : BitVec 32 :=
  used.view.readAt (Elt F) (Rect.unit (s := S1) ![0] S1.size inb_S1_S1_0).toLoadRect U (Shape.Idx.first (show 0 < S1.numel by rw [numel1_S1]; decide))

/-- The point starts, or its expert is not the one before it: it prepares the weights. -/
abbrev fresh (i : grid0.Coords) (E : S576.Idx → Elt F .i32) : BitVec 1 :=
  Scalar.cmpi .ne (Scalar.extui (Scalar.ori (Scalar.cmpi .eq (BitVec.ofNat 32 (i 0).val) 0#32) (Scalar.cmpi .ne (word1 i E) (word2 i E)))) 0#32

theorem cond_iff (i : grid0.Coords) (u : BitVec 32) : k0_cond3 i u = 1#1 ↔ ¬ k0_cond2 i u = 1#1 := by
  unfold k0_cond3 k0_cond2
  simp only [Scalar.cmpi, Scalar.extui, IntOp.cmpi, BitVec.sle, BitVec.slt]
  generalize (BitVec.ofNat 32 (i 0).val).toInt = a
  generalize u.toInt = b
  by_cases h : a < b
  · have h' : ¬ b ≤ a := by omega
    simp [h, h']
  · have h' : b ≤ a := by omega
    simp [h, h']

section Body

variable (c : Dev nD) (i : grid0.Coords) (arg3 : Memref sig .tc .vmem S2048x128 .f32) (harg3 : arg3.IsWhole)
  (arg4 : Memref sig .tc .vmem S1x1024x2048 .f32) (harg4 : arg4.IsWhole) (arg5 : Memref sig .tc .vmem S1x1x1024 .f32) (harg5 : arg5.IsWhole)
  (arg6 : Memref sig .tc .vmem S1x1x1024 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S2048x128 .f32) (harg9 : arg9.IsWhole)

/-- What a point leaves in the result: its tokens through its expert, or zeros past the blocks in use. -/
def outBlock (i : grid0.Coords) (u : BitVec 32) (X : S2048x128.Idx → Elt F .f32) (B : S1x1024x2048.Idx → Elt F .f32) (bg bl b2 : S1x1x1024.Idx → Elt F .f32)
    (C : S1x1024x1024.Idx → Elt F .f32) : S2048x128.Idx → Elt F .f32 :=
  if k0_cond2 i u = 1#1 then laid (outTokens X (gates B) (linears B) (k0_pay5 C) bg bl b2) else k0_pay8

theorem read_w1g (f : S1024x1024.Idx → Elt F .bf16) : w1g.view.read (Elt F) f = f := rfl
theorem read_w1l (f : S1024x1024.Idx → Elt F .bf16) : w1l.view.read (Elt F) f = f := rfl
theorem read_w2c (f : S1024x1024.Idx → Elt F .bf16) : w2c.view.read (Elt F) f = f := rfl

theorem wp_body (E : S576.Idx → Elt F .i32) (U : S1.Idx → Elt F .i32) (X : S2048x128.Idx → Elt F .f32) (B : S1x1024x2048.Idx → Elt F .f32)
    (bg bl b2 : S1x1x1024.Idx → Elt F .f32) (C : S1x1024x1024.Idx → Elt F .f32) (G L W : S1024x1024.Idx → Elt F .bf16)
    (hcarry : ¬ fresh i E = 1#1 → G = gates B ∧ L = linears B ∧ W = k0_pay5 C) :
    iprop(expertsAt c E ∗ usedAt c U ∗ owns (c : Thread nD τ) arg3 fullShare X ∗ owns (c : Thread nD τ) arg4 fullShare B ∗ owns (c : Thread nD τ) arg5 fullShare bg
        ∗ owns (c : Thread nD τ) arg6 fullShare bl ∗ owns (c : Thread nD τ) arg7 fullShare C ∗ owns (c : Thread nD τ) arg8 fullShare b2
        ∗ (∃ f, owns (c : Thread nD τ) arg9 fullShare f) ∗ w1gAt c G ∗ w1lAt c L ∗ w2cAt c W)
      ⊢ wp frame (wpE (defs₀ (F := F)) Variants.none (c : Thread nD τ) none) Set.univ
        (cc0_moe_ffn i experts (Memref.isWhole_whole _) used (Memref.isWhole_whole _) arg3 harg3 arg4 harg4 arg5 harg5 arg6 harg6 arg7 harg7 arg8 harg8 arg9 harg9
          w1g (Memref.isWhole_whole _) w1l (Memref.isWhole_whole _) w2c (Memref.isWhole_whole _))
        (fun _ => iprop(expertsAt c E ∗ usedAt c U ∗ owns (c : Thread nD τ) arg3 fullShare X ∗ owns (c : Thread nD τ) arg4 fullShare B ∗ owns (c : Thread nD τ) arg5 fullShare bg
        ∗ owns (c : Thread nD τ) arg6 fullShare bl ∗ owns (c : Thread nD τ) arg7 fullShare C ∗ owns (c : Thread nD τ) arg8 fullShare b2
        ∗ owns (c : Thread nD τ) arg9 fullShare (outBlock i (wordUsed U) X B bg bl b2 C) ∗ w1gAt c (gates B) ∗ w1lAt c (linears B) ∗ w2cAt c (k0_pay5 C))) := by
  rw [cc0_moe_ffn_eq_skeleton]
  unfold cc0_moe_ffn_skel
  rw [k0_part1_eq_skeleton, k0_part2_eq_skeleton, k0_part3_eq_skeleton]
  unfold k0_part1_skel k0_part2_skel k0_part3_skel
  unfold owns
  iintro ⟨HE, HU, ⟨%f3, %e3, H3⟩, ⟨%f4, %e4, H4⟩, ⟨%f5, %e5, H5⟩, ⟨%f6, %e6, H6⟩, ⟨%f7, %e7, H7⟩, ⟨%f8, %e8, H8⟩, ⟨%f, %f9, %e9, H9⟩, HG, HL, HW⟩
  sl_exec
  have e29 : wp_body.sl.v29 c i arg4 E G f4 = gates B := by
    unfold wp_body.sl.v29
    rw [View.readAt_full]
    by_cases h : wp_body.sl.v10 i E = 1#1
    · rw [dif_pos h, ← e4]; exact gates_kept arg4 f4 G
    · rw [dif_neg h]; exact (hcarry h).1
  have e35 : wp_body.sl.v35 c i arg4 E L f4 = linears B := by
    unfold wp_body.sl.v35
    rw [View.readAt_full]
    by_cases h : wp_body.sl.v10 i E = 1#1
    · rw [dif_pos h, ← e4]; exact linears_kept arg4 f4 L
    · rw [dif_neg h]; exact (hcarry h).2.1
  have e61 : wp_body.sl.v61 c i arg7 E W f7 = k0_pay5 C := by
    unfold wp_body.sl.v61
    rw [View.readAt_full]
    by_cases h : wp_body.sl.v10 i E = 1#1
    · rw [dif_pos h, ← e7, ← View.readAt_full arg7.view f7 inb_S1x1024x1024_S1x1024x1024_0_0_0]; exact second_kept _ w2c W
    · rw [dif_neg h]; exact (hcarry h).2.2
  sl_step
  isplitl [HE]; · iexact HE
  isplitl [HU]; · iexact HU
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]
  · iexists _; isplitr; swap
    · iexact H9
    ipureintro
    unfold outBlock
    by_cases h2 : k0_cond2 i (wp_body.sl.r_2 U) = 1#1
    · have h3 : ¬ k0_cond3 i (wp_body.sl.r_2 U) = 1#1 := fun h => (cond_iff i _).mp h h2
      rw [dif_neg h3, dif_pos h2, if_pos (show k0_cond2 i (wordUsed U) = 1#1 from h2)]
      refine (laid_kept arg9 f9 _ _ _ _ _).trans (congrArg laid ?_)
      unfold wp_body.sl.r_4 wp_body.sl.r_3 outTokens
      rw [e29, e35, e61, View.readAt_full, View.readAt_full, View.readAt_full, e5, e6, e8, ← e3]
      rw [← segment_at arg3 f3 (s := 0) (by decide) inb_S2048x128_S256x128_0_0_s_8_1, ← segment_at arg3 f3 (s := 1) (by decide) inb_S2048x128_S256x128_1_0_s_8_1,
        ← segment_at arg3 f3 (s := 2) (by decide) inb_S2048x128_S256x128_2_0_s_8_1, ← segment_at arg3 f3 (s := 3) (by decide) inb_S2048x128_S256x128_3_0_s_8_1,
        ← segment_at arg3 f3 (s := 4) (by decide) inb_S2048x128_S256x128_4_0_s_8_1, ← segment_at arg3 f3 (s := 5) (by decide) inb_S2048x128_S256x128_5_0_s_8_1,
        ← segment_at arg3 f3 (s := 6) (by decide) inb_S2048x128_S256x128_6_0_s_8_1, ← segment_at arg3 f3 (s := 7) (by decide) inb_S2048x128_S256x128_7_0_s_8_1]
      rfl
    · have h3 : k0_cond3 i (wp_body.sl.r_2 U) = 1#1 := (cond_iff i _).mpr h2
      rw [dif_pos h3, if_neg (show ¬ k0_cond2 i (wordUsed U) = 1#1 from h2)]
      exact zero_kept arg9 _
  isplitl [HG]
  · ihave H := (Entails.of_eq (show (_ : sProp 𝕄) = w1gAt c (gates B) from by
      rw [← e29]; unfold wp_body.sl.v29; rw [View.readAt_full]; exact congrArg (w1gAt c) (read_w1g _).symm)) $$ HG
    iexact H
  isplitl [HL]
  · ihave H := (Entails.of_eq (show (_ : sProp 𝕄) = w1lAt c (linears B) from by
      rw [← e35]; unfold wp_body.sl.v35; rw [View.readAt_full]; exact congrArg (w1lAt c) (read_w1l _).symm)) $$ HL
    iexact H
  ihave H := (Entails.of_eq (show (_ : sProp 𝕄) = w2cAt c (k0_pay5 C) from by
      rw [← e61]; unfold wp_body.sl.v61; rw [View.readAt_full w2c.view]; exact congrArg (w2cAt c) (read_w2c _).symm)) $$ HW
  iexact H

end Body

end Cert.Ffn

end
-- ==== Proof.FfnRun.lean ====
module

public import proofs.«01_k».proof.Proof.FfnBody

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (a : (pcfg0 (F := F)).Adm) (A : (c : Dev nD) → (b : Ref sig .tc) → Buf (Elt F) ((c : Thread nD τ).loc b))

/-- The two tables, at their own shapes. -/
abbrev tblE : S576.Idx → Elt F .i32 := a.1 0
abbrev tblU : S1.Idx → Elt F .i32 := a.1 1

/-! ## Which expert a point works for -/

theorem coords_val : ∀ t : Fin grid0.N, (grid0.coords t 0).val = t.val := by decide +kernel
theorem off1_val : ∀ t : Fin grid0.N, k0_off1 (grid0.coords t) = ![t.val] := by decide +kernel
theorem off2_val : ∀ t : Fin grid0.N, k0_off2 (grid0.coords t) = ![t.val - 1] := by decide +kernel

/-- Entry `n` of the experts' table. -/
abbrev entry (E : S576.Idx → Elt F .i32) (n : ℕ) (hn : n < 576) : BitVec 32 := E (ix1 (⟨n, hn⟩ : Fin 576))

theorem word1_eq (E : S576.Idx → Elt F .i32) (t : Fin grid0.N) : word1 (grid0.coords t) E = entry E t.val (N_0 ▸ t.isLt) := by
  show E _ = E _
  refine congrArg E (funext fun d => Fin.ext ?_)
  fin_cases d
  show k0_off1 (grid0.coords t) 0 + 1 * (Shape.Idx.first (s := S1) _ 0).val = t.val
  have h : (Shape.Idx.first (s := S1) (show 0 < S1.numel by rw [numel1_S1]; decide) 0).val < 1 := (Shape.Idx.first _ 0).isLt
  rw [off1_val]
  show t.val + 1 * _ = t.val
  omega

theorem word2_eq (E : S576.Idx → Elt F .i32) (t : Fin grid0.N) : word2 (grid0.coords t) E = entry E (t.val - 1) (Nat.lt_of_le_of_lt (Nat.sub_le _ _) (N_0 ▸ t.isLt)) := by
  show E _ = E _
  refine congrArg E (funext fun d => Fin.ext ?_)
  fin_cases d
  show k0_off2 (grid0.coords t) 0 + 1 * (Shape.Idx.first (s := S1) _ 0).val = t.val - 1
  have h : (Shape.Idx.first (s := S1) (show 0 < S1.numel by rw [numel1_S1]; decide) 0).val < 1 := (Shape.Idx.first _ 0).isLt
  rw [off2_val]
  show t.val - 1 + 1 * _ = t.val - 1
  omega

/-- A point that does not prepare the weights is not the first, and its expert is the one before it. -/
theorem not_fresh (E : S576.Idx → Elt F .i32) (t : Fin grid0.N) (h : ¬ fresh (grid0.coords t) E = 1#1) :
    t.val ≠ 0 ∧ word1 (grid0.coords t) E = word2 (grid0.coords t) E := by
  unfold fresh at h
  rw [coords_val] at h
  generalize word1 (grid0.coords t) E = v at h ⊢
  generalize word2 (grid0.coords t) E = b at h ⊢
  have key : ∀ p q : Bool, (p = true ∨ q = true) →
      Scalar.cmpi .ne (Scalar.extui (Scalar.ori (BitVec.ofBool p) (BitVec.ofBool q))) 0#32 = 1#1 := by
    intro p q
    cases p <;> cases q <;> simp <;> decide
  constructor
  · intro h0
    rw [h0] at h
    exact h (key _ _ (Or.inl (by decide)))
  · by_contra hab
    exact h (key _ _ (Or.inr (by show (v != b) = true; simpa using hab)))

/-- The table's entry a point's blocks are named by. -/
theorem named (t : Fin grid0.N) : a.1.at 0 (Rect.unit (s := S576) (k0_off1 (grid0.coords t)) S1.size (k0_off1_inb _)) numel1_S1 = entry (tblE a) t.val (N_0 ▸ t.isLt) := by
  rw [← word1_eq]; rfl

/-- The block of the weights a point works with is the one its entry names. -/
theorem index_1 (t : Fin (cfg0 a).N) : ((cfg0 a).win 1).index t = ![(entry (tblE a) t.val (N_0 ▸ t.isLt)).toNat, 0, 0] :=
  congrArg (fun w : BitVec 32 => ![w.toNat, 0, 0]) (named a t)
theorem index_2 (t : Fin (cfg0 a).N) : ((cfg0 a).win 2).index t = ![(entry (tblE a) t.val (N_0 ▸ t.isLt)).toNat, 0, 0] :=
  congrArg (fun w : BitVec 32 => ![w.toNat, 0, 0]) (named a t)
theorem index_3 (t : Fin (cfg0 a).N) : ((cfg0 a).win 3).index t = ![(entry (tblE a) t.val (N_0 ▸ t.isLt)).toNat, 0, 0] :=
  congrArg (fun w : BitVec 32 => ![w.toNat, 0, 0]) (named a t)
theorem index_4 (t : Fin (cfg0 a).N) : ((cfg0 a).win 4).index t = ![(entry (tblE a) t.val (N_0 ▸ t.isLt)).toNat, 0, 0] :=
  congrArg (fun w : BitVec 32 => ![w.toNat, 0, 0]) (named a t)
theorem index_5 (t : Fin (cfg0 a).N) : ((cfg0 a).win 5).index t = ![(entry (tblE a) t.val (N_0 ▸ t.isLt)).toNat, 0, 0] :=
  congrArg (fun w : BitVec 32 => ![w.toNat, 0, 0]) (named a t)

theorem iblk_1_congr (c : Dev nD) (t s : Fin (cfg0 a).N) (h : ((cfg0 a).win 1).index t = ((cfg0 a).win 1).index s)
    : (iblk a A c 1 t : S1x1024x2048.Idx → Elt F .f32) = iblk a A c 1 s := by
  funext x
  show A c main_arg2 _ = A c main_arg2 _
  refine congrArg (A c main_arg2) (funext fun d => Fin.ext ?_)
  show ((cfg0 a).win 1).index t d * _ + 1 * (x d).val = ((cfg0 a).win 1).index s d * _ + 1 * (x d).val
  rw [h]
theorem iblk_4_congr (c : Dev nD) (t s : Fin (cfg0 a).N) (h : ((cfg0 a).win 4).index t = ((cfg0 a).win 4).index s)
    : (iblk a A c 4 t : S1x1024x1024.Idx → Elt F .f32) = iblk a A c 4 s := by
  funext x
  show A c main_arg4 _ = A c main_arg4 _
  refine congrArg (A c main_arg4) (funext fun d => Fin.ext ?_)
  show ((cfg0 a).win 4).index t d * _ + 1 * (x d).val = ((cfg0 a).win 4).index s d * _ + 1 * (x d).val
  rw [h]

/-! ## Between points -/

abbrev X₀ (c : Dev nD) (t : Fin (cfg0 a).N) : S2048x128.Idx → Elt F .f32 := iblk a A c 0 t
abbrev B₀ (c : Dev nD) (t : Fin (cfg0 a).N) : S1x1024x2048.Idx → Elt F .f32 := iblk a A c 1 t
abbrev bg₀ (c : Dev nD) (t : Fin (cfg0 a).N) : S1x1x1024.Idx → Elt F .f32 := iblk a A c 2 t
abbrev bl₀ (c : Dev nD) (t : Fin (cfg0 a).N) : S1x1x1024.Idx → Elt F .f32 := iblk a A c 3 t
abbrev C₀ (c : Dev nD) (t : Fin (cfg0 a).N) : S1x1024x1024.Idx → Elt F .f32 := iblk a A c 4 t
abbrev b2₀ (c : Dev nD) (t : Fin (cfg0 a).N) : S1x1x1024.Idx → Elt F .f32 := iblk a A c 5 t

/-- What a point leaves in the result's block. -/
def O₀ (c : Dev nD) (t : Fin (cfg0 a).N) : S2048x128.Idx → Elt F .f32 :=
  outBlock (grid0.coords t) (wordUsed (tblU a)) (X₀ a A c t) (B₀ a A c t) (bg₀ a A c t) (bl₀ a A c t) (b2₀ a A c t) (C₀ a A c t)

/-- After `n` points the scratch holds the weights of the last one. -/
def Holds (c : Dev nD) (n : ℕ) (G L W : S1024x1024.Idx → Elt F .bf16) : Prop :=
  ∀ s : Fin (cfg0 a).N, n = s.val + 1 → G = gates (B₀ a A c s) ∧ L = linears (B₀ a A c s) ∧ W = k0_pay5 (C₀ a A c s)

def Inv (c : Dev nD) (n : ℕ) : sProp 𝕄 :=
  iprop(expertsAt c (tblE a) ∗ usedAt c (tblU a) ∗ (∃ G L W, ⌜Holds a A c n G L W⌝ ∗ w1gAt c G ∗ w1lAt c L ∗ w2cAt c W) ∗ ∃ r, prngReg c r)

def dats (_ : Fin 1) (c : Dev nD) : Dat τ (Elt F) Unit ℕ (UR sig nD τ) ℕ (cfg0 a) c where
  A w := A c (Pipeline.arrRef spec0 w)
  after w t := match w with
    | ⟨0, _⟩ => iblk a A c 0 t
    | ⟨1, _⟩ => iblk a A c 1 t
    | ⟨2, _⟩ => iblk a A c 2 t
    | ⟨3, _⟩ => iblk a A c 3 t
    | ⟨4, _⟩ => iblk a A c 4 t
    | ⟨5, _⟩ => iblk a A c 5 t
    | ⟨6, _⟩ => O₀ a A c t
  Φ t := Inv a A c t.val
  q _ := fullShare
  owed _ := 0

theorem A_eq (c : Dev nD) (w : Fin (cfg0 a).W) : (dats a A 0 c).A w = A c (Pipeline.arrRef spec0 w) := rfl
theorem after_0 (c : Dev nD) (t : Fin (cfg0 a).N) : (dats a A 0 c).after 0 t = iblk a A c 0 t := rfl
theorem after_1 (c : Dev nD) (t : Fin (cfg0 a).N) : (dats a A 0 c).after 1 t = iblk a A c 1 t := rfl
theorem after_2 (c : Dev nD) (t : Fin (cfg0 a).N) : (dats a A 0 c).after 2 t = iblk a A c 2 t := rfl
theorem after_3 (c : Dev nD) (t : Fin (cfg0 a).N) : (dats a A 0 c).after 3 t = iblk a A c 3 t := rfl
theorem after_4 (c : Dev nD) (t : Fin (cfg0 a).N) : (dats a A 0 c).after 4 t = iblk a A c 4 t := rfl
theorem after_5 (c : Dev nD) (t : Fin (cfg0 a).N) : (dats a A 0 c).after 5 t = iblk a A c 5 t := rfl
theorem after_6 (c : Dev nD) (t : Fin (cfg0 a).N) : (dats a A 0 c).after 6 t = O₀ a A c t := rfl

theorem before_0 (c : Dev nD) (t : Fin (cfg0 a).N) (d) : (dats a A 0 c).before 0 t d = iblk a A c 0 t := before_0_of a A _ (A_eq a A c 0) (after_0 a A c) t d
theorem before_1 (c : Dev nD) (t : Fin (cfg0 a).N) (d) : (dats a A 0 c).before 1 t d = iblk a A c 1 t := before_1_of a A _ (A_eq a A c 1) (after_1 a A c) t d
theorem before_2 (c : Dev nD) (t : Fin (cfg0 a).N) (d) : (dats a A 0 c).before 2 t d = iblk a A c 2 t := before_2_of a A _ (A_eq a A c 2) (after_2 a A c) t d
theorem before_3 (c : Dev nD) (t : Fin (cfg0 a).N) (d) : (dats a A 0 c).before 3 t d = iblk a A c 3 t := before_3_of a A _ (A_eq a A c 3) (after_3 a A c) t d
theorem before_4 (c : Dev nD) (t : Fin (cfg0 a).N) (d) : (dats a A 0 c).before 4 t d = iblk a A c 4 t := before_4_of a A _ (A_eq a A c 4) (after_4 a A c) t d
theorem before_5 (c : Dev nD) (t : Fin (cfg0 a).N) (d) : (dats a A 0 c).before 5 t d = iblk a A c 5 t := before_5_of a A _ (A_eq a A c 5) (after_5 a A c) t d

/-- The kernel's body at a point, on what it is handed. -/
abbrev bodyAt (t : Fin (cfg0 a).N) : Prog (TpuEff nD τ sig (Elt F) Λ₀ .tc) PUnit :=
  cc0_moe_ffn (grid0.coords t) (Memref.whole main_v21) (Memref.isWhole_whole _) (Memref.whole main_v23) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (spec0_5.stage ((cfg0 a).slots t 5)) (hstage0_5 (((cfg0 a).slots t 5).cast nbuf0_5))
    (spec0_6.stage ((cfg0 a).slots t 6)) (hstage0_6 (((cfg0 a).slots t 6).cast nbuf0_6)) (Memref.whole cc0_scratch0) (Memref.isWhole_whole _) (Memref.whole cc0_scratch1)
    (Memref.isWhole_whole _) (Memref.whole cc0_scratch2) (Memref.isWhole_whole _)

/-- A block's buffer at a point. -/
abbrev stg (t : Fin (cfg0 a).N) (w : Fin (cfg0 a).W) := ((cfg0 a).win w).stage ((cfg0 a).slots t w)

def bodyPre (c : Dev nD) (t : Fin (cfg0 a).N) : sProp 𝕄 :=
  iprop((dats a A 0 c).Φ t.castSucc ∗ (dats a A 0 c).owesAt () t.castSucc
    ∗ (∃ d, owns (c : Thread nD τ) (stg a t 0) fullShare ((dats a A 0 c).before 0 t d))
    ∗ (∃ d, owns (c : Thread nD τ) (stg a t 1) fullShare ((dats a A 0 c).before 1 t d))
    ∗ (∃ d, owns (c : Thread nD τ) (stg a t 2) fullShare ((dats a A 0 c).before 2 t d))
    ∗ (∃ d, owns (c : Thread nD τ) (stg a t 3) fullShare ((dats a A 0 c).before 3 t d))
    ∗ (∃ d, owns (c : Thread nD τ) (stg a t 4) fullShare ((dats a A 0 c).before 4 t d))
    ∗ (∃ d, owns (c : Thread nD τ) (stg a t 5) fullShare ((dats a A 0 c).before 5 t d))
    ∗ (∃ d, owns (c : Thread nD τ) (stg a t 6) fullShare ((dats a A 0 c).before 6 t d)))
def bodyPost (c : Dev nD) (t : Fin (cfg0 a).N) : sProp 𝕄 :=
  iprop((dats a A 0 c).Φ t.succ ∗ (dats a A 0 c).owesAt () t.succ
    ∗ owns (c : Thread nD τ) (stg a t 0) fullShare ((dats a A 0 c).after 0 t)
    ∗ owns (c : Thread nD τ) (stg a t 1) fullShare ((dats a A 0 c).after 1 t)
    ∗ owns (c : Thread nD τ) (stg a t 2) fullShare ((dats a A 0 c).after 2 t)
    ∗ owns (c : Thread nD τ) (stg a t 3) fullShare ((dats a A 0 c).after 3 t)
    ∗ owns (c : Thread nD τ) (stg a t 4) fullShare ((dats a A 0 c).after 4 t)
    ∗ owns (c : Thread nD τ) (stg a t 5) fullShare ((dats a A 0 c).after 5 t)
    ∗ owns (c : Thread nD τ) (stg a t 6) fullShare ((dats a A 0 c).after 6 t))

theorem carry (c : Dev nD) (t : Fin (cfg0 a).N) (G L W : S1024x1024.Idx → Elt F .bf16) (h : Holds a A c t.val G L W)
    (hf : ¬ fresh (grid0.coords t) (tblE a) = 1#1) : G = gates (B₀ a A c t) ∧ L = linears (B₀ a A c t) ∧ W = k0_pay5 (C₀ a A c t) := by
  obtain ⟨h0, hw⟩ := not_fresh (tblE a) t hf
  rw [word1_eq, word2_eq] at hw
  have hs : t.val - 1 < (cfg0 a).N := Nat.lt_of_le_of_lt (Nat.sub_le _ _) t.isLt
  have e1 : B₀ a A c t = B₀ a A c ⟨t.val - 1, hs⟩ := iblk_1_congr a A c t ⟨t.val - 1, hs⟩ (by rw [index_1, index_1]; exact congrArg (fun w : BitVec 32 => ![w.toNat, 0, 0]) hw)
  have e4 : C₀ a A c t = C₀ a A c ⟨t.val - 1, hs⟩ := iblk_4_congr a A c t ⟨t.val - 1, hs⟩ (by rw [index_4, index_4]; exact congrArg (fun w : BitVec 32 => ![w.toNat, 0, 0]) hw)
  rw [e1, e4]
  exact h ⟨t.val - 1, hs⟩ (by show t.val = t.val - 1 + 1; omega)

theorem holds_succ (c : Dev nD) (t : Fin (cfg0 a).N) : Holds a A c (t.val + 1) (gates (B₀ a A c t)) (linears (B₀ a A c t)) (k0_pay5 (C₀ a A c t)) := by
  intro s hs
  obtain rfl : t = s := Fin.ext (by omega)
  exact ⟨rfl, rfl, rfl⟩

theorem sound_body (c : Dev nD) (t : Fin (cfg0 a).N) :
    bodyPre a A c t ⊢ wp frame (wpE (defs₀ (F := F)) Variants.none c none) Set.univ (bodyAt a t) (fun _ => bodyPost a A c t) := by
  unfold bodyPre bodyPost
  rw [show (dats a A 0 c).Φ t.succ = Inv a A c (t.val + 1) from rfl, show (dats a A 0 c).Φ t.castSucc = Inv a A c t.val from rfl,
    after_0, after_1, after_2, after_3, after_4, after_5, after_6]
  rw [show (dats a A 0 c).owesAt () t.succ = (dats a A 0 c).owesAt () t.castSucc from rfl]
  simp only [before_0, before_1, before_2, before_3, before_4, before_5]
  unfold Inv
  iintro ⟨⟨HE, HU, ⟨%G, %L, %W, %hH, HG, HL, HW⟩, Hp⟩, HO, ⟨%d0, H0⟩, ⟨%d1, H1⟩, ⟨%d2, H2⟩, ⟨%d3, H3⟩, ⟨%d4, H4⟩, ⟨%d5, H5⟩, ⟨%d6, H6⟩⟩
  have body := wp_body c (grid0.coords t) (stg a t 0) (hstage0_0 (((cfg0 a).slots t 0).cast nbuf0_0)) (stg a t 1) (hstage0_1 (((cfg0 a).slots t 1).cast nbuf0_1))
    (stg a t 2) (hstage0_2 (((cfg0 a).slots t 2).cast nbuf0_2)) (stg a t 3) (hstage0_3 (((cfg0 a).slots t 3).cast nbuf0_3))
    (stg a t 4) (hstage0_4 (((cfg0 a).slots t 4).cast nbuf0_4)) (stg a t 5) (hstage0_5 (((cfg0 a).slots t 5).cast nbuf0_5))
    (stg a t 6) (hstage0_6 (((cfg0 a).slots t 6).cast nbuf0_6)) (tblE a) (tblU a) (X₀ a A c t) (B₀ a A c t) (bg₀ a A c t) (bl₀ a A c t) (b2₀ a A c t)
    (C₀ a A c t) G L W (carry a A c t G L W hH)
  iapply (wp_wand _ _ _) $$ [HE HU HG HL HW H0 H1 H2 H3 H4 H5 H6]
  · iapply body
    isplitl [HE]; · iexact HE
    isplitl [HU]; · iexact HU
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HG]; · iexact HG
    isplitl [HL]; · iexact HL
    iexact HW
  iintro %_ ⟨HE, HU, H0, H1, H2, H3, H4, H5, H6, HG, HL, HW⟩
  isplitl [HE HU HG HL HW Hp]
  · isplitl [HE]; · iexact HE
    isplitl [HU]; · iexact HU
    isplitl [HG HL HW]
    · iexists _; iexists _; iexists _
      isplitr; · ipureintro; exact holds_succ a A c t
      isplitl [HG]; · iexact HG
      isplitl [HL]; · iexact HL
      iexact HW
    iexact Hp
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 a).N) : defs₀ (F := F) .tc (cfg0 a).body ((cfg0 a).bodyArgs t ((cfg0 a).slots t)) = bodyAt a t := by
  unfold defs₀; rw [Defs.onTc_tc]

theorem body_obligation (c : Dev nD) : BodyObligation (dats (F := F) a A 0 c) (defs₀ (F := F)) Variants.none () Set.univ := fun t => by
  rw [bigSep_W0, bigSep_W0, defs₀_row]
  rw [flush_6]
  refine triple_restated (sound_body a A c t) rfl .rfl fun _ => ?_
  unfold bodyPost
  refine sep_mono .rfl (sep_mono .rfl (sep_mono .rfl (sep_mono .rfl (sep_mono .rfl (sep_mono .rfl (sep_mono .rfl (sep_mono .rfl (Entails.of_eq ?_))))))))
  dsimp only
  split <;> rfl

/-! ## The launch -/

theorem inv_in (c : Dev nD) : iprop((Pipeline.ΦA spec0 c : sProp 𝕄) ∗ Pipeline.ΦT pre0 a.1 c) ⊢ Inv a A c 0 := by
  rw [tables_eq]
  unfold Pipeline.ΦA Inv
  rw [scopedRest0_eq]
  iintro ⟨⟨⟨⟨%G, HG⟩, ⟨%L, HL⟩, ⟨%W, HW⟩⟩, Hp⟩, HE, HU⟩
  isplitl [HE]; · iexact HE
  isplitl [HU]; · iexact HU
  isplitl [HG HL HW]
  · iexists G; iexists L; iexists W
    isplitr; · ipureintro; exact fun s hs => absurd hs (by omega)
    isplitl [HG]; · iexact HG
    isplitl [HL]; · iexact HL
    iexact HW
  iexact Hp

theorem inv_out (c : Dev nD) (n : ℕ) : Inv a A c n ⊢ (Pipeline.ΦA spec0 c : sProp 𝕄) := by
  unfold Pipeline.ΦA Inv
  rw [scopedRest0_eq]
  iintro ⟨-, -, ⟨%G, %L, %W, -, HG, HL, HW⟩, Hp⟩
  isplitl [HG HL HW]
  · isplitl [HG]; · iexists G; iexact HG
    isplitl [HL]; · iexists L; iexact HL
    iexists W; iexact HW
  iexact Hp

/-- THE RUN: from any memory whose table of experts names experts, the program ends, nothing faulting, with the arguments
    unchanged, the result as the points write it, and every semaphore at zero. -/
theorem run_main (m : (ℓ : Loc nD τ sig) → Buf (Elt F) ℓ) (ρ : Dev nD → PrngReg) (hO : Ok m) : θ_run defs (onTc (τ := τ) (main (F := F))) ⟨m, fun _ => 0, ρ⟩ (fun r => (∀ c : Dev nD,
      r.2.mem ((c.tc : Thread nD τ).loc main_v29) = (dats (adm m hO) (V m) 0 c).arrAt 6 (cfg0 (adm m hO)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frameP_track pcfgs (fun _ => adm m hO) (dats (adm m hO) (V m)) (0 : Fin 1) launch0 defs₀ Variants.none m ρ main
    (hbody := fun c => (body_obligation (adm m hO) (V m) c).loose) (hshare := fun c => (dats (adm m hO) (V m) 0 c).share_full fun _ => rfl)
    (howed := fun _ _ => rfl) (V := V m) (hmain := hmain m) (hA := A_eq (adm m hO) (V m)) (hpf := V_pre m)
    (hin := fun c => inv_in (adm m hO) (V m) c) (hout := fun c => inv_out (adm m hO) (V m) c _)
    (Q' := _) (hQ' := fun r h => ⟨fun c => ⟨(h.1 c).1 6,
      ((h.1 c).1 0).trans (((dats (adm m hO) (V m) 0 c).arrAt_in 0 rfl _).trans ((A_eq (adm m hO) (V m) c 0).trans (V_main_arg0 m c))),
      ((h.1 c).2 main_arg1 (show main_arg1 ∈ Pipeline.restRefs sig spec0 from Pipeline.mem_restRefs_of main_arg1 (by decide) (by decide))).trans (V_main_arg1 m c),
      ((h.1 c).1 1).trans (((dats (adm m hO) (V m) 0 c).arrAt_in 1 rfl _).trans ((A_eq (adm m hO) (V m) c 1).trans (V_main_arg2 m c))),
      ((h.1 c).2 main_arg3 (show main_arg3 ∈ Pipeline.restRefs sig spec0 from Pipeline.mem_restRefs_of main_arg3 (by decide) (by decide))).trans (V_main_arg3 m c),
      ((h.1 c).1 4).trans (((dats (adm m hO) (V m) 0 c).arrAt_in 4 rfl _).trans ((A_eq (adm m hO) (V m) c 4).trans (V_main_arg4 m c))),
      ((h.1 c).2 main_arg5 (show main_arg5 ∈ Pipeline.restRefs sig spec0 from Pipeline.mem_restRefs_of main_arg5 (by decide) (by decide))).trans (V_main_arg5 m c)⟩, h.2⟩)

end Cert.Ffn

end
-- ==== Proof.FfnOk.lean ====
module

public import proofs.«01_k».proof.Proof.FfnRun
public import proofs.«01_k».proof.Proof.Gen.ExpertsReferenceIdeal.Read
public import Idealize.ShloMosaic.Lib.IndicatorCount
public import Idealize.ShloMosaic.Lib.Pointwise
public import Idealize.ShloMosaic.Lib.StableHlo.RunRead

@[expose] public section

set_option maxRecDepth 16384

/-! # The two tables that the kernel is handed, as the reference's own integers -/

noncomputable section

namespace Cert.Ffn

open Idealize.ShloMosaic Idealize.ShloMosaic.TcCoe Idealize.ShloMosaic.Tactic
open Cert.ExpertsReferenceIdeal.Read Cert.ExpertsIdeal Cert.ExpertsIdeal.Gen

variable {F : FTy → Type} [FloatOps F] (m : (ℓ : Loc nD τ sig) → Buf (Elt F) ℓ)

/-- The table of the experts: the reference's expert of each block. -/
theorem V_main_v21 (c : Dev nD) : V m c main_v21 = Cert.ExpertsReferenceIdeal.Read.val_main_v22 (F := F) (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.ofBuf, StableHlo.TRef.toBuf, cast_eq, id]
  simp only [val_main_v0, val_main_v1, val_main_c, val_main_v2, val_main_v3, val_main_c_0, val_main_v4, val_main_v5, val_main_c_1, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v6, val_main_c_2, val_main_v7, val_main_v8, val_main_call1_call0_c, val_main_call1_call0_v0, val_main_v9, val_main_v10, val_main_v11, val_main_c_3, val_main_v12, val_main_v13, val_main_v14, val_main_v15, val_main_v16, val_main_v17, val_main_v18, val_main_v19, val_main_c_4, val_main_v20, val_main_c_5, val_main_v21, val_main_v22]
  rfl
theorem V_main_v25 (c : Dev nD) : V m c main_v25 = (broadcastInDim S32x1x1024 ![0, 2] bcast_S32x1024_S32x1x1024_0_2
    (Host.slice S32x1024 ![0, 0] ![1, 2] (m ((c : Thread nD τ).loc main_arg3)) slicesBy_S32x2048_S32x1024_0s1_0s2) : S32x1x1024.Idx → Elt F .f32) := by
  unfold V
  simp only [hostOps0, hostOps0_1, hostOps0_2, hostOps0_3, hostOps0_4, hostOps0_5, hostOps0_6, List.flatten_cons, List.flatten_nil, List.append_nil, List.cons_append, List.nil_append]
  after_reads_simp

theorem V_main_v27 (c : Dev nD) : V m c main_v27 = (broadcastInDim S32x1x1024 ![0, 2] bcast_S32x1024_S32x1x1024_0_2
    (Host.slice S32x1024 ![0, 1] ![1, 2] (m ((c : Thread nD τ).loc main_arg3)) slicesBy_S32x2048_S32x1024_0s1_1s2) : S32x1x1024.Idx → Elt F .f32) := by
  unfold V
  simp only [hostOps0, hostOps0_1, hostOps0_2, hostOps0_3, hostOps0_4, hostOps0_5, hostOps0_6, List.flatten_cons, List.flatten_nil, List.append_nil, List.cons_append, List.nil_append]
  after_reads_simp

theorem V_main_v28 (c : Dev nD) : V m c main_v28 = (broadcastInDim S32x1x1024 ![0, 2] bcast_S32x1024_S32x1x1024_0_2 (m ((c : Thread nD τ).loc main_arg5)) : S32x1x1024.Idx → Elt F .f32) := by
  unfold V
  simp only [hostOps0, hostOps0_1, hostOps0_2, hostOps0_3, hostOps0_4, hostOps0_5, hostOps0_6, List.flatten_cons, List.flatten_nil, List.append_nil, List.cons_append, List.nil_append]
  after_reads_simp

/-- The quotient of the last group's end by a block's 256 rows, as the host's own words. -/
def blocksOf (E : S32.Idx → BitVec 32) : S1.Idx → BitVec 32 :=
  let x : S1.Idx → BitVec 32 := extractStridedSlice S1 ![31] E slices_S32_S1_31
  let d : S1.Idx → BitVec 32 := broadcastInDim S1 ![] bcast_S_S1 (constantI S_ 32 256#32)
  select (andi (cmpi .ne (signi x) (broadcastInDim S1 ![] bcast_S_S1 (signi (constantI S_ 32 256#32))))
      (cmpi .ne (Host.remsi x d) (broadcastInDim S1 ![] bcast_S_S1 (constantI S_ 32 0#32))))
    (subi (Host.divsi x d) (broadcastInDim S1 ![] bcast_S_S1 (constantI S_ 32 1#32))) (Host.divsi x d)

theorem V_main_v23_eq (c : Dev nD) : V m c main_v23 = blocksOf (val_main_v9 (F := F) (m ((c : Thread nD τ).loc main_arg1))) := by
  unfold V
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.ofBuf, StableHlo.TRef.toBuf, cast_eq, id]
  unfold blocksOf
  simp only [val_main_v0, val_main_v1, val_main_c, val_main_v2, val_main_v3, val_main_c_0, val_main_v4, val_main_v5, val_main_c_1, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v6, val_main_c_2, val_main_v7, val_main_v8, val_main_call1_call0_c, val_main_call1_call0_v0, val_main_v9]
  rfl

/-- The sign of a word, and the word divided by 256 towards minus infinity, as the host computes them. -/
def signWord (x : BitVec 32) : BitVec 32 := if x = 0 then 0 else if x.msb then -1 else 1
def blocksWord (x : BitVec 32) : BitVec 32 :=
  Scalar.select (IntOp.andi (IntOp.cmpi .ne (signWord x) (signWord 256#32)) (IntOp.cmpi .ne (IntOp.remsi .host x 256#32) 0#32))
    (IntOp.subi (IntOp.divsi .host x 256#32) 1#32) (IntOp.divsi .host x 256#32)

theorem blocksOf_apply (E : S32.Idx → BitVec 32) (j : S1.Idx) : blocksOf E j = blocksWord (extractStridedSlice S1 ![31] E slices_S32_S1_31 j) := rfl

theorem val_main_v79_word (x1 : (⟨S32x128, .i32⟩ : BufTy).Contents (Elt F)) (i : Cert.ExpertsReferenceIdeal.S_.Idx) :
    val_main_v79 (F := F) x1 i = blocksWord (val_main_v78 (F := F) x1 i) := rfl

/-- The number of blocks the groups fill: the reference's own. -/
theorem V_main_v23 (c : Dev nD) (j : S1.Idx) : V m c main_v23 j = val_main_v79 (F := F) (m ((c : Thread nD τ).loc main_arg1)) (fun d => d.elim0) := by
  rw [V_main_v23_eq, val_main_v79_word]
  refine (blocksOf_apply _ j).trans (congrArg blocksWord ?_)
  unfold val_main_v78 val_main_v77
  generalize val_main_v9 (F := F) (m ((c : Thread nD τ).loc main_arg1)) = E
  symm
  refine shapeCast_apply _ _ _ j ?_
  have h0 : (j 0).val < 1 := (j 0).isLt
  rw [Shape.rowMajor_val_one]
  generalize Shape.rowMajor _ _ = r
  have e : r.val < 1 := r.isLt
  omega

/-! ## Every entry of the experts' table names one of the 32 experts -/

theorem expert_le (x1 : (⟨S32x128, .i32⟩ : BufTy).Contents (Elt F)) (i : S576.Idx) : (val_main_v22 (F := F) x1 i).toNat ≤ 31 := by
  rw [val_main_v22_apply]
  have e : val_main_v21 (F := F) i = 31#32 := by rw [val_main_v21_apply]; rfl
  rw [e]
  have h20 : ∃ n, n ≤ 32 ∧ val_main_v20 (F := F) x1 i = BitVec.ofNat 32 n := by
    unfold val_main_v20
    rw [Host.reduce_eq_fold]
    rw [Shape.ReducesTo.fold_fiber_r2_a1]
    refine ⟨_, ?_, IndicatorCount.fold_addi_setWidth_eq_card (fun k : Fin 32 => val_main_v18 (F := F) x1 (ix2 _ k)) Finset.univ⟩
    exact (Finset.card_le_univ _).trans (le_of_eq (Fintype.card_fin 32))
  obtain ⟨n, hn, h⟩ := h20
  rw [h]
  unfold IntOp.minsi
  interval_cases n <;> decide

theorem ok_of (T : pre0.Contents (Elt F)) (hT : ∀ j : S576.Idx, BitVec.toNat (T 0 j) ≤ 31) : ok0 T := by
  have h : ∀ i : grid0.Coords, (T.at 0 (Rect.unit (s := S576) (k0_off1 i) S1.size (k0_off1_inb i)) numel1_S1).toNat ≤ 31 := fun i => hT _
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  all_goals
    have hi := h i
    fin_cases a
    · show ((T.at 0 (Rect.unit (s := S576) (k0_off1 i) S1.size (k0_off1_inb i)) numel1_S1).toNat + 1) * 1 ≤ 32
      omega
    · show (0 + 1) * _ ≤ _
      decide
    · show (0 + 1) * _ ≤ _
      decide

theorem tbl_0 : (tbl m 0 : S576.Idx → Elt F .i32) = val_main_v22 (F := F) (m (((0 : Dev nD) : Thread nD τ).loc main_arg1)) := V_main_v21 m 0

/-- The launch is always defined: the tables that the host computes name blocks of their arrays. -/
theorem ok : Ok m := ok_of (tbl m) fun j => by
  have h := congrFun (tbl_0 m) j
  rw [h]
  exact expert_le _ j

end Cert.Ffn
end
-- ==== Proof.FfnIdeal.lean ====
/-
  The experts' kernel at the extended reals, element by element. The permutation's matrix holds one 1 in each column, so a
  chunk of weights times it is the chunk's columns rearranged: the even ones first, then the odd ones. What the body keeps
  is therefore the weight's even columns and its odd ones, and a token's output is `expertOut` of its 1024 activations.
-/
module

public import proofs.«01_k».proof.Proof.FfnBody
public import Idealize.ShloMosaic.Lib.Pointwise

@[expose] public section

set_option maxRecDepth 16384

noncomputable section

namespace Cert.Ffn

open Idealize.ShloMosaic Idealize.ShloMosaic.TcCoe

/-! ## One token through one expert -/

/-- The first layer's `j`-th output. -/
def firstLayer (x : Fin 1024 → EReal) (w : Fin 1024 → Fin 2048 → EReal) (b : Fin 2048 → EReal) (j : Fin 2048) : EReal :=
  (∑ k, x k * w k j) + b j

/-- The gate: an even output, at most 7. -/
def gate (x : Fin 1024 → EReal) (w : Fin 1024 → Fin 2048 → EReal) (b : Fin 2048 → EReal) (j : Fin 1024) : EReal :=
  min (firstLayer x w b ⟨2 * j.val, by omega⟩) (Ideal.ofBits .f32 0x40E00000#32)

/-- The linear part: an odd output, between -7 and 7. -/
def linear (x : Fin 1024 → EReal) (w : Fin 1024 → Fin 2048 → EReal) (b : Fin 2048 → EReal) (j : Fin 1024) : EReal :=
  min (Ideal.ofBits .f32 0x40E00000#32) (max (Ideal.ofBits .f32 0xC0E00000#32) (firstLayer x w b ⟨2 * j.val + 1, by omega⟩))

/-- The gate times its logistic, times the linear part plus one. -/
def hidden (g l : EReal) : EReal := g * Ideal.div 1 (1 + Ideal.exp (-(Ideal.ofBits .f32 0x3FD9DB23#32 * g))) * (l + 1)

/-- The expert's output at column `q`. -/
def expertOut (x : Fin 1024 → EReal) (w1 : Fin 1024 → Fin 2048 → EReal) (b1 : Fin 2048 → EReal) (w2 : Fin 1024 → Fin 1024 → EReal) (b2 : Fin 1024 → EReal)
    (q : Fin 1024) : EReal :=
  (∑ j, hidden (gate x w1 b1 j) (linear x w1 b1 j) * w2 j q) + b2 q

/-! ## The kernel's arithmetic -/

section Kernel
open Cert.ExpertsIdeal Cert.ExpertsIdeal.Gen

/-- Which of 256 columns the permutation puts at place `j`: the even ones first, then the odd ones. -/
def place (j : Fin 256) : Fin 256 := ⟨if j.val < 128 then 2 * j.val else 2 * (j.val - 128) + 1, by split <;> omega⟩

theorem place_words : ∀ i j : Fin 256, Scalar.select
      (IntOp.cmpi CmpIPredicate.eq (BitVec.ofNat 32 ↑i)
        (Scalar.select (IntOp.cmpi CmpIPredicate.slt (BitVec.ofNat 32 ↑j) 128#32)
          (IntOp.muli (2#32) (BitVec.ofNat 32 ↑j))
          (IntOp.addi (IntOp.muli (2#32) (IntOp.subi (BitVec.ofNat 32 ↑j) 128#32)) 1#32)))
      true false = decide (i = place j) := by
  intro i j
  revert i
  revert j
  decide +kernel

theorem select_bool {α : Type} (b : BitVec 1) (p : Prop) [Decidable p] (u v : α) (h : Scalar.select b true false = decide p) :
    Scalar.select b u v = if p then u else v := by
  revert h
  unfold Scalar.select
  split <;> intro h <;> simp_all

theorem permutation_apply (i j : Fin 256) : k0_pay9 (F := Ideal) (ix2 i j) = if i = place j then (1 : EReal) else 0 := by
  pointwise [k0_pay9]
  exact select_bool _ _ _ _ (place_words i j)

theorem permuted_apply (v : Vec Ideal S1x1024x256 .f32) (r : Fin 1024) (j : Fin 256) : k0_pay10 (F := Ideal) v (ix2 r j) = v (ix3 0 r (place j)) := by
  pointwise [k0_pay10]
  refine (Finset.sum_congr (M := EReal) rfl fun x _ => congrArg (fun p : EReal => (v (ix3 0 r x) : EReal) * p) (permutation_apply x j)).trans ?_
  refine (Finset.sum_eq_single (M := EReal) (place j) (fun x _ hx => ?_) fun h => absurd (Finset.mem_univ _) h).trans ?_
  · rw [if_neg hx]; exact mul_zero _
  · rw [if_pos rfl]; exact mul_one _

theorem gates_apply (B : Vec Ideal S1x1024x2048 .f32) (k j : Fin 1024) : gates (F := Ideal) B (ix2 k j) = B (ix3 0 k ⟨2 * j.val, by omega⟩) := by
  unfold gates
  refine (permuted_apply _ _ _).trans ?_
  unfold columns
  refine congrArg B (funext fun a => Fin.ext ?_)
  match a with
  | ⟨0, _⟩ => rfl
  | ⟨1, _⟩ => rfl
  | ⟨2, _⟩ =>
    show 256 * (j.val / 128) + (if j.val % 128 < 128 then 2 * (j.val % 128) else 2 * (j.val % 128 - 128) + 1) = 2 * j.val
    rw [if_pos (by omega)]; omega

theorem linears_apply (B : Vec Ideal S1x1024x2048 .f32) (k j : Fin 1024) : linears (F := Ideal) B (ix2 k j) = B (ix3 0 k ⟨2 * j.val + 1, by omega⟩) := by
  unfold linears
  refine (permuted_apply _ _ _).trans ?_
  unfold columns
  refine congrArg B (funext fun a => Fin.ext ?_)
  match a with
  | ⟨0, _⟩ => rfl
  | ⟨1, _⟩ => rfl
  | ⟨2, _⟩ =>
    show 256 * (j.val / 128) + (if 128 + j.val % 128 < 128 then 2 * (128 + j.val % 128) else 2 * (128 + j.val % 128 - 128) + 1) = 2 * j.val + 1
    rw [if_neg (by omega)]; omega

theorem second_apply (C : Vec Ideal S1x1024x1024 .f32) (k j : Fin 1024) : k0_pay5 (F := Ideal) C (ix2 k j) = C (ix3 0 k j) := by
  pointwise [k0_pay5]

/-- The eight segments side by side are the token's 1024 activations. -/
theorem token_apply (X : Vec Ideal S2048x128 .f32) (r : Fin 256) (k : Fin 1024) :
    k0_pay32 (F := Ideal) (segment X 0 (by decide)) (segment X 1 (by decide)) (segment X 2 (by decide)) (segment X 3 (by decide)) (segment X 4 (by decide))
      (segment X 5 (by decide)) (segment X 6 (by decide)) (segment X 7 (by decide)) (ix2 r k)
      = X (ix2 ⟨k.val / 128 + 8 * r.val, by omega⟩ ⟨k.val % 128, by omega⟩) := by
  pointwise [k0_pay32]
  unfold segment
  have hk : k.val < 1024 := k.isLt
  split_ifs <;> refine congrArg X (funext fun a => Fin.ext ?_) <;>
    first
      | (match a with
         | ⟨0, _⟩ => simp only [ix2]; show _ + 8 * r.val = k.val / 128 + 8 * r.val; omega
         | ⟨1, _⟩ => show (_ : ℕ) = k.val % 128; simp; omega)

theorem outTokens_apply (X : Vec Ideal S2048x128 .f32) (G L W : Vec Ideal S1024x1024 .bf16) (bg bl b2 : Vec Ideal S1x1x1024 .f32)
    (x : Fin 1024 → EReal) (w1 : Fin 1024 → Fin 2048 → EReal) (b1 : Fin 2048 → EReal) (r : Fin 256) (q : Fin 1024)
    (hx : ∀ k, X (ix2 ⟨k.val / 128 + 8 * r.val, by omega⟩ ⟨k.val % 128, by omega⟩) = x k)
    (hG : ∀ k j : Fin 1024, G (ix2 k j) = w1 k ⟨2 * j.val, by omega⟩) (hL : ∀ k j : Fin 1024, L (ix2 k j) = w1 k ⟨2 * j.val + 1, by omega⟩)
    (hg : ∀ j : Fin 1024, bg (ix3 0 0 j) = b1 ⟨2 * j.val, by omega⟩) (hl : ∀ j : Fin 1024, bl (ix3 0 0 j) = b1 ⟨2 * j.val + 1, by omega⟩) :
    outTokens (F := Ideal) X G L W bg bl b2 (ix2 r q) = expertOut x w1 b1 (fun j q => W (ix2 j q)) (fun q => b2 (ix3 0 0 q)) q := by
  unfold outTokens expertOut
  pointwise [k0_pay35]
  refine congrArg (fun s : EReal => s + b2 (ix3 0 0 q)) (Finset.sum_congr (M := EReal) rfl fun j _ => congrArg (fun s : EReal => s * W (ix2 j q)) ?_)
  have eg : ∀ x0 x1 x2 x3 x4 x5 x6 x7, (∀ k, k0_pay32 (F := Ideal) x0 x1 x2 x3 x4 x5 x6 x7 (ix2 r k) = x k) →
      k0_pay33 (F := Ideal) x0 x1 x2 x3 x4 x5 x6 x7 G bg (ix2 r j) = gate x w1 b1 j := by
    intro x0 x1 x2 x3 x4 x5 x6 x7 h
    pointwise [k0_pay33]
    unfold gate firstLayer
    rw [hg]
    exact congrArg (fun s : EReal => min (s + b1 _) _) (Finset.sum_congr (M := EReal) rfl fun k _ => congrArg₂ (fun a b : EReal => a * b) (h k) (hG k j))
  have el : ∀ x0 x1 x2 x3 x4 x5 x6 x7, (∀ k, k0_pay32 (F := Ideal) x0 x1 x2 x3 x4 x5 x6 x7 (ix2 r k) = x k) →
      k0_pay34 (F := Ideal) x0 x1 x2 x3 x4 x5 x6 x7 L bl (ix2 r j) = linear x w1 b1 j := by
    intro x0 x1 x2 x3 x4 x5 x6 x7 h
    pointwise [k0_pay34]
    unfold linear firstLayer
    rw [hl]
    exact congrArg (fun s : EReal => min _ (max _ (s + b1 _))) (Finset.sum_congr (M := EReal) rfl fun k _ => congrArg₂ (fun a b : EReal => a * b) (h k) (hL k j))
  have ht := fun k => (token_apply X r k).trans (hx k)
  rw [eg _ _ _ _ _ _ _ _ ht, el _ _ _ _ _ _ _ _ ht]
  unfold hidden
  rw [zero_sub]

end Kernel

end Cert.Ffn
-- ==== Proof.FfnRef.lean ====
/-
  The reference's experts, element by element: block `t`'s token `r` comes out as `expertOut` of its 1024 activations with
  the weights of the block's expert, or as zeros once the blocks in use are over. Each gathered table is read at the block's
  expert, which lies between 0 and 31, so neither the wrap of a negative index nor the gather's clamp changes it.
-/
module

public import proofs.«01_k».proof.Proof.FfnIdeal
public import proofs.«01_k».proof.Proof.FfnOk
public import proofs.«01_k».proof.Proof.Gen.ExpertsReferenceIdeal.Read
public import Idealize.ShloMosaic.Lib.Pointwise
public import Idealize.ShloMosaic.Lib.Routing.Ops
public import Idealize.ShloMosaic.Lib.Routing.OpsPair

@[expose] public section

set_option maxRecDepth 16384

noncomputable section

namespace Cert.Ffn

open Idealize.ShloMosaic Idealize.ShloMosaic.TcCoe
open Cert.ExpertsReferenceIdeal Cert.ExpertsReferenceIdeal.Gen Cert.ExpertsReferenceIdeal.Read

/-- A word below 32, read signed, is itself. -/
theorem small_word (w : BitVec 32) (h : w.toNat ≤ 31) : min w.toInt.toNat 31 = w.toNat := by
  rw [StableHlo.Predicate.toInt_eq_toNat_of_lt (by omega)]
  show min ((w.toNat : Int)).toNat 31 = _
  omega

theorem gather_w1 (x : Vec Ideal S32x1024x2048 .f32) (i : IVec S576x1 32) (t : Fin 576) (k : Fin 1024) (j : Fin 2048) (w : BitVec 32)
    (hw : i (ix2 t 0) = w) (h : w.toNat ≤ 31) :
    Host.gather gather_S32x1024x2048_S576x1_S576x1024x2048_12_0_n_n_0_1_110242048 x i (ix3 t k j) = x (ix3 ⟨w.toNat, by omega⟩ k j) := by
  unfold Host.gather
  refine congrArg x (funext fun a => Fin.ext ?_)
  match a with
  | ⟨0, _⟩ =>
    show min (i (GatherDims.siIdx gather_S32x1024x2048_S576x1_S576x1024x2048_12_0_n_n_0_1_110242048 (ix3 t k j) ⟨0, by decide⟩)).toInt.toNat 31 + 0 + 0 = w.toNat
    rw [show GatherDims.siIdx gather_S32x1024x2048_S576x1_S576x1024x2048_12_0_n_n_0_1_110242048 (ix3 t k j) ⟨0, by decide⟩ = ix2 t 0 from by
      funext b; fin_cases b <;> rfl, hw]
    exact small_word w h
  | ⟨1, _⟩ => show 0 + 0 + k.val = k.val; omega
  | ⟨2, _⟩ => show 0 + 0 + j.val = j.val; omega

theorem gather_w2 (x : Vec Ideal S32x1024x1024 .f32) (i : IVec S576x1 32) (t : Fin 576) (k : Fin 1024) (j : Fin 1024) (w : BitVec 32)
    (hw : i (ix2 t 0) = w) (h : w.toNat ≤ 31) :
    Host.gather gather_S32x1024x1024_S576x1_S576x1024x1024_12_0_n_n_0_1_110241024 x i (ix3 t k j) = x (ix3 ⟨w.toNat, by omega⟩ k j) := by
  unfold Host.gather
  refine congrArg x (funext fun a => Fin.ext ?_)
  match a with
  | ⟨0, _⟩ =>
    show min (i (GatherDims.siIdx gather_S32x1024x1024_S576x1_S576x1024x1024_12_0_n_n_0_1_110241024 (ix3 t k j) ⟨0, by decide⟩)).toInt.toNat 31 + 0 + 0 = w.toNat
    rw [show GatherDims.siIdx gather_S32x1024x1024_S576x1_S576x1024x1024_12_0_n_n_0_1_110241024 (ix3 t k j) ⟨0, by decide⟩ = ix2 t 0 from by
      funext b; fin_cases b <;> rfl, hw]
    exact small_word w h
  | ⟨1, _⟩ => show 0 + 0 + k.val = k.val; omega
  | ⟨2, _⟩ => show 0 + 0 + j.val = j.val; omega

theorem gather_b1 (x : Vec Ideal S32x2048 .f32) (i : IVec S576x1 32) (t : Fin 576) (j : Fin 2048) (w : BitVec 32)
    (hw : i (ix2 t 0) = w) (h : w.toNat ≤ 31) :
    Host.gather gather_S32x2048_S576x1_S576x2048_1_0_n_n_0_1_12048 x i (ix2 t j) = x (ix2 ⟨w.toNat, by omega⟩ j) := by
  unfold Host.gather
  refine congrArg x (funext fun a => Fin.ext ?_)
  match a with
  | ⟨0, _⟩ =>
    show min (i (GatherDims.siIdx gather_S32x2048_S576x1_S576x2048_1_0_n_n_0_1_12048 (ix2 t j) ⟨0, by decide⟩)).toInt.toNat 31 + 0 + 0 = w.toNat
    rw [show GatherDims.siIdx gather_S32x2048_S576x1_S576x2048_1_0_n_n_0_1_12048 (ix2 t j) ⟨0, by decide⟩ = ix2 t 0 from by
      funext b; fin_cases b <;> rfl, hw]
    exact small_word w h
  | ⟨1, _⟩ => show 0 + 0 + j.val = j.val; omega

theorem gather_b2 (x : Vec Ideal S32x1024 .f32) (i : IVec S576x1 32) (t : Fin 576) (j : Fin 1024) (w : BitVec 32)
    (hw : i (ix2 t 0) = w) (h : w.toNat ≤ 31) :
    Host.gather gather_S32x1024_S576x1_S576x1024_1_0_n_n_0_1_11024 x i (ix2 t j) = x (ix2 ⟨w.toNat, by omega⟩ j) := by
  unfold Host.gather
  refine congrArg x (funext fun a => Fin.ext ?_)
  match a with
  | ⟨0, _⟩ =>
    show min (i (GatherDims.siIdx gather_S32x1024_S576x1_S576x1024_1_0_n_n_0_1_11024 (ix2 t j) ⟨0, by decide⟩)).toInt.toNat 31 + 0 + 0 = w.toNat
    rw [show GatherDims.siIdx gather_S32x1024_S576x1_S576x1024_1_0_n_n_0_1_11024 (ix2 t j) ⟨0, by decide⟩ = ix2 t 0 from by
      funext b; fin_cases b <;> rfl, hw]
    exact small_word w h
  | ⟨1, _⟩ => show 0 + 0 + j.val = j.val; omega

variable (x0 : (⟨S1179648x128, .f32⟩ : BufTy).Contents (Elt Ideal)) (x1 : (⟨S32x128, .i32⟩ : BufTy).Contents (Elt Ideal))
  (x2 : (⟨S32x1024x2048, .f32⟩ : BufTy).Contents (Elt Ideal)) (x3 : (⟨S32x2048, .f32⟩ : BufTy).Contents (Elt Ideal))
  (x4 : (⟨S32x1024x1024, .f32⟩ : BufTy).Contents (Elt Ideal)) (x5 : (⟨S32x1024, .f32⟩ : BufTy).Contents (Elt Ideal))

/-- A word below 32 as an expert's number. -/
def number (w : BitVec 32) (h : w.toNat ≤ 31) : Fin 32 := ⟨w.toNat, by omega⟩
theorem number_val (w : BitVec 32) (h : w.toNat ≤ 31) : (number w h).val = w.toNat := rfl

/-- The expert of a block. -/
def expert (t : Fin 576) : Fin 32 := number (val_main_v22 (F := Ideal) x1 (ix1 t)) (expert_le (F := Ideal) x1 (ix1 t))

theorem expert_val (t : Fin 576) : (expert x1 t).val = (val_main_v22 (F := Ideal) x1 (ix1 t)).toNat := number_val _ _

theorem column28 (t : Fin 576) : val_main_v28 (F := Ideal) x1 (ix2 t 0) = val_main_v22 (F := Ideal) x1 (ix1 t) := by
  have h := expert_le (F := Ideal) x1 (ix1 t)
  pointwise [val_main_v28, val_main_v27, val_main_v26, val_main_v25, val_main_v24, val_main_v23, val_main_c_6, val_main_c_7]
  exact Routing.wrap_of_lt _ _ (by omega)

theorem column36 (t : Fin 576) : val_main_v36 (F := Ideal) x1 (ix2 t 0) = val_main_v22 (F := Ideal) x1 (ix1 t) := by
  have h := expert_le (F := Ideal) x1 (ix1 t)
  pointwise [val_main_v36, val_main_v35, val_main_v34, val_main_v33, val_main_v32, val_main_v31, val_main_c_8, val_main_c_9]
  exact Routing.wrap_of_lt _ _ (by omega)

theorem column63 (t : Fin 576) : val_main_v63 (F := Ideal) x1 (ix2 t 0) = val_main_v22 (F := Ideal) x1 (ix1 t) := by
  have h := expert_le (F := Ideal) x1 (ix1 t)
  pointwise [val_main_v63, val_main_v62, val_main_v61, val_main_v60, val_main_v59, val_main_v58, val_main_c_16, val_main_c_17]
  exact Routing.wrap_of_lt _ _ (by omega)

theorem column71 (t : Fin 576) : val_main_v71 (F := Ideal) x1 (ix2 t 0) = val_main_v22 (F := Ideal) x1 (ix1 t) := by
  have h := expert_le (F := Ideal) x1 (ix1 t)
  pointwise [val_main_v71, val_main_v70, val_main_v69, val_main_v68, val_main_v67, val_main_v66, val_main_c_18, val_main_c_19]
  exact Routing.wrap_of_lt _ _ (by omega)

/-! ## A block's tokens -/

/-- Token `r` of block `t`: eight rows of 128 activations. -/
def tokenOf (t : Fin 576) (r : Fin 256) (k : Fin 1024) : EReal :=
  x0 (ix2 ⟨2048 * t.val + 8 * r.val + k.val / 128, by omega⟩ ⟨k.val % 128, by omega⟩)

/-- What block `t` gives its token `r`, were it in use. -/
def tokenOut (t : Fin 576) (r : Fin 256) (q : Fin 1024) : EReal :=
  expertOut (tokenOf x0 t r) (fun k j => x2 (ix3 (expert x1 t) k j)) (fun j => x3 (ix2 (expert x1 t) j)) (fun j q => x4 (ix3 (expert x1 t) j q))
    (fun q => x5 (ix2 (expert x1 t) q)) q

theorem token_eq (t : Fin 576) (r : Fin 256) (k : Fin 1024) : val_main_v10 (F := Ideal) x0 (ix3 t r k) = tokenOf x0 t r k := by
  rw [val_main_v10_apply]
  unfold tokenOf
  refine congrArg x0 (funext fun a => Fin.ext ?_)
  match a with
  | ⟨0, _⟩ => show ((t.val * 256 + r.val) * 1024 + k.val) / 128 = 2048 * t.val + 8 * r.val + k.val / 128; omega
  | ⟨1, _⟩ => show ((t.val * 256 + r.val) * 1024 + k.val) % 128 = k.val % 128; omega

theorem first_eq (t : Fin 576) (r : Fin 256) (j : Fin 2048) : val_main_v40 (F := Ideal) x0 x1 x2 x3 (ix3 t r j)
    = firstLayer (tokenOf x0 t r) (fun k j => x2 (ix3 (expert x1 t) k j)) (fun j => x3 (ix2 (expert x1 t) j)) j := by
  rw [val_main_v40_apply, val_main_v30_apply, val_main_v39_apply, val_main_v38_apply]
  unfold firstLayer
  refine congrArg₂ (fun a b : EReal => a + b) (Finset.sum_congr (M := EReal) rfl fun k _ => congrArg₂ (fun a b : EReal => a * b) ?_ ?_) ?_
  · refine Eq.trans (congrArg (val_main_v10 (F := Ideal) x0) ?_) (token_eq x0 t r k)
    funext a; fin_cases a <;> rfl
  · refine Eq.trans (congrArg (val_main_v29 (F := Ideal) x1 x2) (?_ : _ = ix3 t k j)) ?_
    · funext a; fin_cases a <;> rfl
    · exact gather_w1 x2 _ t k j _ (column28 x1 t) (expert_le (F := Ideal) x1 (ix1 t))
  · refine Eq.trans (congrArg (val_main_v37 (F := Ideal) x1 x3) (?_ : _ = ix2 t j)) ?_
    · funext a; fin_cases a <;> rfl
    · exact gather_b1 x3 _ t j _ (column36 x1 t) (expert_le (F := Ideal) x1 (ix1 t))

theorem hidden_eq (t : Fin 576) (r : Fin 256) (j : Fin 1024) : val_main_v57 (F := Ideal) x0 x1 x2 x3 (ix3 t r j)
    = hidden (gate (tokenOf x0 t r) (fun k j => x2 (ix3 (expert x1 t) k j)) (fun j => x3 (ix2 (expert x1 t) j)) j)
        (linear (tokenOf x0 t r) (fun k j => x2 (ix3 (expert x1 t) k j)) (fun j => x3 (ix2 (expert x1 t) j)) j) := by
  unfold hidden gate linear
  rw [← first_eq, ← first_eq]
  unfold val_main_v57 val_main_v54 val_main_v53 val_main_v52 val_main_v51 val_main_v50 val_main_v49 val_main_v48 val_main_v47 val_main_v46 val_main_v56 val_main_v55 val_main_v45 val_main_v43 val_main_call2_v4 val_main_call2_v2 val_main_call2_v3 val_main_call2_v1 val_main_call2_v0 val_main_v44 val_main_v41
  pointwise [val_main_cst_12, val_main_cst_13, val_main_cst_14, val_main_cst_15, val_main_v42]
  have e : (⟨1 + 2 * j.val, by omega⟩ : Fin 2048) = ⟨2 * j.val + 1, by omega⟩ := Fin.ext (by show 1 + 2 * j.val = 2 * j.val + 1; omega)
  rw [e]
  rfl

theorem out_eq (t : Fin 576) (r : Fin 256) (q : Fin 1024) : val_main_v75 (F := Ideal) x0 x1 x2 x3 x4 x5 (ix3 t r q) = tokenOut x0 x1 x2 x3 x4 x5 t r q := by
  rw [val_main_v75_apply, val_main_v65_apply, val_main_v74_apply, val_main_v73_apply]
  unfold tokenOut expertOut
  refine congrArg₂ (fun a b : EReal => a + b) (Finset.sum_congr (M := EReal) rfl fun j _ => congrArg₂ (fun a b : EReal => a * b) ?_ ?_) ?_
  · refine Eq.trans (congrArg (val_main_v57 (F := Ideal) x0 x1 x2 x3) ?_) (hidden_eq x0 x1 x2 x3 t r j)
    funext a; fin_cases a <;> rfl
  · refine Eq.trans (congrArg (val_main_v64 (F := Ideal) x1 x4) (?_ : _ = ix3 t j q)) ?_
    · funext a; fin_cases a <;> rfl
    · exact gather_w2 x4 _ t j q _ (column63 x1 t) (expert_le (F := Ideal) x1 (ix1 t))
  · refine Eq.trans (congrArg (val_main_v72 (F := Ideal) x1 x5) (?_ : _ = ix2 t q)) ?_
    · funext a; fin_cases a <;> rfl
    · exact gather_b2 x5 _ t q _ (column71 x1 t) (expert_le (F := Ideal) x1 (ix1 t))

/-- The whole result, element by element. -/
theorem reference_apply (i : S1179648x128.Idx) (t : Fin 576) (r : Fin 256) (q : Fin 1024)
    (e0 : (i 0 : ℕ) = 2048 * t.val + 8 * r.val + q.val / 128) (e1 : (i 1 : ℕ) = q.val % 128) :
    val_main_v84 (F := Ideal) x0 x1 x2 x3 x4 x5 i
      = if IntOp.cmpi .slt (BitVec.ofNat 32 t.val) (val_main_v79 (F := Ideal) x1 ix0) = 1#1 then tokenOut x0 x1 x2 x3 x4 x5 t r q else 0 := by
  rw [val_main_v84_apply]
  have e : idx_main_v84 i = ix3 t r q := by
    funext a
    refine Fin.ext ?_
    match a with
    | ⟨0, _⟩ => show ((i 0 : ℕ) * 128 + (i 1 : ℕ)) / 262144 = t.val; rw [e0, e1]; omega
    | ⟨1, _⟩ => show ((i 0 : ℕ) * 128 + (i 1 : ℕ)) / 1024 % 256 = r.val; rw [e0, e1]; omega
    | ⟨2, _⟩ => show ((i 0 : ℕ) * 128 + (i 1 : ℕ)) % 1024 = q.val; rw [e0, e1]; omega
  rw [e, ← out_eq]
  pointwise [val_main_v83, val_main_call4_v1, val_main_call4_v2, val_main_v82, val_main_v81, val_main_v80, val_main_v76]
  have z : val_main_call4_v0 (F := Ideal) ix0 = 0 := by
    unfold val_main_call4_v0
    show val_main_cst_21 (F := Ideal) ix0 = 0
    pointwise [val_main_cst_21]
  rw [z]
  unfold Scalar.select
  rfl

end Cert.Ffn
-- ==== Proof.FfnValue.lean ====
/-
  The experts' result after the run, over the extended reals: point `t` of the 576 works on rows `2048 t` up to `2048 t +
  2047` of the result, with the weights of the expert its table entry names, and leaves what the reference gives those rows;
  the blocks tile the result.
-/
module

public import proofs.«01_k».proof.Proof.FfnRun
public import proofs.«01_k».proof.Proof.FfnRef
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe
open Cert.ExpertsIdeal Cert.ExpertsIdeal.Gen

section Blocks
variable (a : (pcfg0 (F := Ideal)).Adm) (A : (c : Dev nD) → (b : Ref sig .tc) → Buf (Elt Ideal) ((c : Thread nD τ).loc b)) (c : Dev nD)

theorem index_0 : ∀ t : Fin (cfg0 a).N, ((cfg0 a).win 0).index t = ![t.val, 0] :=
  (by decide +kernel : ∀ t : Fin grid0.N, cc0_transform_0 (grid0.coords t) = ![t.val, 0])
theorem index_6 : ∀ t : Fin (cfg0 a).N, ((cfg0 a).win 6).index t = ![t.val, 0] :=
  (by decide +kernel : ∀ t : Fin grid0.N, cc0_transform_6 (grid0.coords t) = ![t.val, 0])

theorem covers_6 : ((cfg0 a).win 6).Covers := by
  refine ⟨(by decide : ∀ d : Fin 2, 0 < S2048x128.size d), fun n => ?_⟩
  have b0 : ((cfg0 a).win 6).nblk (0 : Fin 2) = 576 := show (S1179648x128.size 0 + S2048x128.size 0 - 1) / S2048x128.size 0 = 576 from by decide
  have b1 : ((cfg0 a).win 6).nblk (1 : Fin 2) = 1 := show (S1179648x128.size 1 + S2048x128.size 1 - 1) / S2048x128.size 1 = 1 from by decide
  have h0 : (n (0 : Fin 2)).val < 576 := lt_of_lt_of_eq (n (0 : Fin 2)).isLt b0
  have h1 : (n (1 : Fin 2)).val < 1 := lt_of_lt_of_eq (n (1 : Fin 2)).isLt b1
  refine ⟨⟨(n (0 : Fin 2)).val, by rw [show (cfg0 a).grid.N = 576 from N_0]; exact h0⟩, flush_6 a _, fun d => ⟨?_, .inl rfl⟩⟩
  rw [index_6]
  match d with
  | ⟨0, _⟩ => rfl
  | ⟨1, _⟩ => show 0 = (n (1 : Fin 2)).val; omega

/-- Where point `t`'s block of the result lies. -/
theorem place_6 (t : Fin (cfg0 a).N) (y : S2048x128.Idx) (d : Fin 2) :
    ((((cfg0 a).win 6).blk t).view.emb y d : ℕ) = ![2048 * t.val + (y 0 : ℕ), (y 1 : ℕ)] d := by
  show ((cfg0 a).win 6).index t d * S2048x128.size d + 1 * (y d : ℕ) = _
  rw [index_6]
  match d with
  | ⟨0, _⟩ => show t.val * 2048 + 1 * (y 0 : ℕ) = 2048 * t.val + (y 0 : ℕ); omega
  | ⟨1, _⟩ => show 0 * 128 + 1 * (y 1 : ℕ) = (y 1 : ℕ); omega

theorem X₀_apply (t : Fin (cfg0 a).N) (p : Fin 2048) (l : Fin 128) : X₀ a A c t (ix2 p l)
    = A c main_arg0 (ix2 ⟨2048 * t.val + p.val, by have h : t.val < 576 := N_0 ▸ t.isLt; omega⟩ l : S1179648x128.Idx) := by
  show A c main_arg0 _ = A c main_arg0 _
  refine congrArg (A c main_arg0) (funext fun d => Fin.ext ?_)
  show ((cfg0 a).win 0).index t d * _ + 1 * (ix2 p l d).val = _
  rw [index_0]
  match d with
  | ⟨0, _⟩ => show t.val * 2048 + 1 * p.val = 2048 * t.val + p.val; omega
  | ⟨1, _⟩ => show 0 * 128 + 1 * l.val = l.val; omega

theorem B₀_apply (t : Fin (cfg0 a).N) (e : Fin 32) (he : (entry (tblE a) t.val (N_0 ▸ t.isLt)).toNat = e.val) (k : Fin 1024) (j : Fin 2048) :
    B₀ a A c t (ix3 0 k j) = A c main_arg2 (ix3 e k j : S32x1024x2048.Idx) := by
  show A c main_arg2 _ = A c main_arg2 _
  refine congrArg (A c main_arg2) (funext fun d => Fin.ext ?_)
  show ((cfg0 a).win 1).index t d * S1x1024x2048.size d + 1 * ((ix3 0 k j : S1x1024x2048.Idx) d).val = _
  rw [index_1, he]
  match d with
  | ⟨0, _⟩ => show e.val * 1 + 1 * 0 = e.val; omega
  | ⟨1, _⟩ => show 0 * 1024 + 1 * k.val = k.val; omega
  | ⟨2, _⟩ => show 0 * 2048 + 1 * j.val = j.val; omega

theorem bg₀_apply (t : Fin (cfg0 a).N) (e : Fin 32) (he : (entry (tblE a) t.val (N_0 ▸ t.isLt)).toNat = e.val) (j : Fin 1024) :
    bg₀ a A c t (ix3 0 0 j) = A c main_v25 (ix3 e 0 j : S32x1x1024.Idx) := by
  show A c main_v25 _ = A c main_v25 _
  refine congrArg (A c main_v25) (funext fun d => Fin.ext ?_)
  show ((cfg0 a).win 2).index t d * S1x1x1024.size d + 1 * ((ix3 0 0 j : S1x1x1024.Idx) d).val = _
  rw [index_2, he]
  match d with
  | ⟨0, _⟩ => show e.val * 1 + 1 * 0 = e.val; omega
  | ⟨1, _⟩ => show 0 * 1 + 1 * 0 = 0; omega
  | ⟨2, _⟩ => show 0 * 1024 + 1 * j.val = j.val; omega

theorem bl₀_apply (t : Fin (cfg0 a).N) (e : Fin 32) (he : (entry (tblE a) t.val (N_0 ▸ t.isLt)).toNat = e.val) (j : Fin 1024) :
    bl₀ a A c t (ix3 0 0 j) = A c main_v27 (ix3 e 0 j : S32x1x1024.Idx) := by
  show A c main_v27 _ = A c main_v27 _
  refine congrArg (A c main_v27) (funext fun d => Fin.ext ?_)
  show ((cfg0 a).win 3).index t d * S1x1x1024.size d + 1 * ((ix3 0 0 j : S1x1x1024.Idx) d).val = _
  rw [index_3, he]
  match d with
  | ⟨0, _⟩ => show e.val * 1 + 1 * 0 = e.val; omega
  | ⟨1, _⟩ => show 0 * 1 + 1 * 0 = 0; omega
  | ⟨2, _⟩ => show 0 * 1024 + 1 * j.val = j.val; omega

theorem C₀_apply (t : Fin (cfg0 a).N) (e : Fin 32) (he : (entry (tblE a) t.val (N_0 ▸ t.isLt)).toNat = e.val) (j q : Fin 1024) :
    C₀ a A c t (ix3 0 j q) = A c main_arg4 (ix3 e j q : S32x1024x1024.Idx) := by
  show A c main_arg4 _ = A c main_arg4 _
  refine congrArg (A c main_arg4) (funext fun d => Fin.ext ?_)
  show ((cfg0 a).win 4).index t d * S1x1024x1024.size d + 1 * ((ix3 0 j q : S1x1024x1024.Idx) d).val = _
  rw [index_4, he]
  match d with
  | ⟨0, _⟩ => show e.val * 1 + 1 * 0 = e.val; omega
  | ⟨1, _⟩ => show 0 * 1024 + 1 * j.val = j.val; omega
  | ⟨2, _⟩ => show 0 * 1024 + 1 * q.val = q.val; omega

theorem b2₀_apply (t : Fin (cfg0 a).N) (e : Fin 32) (he : (entry (tblE a) t.val (N_0 ▸ t.isLt)).toNat = e.val) (q : Fin 1024) :
    b2₀ a A c t (ix3 0 0 q) = A c main_v28 (ix3 e 0 q : S32x1x1024.Idx) := by
  show A c main_v28 _ = A c main_v28 _
  refine congrArg (A c main_v28) (funext fun d => Fin.ext ?_)
  show ((cfg0 a).win 5).index t d * S1x1x1024.size d + 1 * ((ix3 0 0 q : S1x1x1024.Idx) d).val = _
  rw [index_5, he]
  match d with
  | ⟨0, _⟩ => show e.val * 1 + 1 * 0 = e.val; omega
  | ⟨1, _⟩ => show 0 * 1 + 1 * 0 = 0; omega
  | ⟨2, _⟩ => show 0 * 1024 + 1 * q.val = q.val; omega

variable (x0 : (⟨S1179648x128, .f32⟩ : BufTy).Contents (Elt Ideal)) (x1 : (⟨S32x128, .i32⟩ : BufTy).Contents (Elt Ideal))
  (x2 : (⟨S32x1024x2048, .f32⟩ : BufTy).Contents (Elt Ideal)) (x3 : (⟨S32x2048, .f32⟩ : BufTy).Contents (Elt Ideal))
  (x4 : (⟨S32x1024x1024, .f32⟩ : BufTy).Contents (Elt Ideal)) (x5 : (⟨S32x1024, .f32⟩ : BufTy).Contents (Elt Ideal))

/-- What the buffers of the launch hold, in the arguments. -/
structure Staged : Prop where
  arg0 : A c main_arg0 = x0
  arg2 : A c main_arg2 = x2
  arg4 : A c main_arg4 = x4
  gateBias : ∀ (e : Fin 32) (j : Fin 1024), A c main_v25 (ix3 e 0 j : S32x1x1024.Idx) = x3 (ix2 e ⟨2 * j.val, by omega⟩)
  linearBias : ∀ (e : Fin 32) (j : Fin 1024), A c main_v27 (ix3 e 0 j : S32x1x1024.Idx) = x3 (ix2 e ⟨2 * j.val + 1, by omega⟩)
  lastBias : ∀ (e : Fin 32) (q : Fin 1024), A c main_v28 (ix3 e 0 q : S32x1x1024.Idx) = x5 (ix2 e q)
  experts : ∀ t : Fin 576, entry (tblE a) t.val t.isLt = Cert.ExpertsReferenceIdeal.Read.val_main_v22 (F := Ideal) x1 (ix1 t)
  used : wordUsed (tblU a) = Cert.ExpertsReferenceIdeal.Read.val_main_v79 (F := Ideal) x1 ix0

variable {x0 x1 x2 x3 x4 x5}

/-- A block in use: its token `r`, column `q`. -/
theorem tokens_eq (S : Staged a A c x0 x1 x2 x3 x4 x5) (t : Fin (cfg0 a).N) (s : Fin 576) (hs : t.val = s.val) (r : Fin 256) (q : Fin 1024) :
    outTokens (F := Ideal) (X₀ a A c t) (gates (B₀ a A c t)) (linears (B₀ a A c t)) (k0_pay5 (C₀ a A c t)) (bg₀ a A c t) (bl₀ a A c t) (b2₀ a A c t) (ix2 r q)
      = tokenOut x0 x1 x2 x3 x4 x5 s r q := by
  obtain rfl : s = ⟨t.val, N_0 ▸ t.isLt⟩ := Fin.ext hs.symm
  have he : (entry (tblE a) t.val (N_0 ▸ t.isLt)).toNat = (expert x1 ⟨t.val, N_0 ▸ t.isLt⟩).val := by
    rw [expert_val]
    exact congrArg BitVec.toNat (S.experts ⟨t.val, N_0 ▸ t.isLt⟩)
  refine (outTokens_apply _ _ _ _ _ _ _ (tokenOf x0 ⟨t.val, N_0 ▸ t.isLt⟩ r) (fun k j => x2 (ix3 (expert x1 ⟨t.val, N_0 ▸ t.isLt⟩) k j)) (fun j => x3 (ix2 (expert x1 ⟨t.val, N_0 ▸ t.isLt⟩) j)) r q ?_ ?_ ?_ ?_ ?_).trans ?_
  · intro k
    rw [X₀_apply, S.arg0]
    unfold tokenOf
    refine congrArg x0 (funext fun d => Fin.ext ?_)
    match d with
    | ⟨0, _⟩ => show 2048 * t.val + (k.val / 128 + 8 * r.val) = 2048 * t.val + 8 * r.val + k.val / 128; omega
    | ⟨1, _⟩ => rfl
  · intro k j; rw [gates_apply, B₀_apply a A c t _ he, S.arg2]
  · intro k j; rw [linears_apply, B₀_apply a A c t _ he, S.arg2]
  · intro j; rw [bg₀_apply a A c t _ he, S.gateBias]
  · intro j; rw [bl₀_apply a A c t _ he, S.linearBias]
  · unfold tokenOut
    have e2 : (fun j q => k0_pay5 (F := Ideal) (C₀ a A c t) (ix2 j q)) = fun j q => x4 (ix3 (expert x1 ⟨t.val, N_0 ▸ t.isLt⟩) j q) := by
      funext j q; rw [second_apply, C₀_apply a A c t _ he, S.arg4]
    have e5 : (fun q => b2₀ a A c t (ix3 0 0 q)) = fun q => x5 (ix2 (expert x1 ⟨t.val, N_0 ▸ t.isLt⟩) q) := by
      funext q; rw [b2₀_apply a A c t _ he, S.lastBias]
    exact congrArg₂ (fun w b => expertOut _ _ _ w b q) e2 e5

/-- What a point leaves of its block is the reference's. -/
theorem block_eq (S : Staged a A c x0 x1 x2 x3 x4 x5) (t : Fin (cfg0 a).N) (y : S2048x128.Idx) (i : S1179648x128.Idx)
    (e0 : (i 0 : ℕ) = 2048 * t.val + (y 0 : ℕ)) (e1 : (i 1 : ℕ) = (y 1 : ℕ)) :
    O₀ a A c t y = Cert.ExpertsReferenceIdeal.Read.val_main_v84 (F := Ideal) x0 x1 x2 x3 x4 x5 i := by
  have ht : t.val < 576 := N_0 ▸ t.isLt
  have h0 : (y 0 : ℕ) < 2048 := (y 0).isLt
  have h1 : (y 1 : ℕ) < 128 := (y 1).isLt
  rw [reference_apply x0 x1 x2 x3 x4 x5 i ⟨t.val, ht⟩ ⟨(y 0 : ℕ) / 8, by omega⟩ ⟨(y 0 : ℕ) % 8 * 128 + (y 1 : ℕ), by omega⟩
    (by show (i 0 : ℕ) = 2048 * t.val + 8 * ((y 0 : ℕ) / 8) + ((y 0 : ℕ) % 8 * 128 + (y 1 : ℕ)) / 128; omega)
    (by show (i 1 : ℕ) = ((y 0 : ℕ) % 8 * 128 + (y 1 : ℕ)) % 128; omega)]
  unfold O₀ outBlock
  have hc : k0_cond2 (grid0.coords t) (wordUsed (tblU a)) = 1#1
      ↔ IntOp.cmpi .slt (BitVec.ofNat 32 t.val) (Cert.ExpertsReferenceIdeal.Read.val_main_v79 (F := Ideal) x1 ix0) = 1#1 := by
    unfold k0_cond2
    rw [coords_val, S.used]
    generalize Cert.ExpertsReferenceIdeal.Read.val_main_v79 (F := Ideal) x1 ix0 = w
    simp only [Scalar.cmpi, Scalar.extui, IntOp.cmpi]
    generalize (BitVec.ofNat 32 t.val).slt w = b
    cases b <;> simp
  by_cases h : k0_cond2 (grid0.coords t) (wordUsed (tblU a)) = 1#1
  · rw [if_pos h, if_pos (hc.mp h)]
    exact tokens_eq a A c S t ⟨t.val, ht⟩ rfl _ _
  · rw [if_neg h, if_neg (fun h' => h (hc.mpr h'))]
    pointwise [k0_pay8]

/-- The result array after the run is the reference's. -/
theorem result_eq (S : Staged a A c x0 x1 x2 x3 x4 x5) :
    (dats a A 0 c).arrAt 6 (cfg0 a).N = Cert.ExpertsReferenceIdeal.Read.val_main_v84 (F := Ideal) x0 x1 x2 x3 x4 x5 := by
  refine (dats a A 0 c).arrAt_eq_of_covers 6 _ (covers_6 a) fun t hf y => ?_
  exact block_eq a A c S t y _ (place_6 a t y 0) (place_6 a t y 1)

end Blocks

/-! ## The launch's own buffers -/

section Launch
variable (m : (ℓ : Loc nD τ sig) → Buf (Elt Ideal) ℓ) (c : Dev nD)

theorem bias_even (x : (⟨S32x2048, .f32⟩ : BufTy).Contents (Elt Ideal)) (e : Fin 32) (j : Fin 1024) :
    (broadcastInDim S32x1x1024 ![0, 2] bcast_S32x1024_S32x1x1024_0_2 (Host.slice S32x1024 ![0, 0] ![1, 2] x slicesBy_S32x2048_S32x1024_0s1_0s2) : S32x1x1024.Idx → EReal) (ix3 e 0 j)
      = x (ix2 e ⟨2 * j.val, by omega⟩) := by
  pointwise []

theorem bias_odd (x : (⟨S32x2048, .f32⟩ : BufTy).Contents (Elt Ideal)) (e : Fin 32) (j : Fin 1024) :
    (broadcastInDim S32x1x1024 ![0, 2] bcast_S32x1024_S32x1x1024_0_2 (Host.slice S32x1024 ![0, 1] ![1, 2] x slicesBy_S32x2048_S32x1024_0s1_1s2) : S32x1x1024.Idx → EReal) (ix3 e 0 j)
      = x (ix2 e ⟨2 * j.val + 1, by omega⟩) := by
  pointwise []
  refine congrArg (fun k => x (ix2 e k)) (Fin.ext ?_)
  show 1 + 2 * j.val = 2 * j.val + 1
  omega

theorem bias_last (x : (⟨S32x1024, .f32⟩ : BufTy).Contents (Elt Ideal)) (e : Fin 32) (j : Fin 1024) :
    (broadcastInDim S32x1x1024 ![0, 2] bcast_S32x1024_S32x1x1024_0_2 x : S32x1x1024.Idx → EReal) (ix3 e 0 j) = x (ix2 e j) := by
  pointwise []

theorem word_used (U : S1.Idx → BitVec 32) : wordUsed (F := Ideal) U = U (ix1 0) := by
  show U _ = U _
  refine congrArg U (funext fun d => Fin.ext ?_)
  fin_cases d
  show 0 + 1 * (Shape.Idx.first (s := S1) _ 0).val = 0
  have h : (Shape.Idx.first (s := S1) (show 0 < S1.numel by rw [numel1_S1]; decide) 0).val < 1 := (Shape.Idx.first _ 0).isLt
  omega

theorem tbl_1 : (tbl m 1 : S1.Idx → BitVec 32) = V m 0 main_v23 := rfl
theorem tblE_of (T : pre0.Contents (Elt Ideal)) (hT : ok0 T) (E : S576.Idx → BitVec 32) (h : T 0 = E) : tblE (F := Ideal) ⟨T, hT⟩ = E := h
theorem tblU_of (T : pre0.Contents (Elt Ideal)) (hT : ok0 T) (U : S1.Idx → BitVec 32) (h : T 1 = U) : tblU (F := Ideal) ⟨T, hT⟩ = U := h

theorem entry_of (E E' : S576.Idx → BitVec 32) (h : E = E') (t : Fin 576) : entry (F := Ideal) E t.val t.isLt = E' (ix1 t) := by rw [h]

theorem used_of (U : S1.Idx → BitVec 32) (w : BitVec 32) (h : ∀ j, U j = w) : wordUsed (F := Ideal) U = w := (word_used U).trans (h _)

/-- The host's arrays and tables, as the launch finds them. -/
theorem staged : Staged (adm m (ok m)) (V m) c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) where
  arg0 := V_main_arg0 m c
  arg2 := V_main_arg2 m c
  arg4 := V_main_arg4 m c
  gateBias e j := (congrFun (V_main_v25 m c) _).trans (bias_even _ e j)
  linearBias e j := (congrFun (V_main_v27 m c) _).trans (bias_odd _ e j)
  lastBias e j := (congrFun (V_main_v28 m c) _).trans (bias_last _ e j)
  experts t := by
    obtain rfl : c = 0 := Subsingleton.elim _ _
    exact entry_of _ _ (tblE_of (tbl m) (ok m) _ (tbl_0 m)) t
  used := by
    obtain rfl : c = 0 := Subsingleton.elim _ _
    refine used_of _ _ fun j => ?_
    rw [tblU_of (tbl m) (ok m) _ (tbl_1 m), V_main_v23]
    refine congrArg (Cert.ExpertsReferenceIdeal.Read.val_main_v79 (F := Ideal) _) (funext fun d => d.elim0)

/-- The result array after the run. -/
theorem result : (dats (adm m (ok m)) (V m) 0 c).arrAt 6 (cfg0 (adm m (ok m))).N
    = Cert.ExpertsReferenceIdeal.Read.val_main_v84 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  result_eq _ _ c (staged m c)

end Launch

end Cert.Ffn
-- ==== Proof.FfnSame.lean ====
module

public import proofs.«01_k».proof.Proof.Gen.Experts.Launch
public import proofs.«01_k».proof.Proof.Gen.ExpertsIdeal.Launch

@[expose] public section

set_option maxRecDepth 16384

noncomputable section

namespace Cert.Ffn

open Idealize.ShloMosaic Idealize.SL.Sem

variable {F : FTy → Type} [FloatOps F]

/-! ## The experts' program and its idealization are one program

No operation is rewritten: the two printed programs agree at every float instance. -/

theorem same_body : Cert.Experts.defs₀ (F := F) = Cert.ExpertsIdeal.defs₀ (F := F) := by chain_rfl
theorem same_defs : Cert.Experts.defs (F := F) = Cert.ExpertsIdeal.defs (F := F) := by chain_rfl
theorem same_main : Cert.Experts.main (F := F) = Cert.ExpertsIdeal.main (F := F) := by chain_rfl

/-- Equal programs have equal runs. -/
theorem run_of_eq {nD : ℕ} {τ : Topo} {sig : RefSig} {Λ : Labels} {d d' : Defs nD τ sig (Elt F) Λ} {p p' : Dev nD → Prog (TpuEff nD τ sig (Elt F) Λ .tc) PUnit}
    (hd : d = d') (hp : p = p') (s : MemSt nD τ sig (Elt F)) (Q : PUnit × MemSt nD τ sig (Elt F) → Prop) (h : θ_run d' (onTc (τ := τ) p') s Q) :
    θ_run d (onTc (τ := τ) p) s Q := by
  subst hd; subst hp; exact h

set_option maxHeartbeats 2000000 in
/-- What is proved of the idealization's run holds of the kernel's. -/
theorem run_kernel (s : MemSt Cert.ExpertsIdeal.nD Cert.ExpertsIdeal.τ Cert.ExpertsIdeal.sig (Elt F))
    (Q : PUnit × MemSt Cert.ExpertsIdeal.nD Cert.ExpertsIdeal.τ Cert.ExpertsIdeal.sig (Elt F) → Prop)
    (h : θ_run (Cert.ExpertsIdeal.defs (F := F)) (onTc (τ := Cert.ExpertsIdeal.τ) (Cert.ExpertsIdeal.main (F := F))) s Q) :
    θ_run (Cert.Experts.defs (F := F)) (onTc (τ := Cert.Experts.τ) (Cert.Experts.main (F := F))) s Q :=
  run_of_eq same_defs same_main s Q h

end Cert.Ffn
end
-- ==== Proof.Ffn.lean ====
module

public import proofs.«01_k».proof.Defs
public import proofs.«01_k».proof.Proof.FfnOk
public import proofs.«01_k».proof.Proof.FfnValue
public import proofs.«01_k».proof.Proof.FfnSame
public import proofs.«01_k».proof.Proof.Gen.ExpertsReferenceIdeal.Run

@[expose] public section

set_option maxRecDepth 16384

noncomputable section

namespace Cert.Ffn

open Idealize.ShloMosaic Idealize.ShloMosaic.TcCoe Idealize.SL.Sem
open Cert.ExpertsIdeal Cert.ExpertsIdeal.Gen

/-! ## The frames -/

theorem kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun _ h => ⟨fun c => (h.1 c).2, h.2⟩) (run_main m ρ (ok m))

theorem frame_kernelIdeal : Cert.quiescent_ExpertsIdeal := fun m ρ _ => kept m ρ

theorem frame_kernel : Cert.quiescent_Experts := fun m ρ _ => run_kernel _ _ (kept m ρ)

theorem frame_referenceIdeal : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-! ## The results are equal -/

theorem same_ideal : Cert.algebraic_ExpertsIdeal_ExpertsReferenceIdeal := fun m g m' g' _ ha =>
  ⟨fun c => Cert.ExpertsReferenceIdeal.Read.val_main_v84 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)),
    (θ_run defs _ _).mono (fun _ h c => ⟨(h.1 c).1.trans (result m c), (h.1 c).2⟩) (run_main m g (ok m)),
    (θ_run Cert.ExpertsReferenceIdeal.defs _ _).mono (fun _ h c => ⟨(h c).1.trans (by
        refine (Cert.ExpertsReferenceIdeal.Read.val_main_v84_eq _ _).trans ?_
        obtain ⟨h0, h1, h2, h3, h4, h5⟩ := ha c
        rw [h0, h1, h2, h3, h4, h5]), (h c).2⟩) (Cert.ExpertsReferenceIdeal.Value.run (F := Ideal) m' g')⟩

end Cert.Ffn
end
-- ==== Proof.Glu.lean ====
/-
  The convolution module's first half: after the run of `GluIdeal` a sequence's first 112 positions, which precede its first
  token, hold zeros; at every later one column `q` is the activations against the weight's column `q`, plus its bias, times the
  logistic of the same with column `1024 + q`. Each of the 16 · 4 grid points writes its own block of 544 positions of one
  sequence; the zeros lie in the first of a sequence's four blocks.
-/
module

public import proofs.«01_k».proof.Defs
public import proofs.«01_k».proof.Proof.Gen.Glu.Frame
public import proofs.«01_k».proof.Proof.Gen.GluIdeal.Frame
public import proofs.«01_k».proof.Proof.Gen.GluIdeal.Value
public import proofs.«01_k».proof.Proof.Gen.GluReferenceIdeal.Run
public import proofs.«01_k».proof.Proof.Gen.GluReferenceIdeal.Read
public import Idealize.ShloMosaic.Lib.Pipeline.ValueKit
public import Idealize.ShloMosaic.Lib.Pointwise

@[expose] public section

set_option maxRecDepth 16384

noncomputable section

namespace Cert.GluCall

open Idealize.ShloMosaic Idealize.ShloMosaic.TcCoe Idealize.SL.Sem

abbrev Input := BufTy.Contents (Elt Ideal) ⟨⟨3, ![16, 2176, 1024]⟩, .f32⟩
abbrev Weight := BufTy.Contents (Elt Ideal) ⟨⟨2, ![1024, 2048]⟩, .f32⟩
abbrev Bias := BufTy.Contents (Elt Ideal) ⟨⟨1, ![2048]⟩, .f32⟩

/-- Column `j` of the product at a position, with its bias. -/
def layer (h : Input) (w : Weight) (b : Bias) (s : Fin 16) (p : Fin 2176) (j : Fin 2048) : EReal :=
  (∑ k : Fin 1024, h (ix3 s p k) * w (ix2 k j)) + b (ix1 j)

/-- A column times the logistic of its gate. -/
def gated (h : Input) (w : Weight) (b : Bias) (s : Fin 16) (p : Fin 2176) (q : Fin 1024) : EReal :=
  layer h w b s p ⟨q.val, by omega⟩ * Ideal.div 1 (1 + Ideal.exp (-(layer h w b s p ⟨1024 + q.val, by omega⟩)))

/-- The result at a position. -/
def outAt (h : Input) (w : Weight) (b : Bias) (s : Fin 16) (p : Fin 2176) (q : Fin 1024) : EReal :=
  if p.val < 112 then 0 else gated h w b s p q

/-- The whole result. -/
def out (h : Input) (w : Weight) (b : Bias) : Input := fun j =>
  outAt h w b ⟨(j 0).val, (j 0).isLt⟩ ⟨(j 1).val, (j 1).isLt⟩ ⟨(j 2).val, (j 2).isLt⟩

theorem out_of (h : Input) (w : Weight) (b : Bias) (j : (⟨3, ![16, 2176, 1024]⟩ : Shape).Idx) (s : Fin 16) (p : Fin 2176) (q : Fin 1024)
    (e0 : (j 0 : ℕ) = s.val) (e1 : (j 1 : ℕ) = p.val) (e2 : (j 2 : ℕ) = q.val) : out h w b j = outAt h w b s p q :=
  congr (congr (congrArg (outAt h w b) (Fin.ext e0)) (Fin.ext e1)) (Fin.ext e2)

section Ref
open Cert.GluReferenceIdeal Cert.GluReferenceIdeal.Gen Cert.GluReferenceIdeal.Read

variable (h : (⟨S16x2176x1024, .f32⟩ : BufTy).Contents (Elt Ideal)) (w : (⟨S1024x2048, .f32⟩ : BufTy).Contents (Elt Ideal))
  (b : (⟨S2048, .f32⟩ : BufTy).Contents (Elt Ideal)) (s : Fin 16)

theorem layer_eq (p : Fin 2064) (j : Fin 2048) : val_main_v4 (F := Ideal) h w b (ix3 s p j) = layer h w b s ⟨112 + p.val, by omega⟩ j := by
  rw [val_main_v4_apply, val_main_v1_apply, val_main_v3_apply, val_main_v2_apply]
  refine congrArg₂ (fun a b : EReal => a + b) (Finset.sum_congr (M := EReal) rfl fun k _ => ?_) (congrArg b ?_)
  · rw [val_main_v0_apply]
    refine congrArg₂ (fun a b : EReal => a * b) (congrArg h ?_) (congrArg w ?_)
    · funext a; fin_cases a <;> rfl
    · funext a; fin_cases a <;> rfl
  · funext a; fin_cases a; rfl

theorem gated_eq (p : Fin 2064) (q : Fin 1024) : val_main_v13 (F := Ideal) h w b (ix3 s p q) = gated h w b s ⟨112 + p.val, by omega⟩ q := by
  unfold gated
  rw [← layer_eq, ← layer_eq]
  unfold val_main_v13 val_main_v12 val_main_v11 val_main_v10 val_main_v9 val_main_v8 val_main_v7 val_main_v6 val_main_v5
  pointwise [val_main_cst, val_main_cst_0]

/-- The reference's result. -/
theorem reference_eq : val_main_v15 (F := Ideal) h w b = out h w b := by
  funext j
  obtain ⟨s, p, q, rfl⟩ : ∃ (s : Fin 16) (p : Fin 2176) (q : Fin 1024), j = (ix3 s p q : S16x2176x1024.Idx) :=
    ⟨⟨(j 0).val, (j 0).isLt⟩, ⟨(j 1).val, (j 1).isLt⟩, ⟨(j 2).val, (j 2).isLt⟩, funext fun a => by match a with | ⟨0, _⟩ => rfl | ⟨1, _⟩ => rfl | ⟨2, _⟩ => rfl⟩
  refine Eq.trans ?_ (out_of h w b _ s p q rfl rfl rfl).symm
  unfold val_main_v15 outAt
  pointwise
  split_ifs with hp h1
  · unfold val_main_v14
    pointwise [val_main_cst_1]
  · refine (gated_eq h w b s _ q).trans (congrArg (fun p => gated h w b s p q) (Fin.ext ?_))
    show 112 + (p.val - 112) = p.val
    omega
  · exact absurd rfl h1

end Ref

section Run
open Cert.GluIdeal Cert.GluIdeal.Gen

theorem select_bool {α : Type} (b : BitVec 1) (p : Prop) [Decidable p] (u v : α) (h : Scalar.select b true false = decide p) :
    Scalar.select b u v = if p then u else v := by
  revert h
  unfold Scalar.select
  split <;> intro h <;> simp_all

/-- Row `r` of a sequence's `j`-th block is kept unless it is one of the sequence's first 112 positions. -/
theorem kept_words : ∀ (j : Fin 4) (r : Fin 544), Scalar.select
    (IntOp.ori (Scalar.cmpi CmpIPredicate.sgt (BitVec.ofNat 32 j.val) 0#32) (IntOp.cmpi CmpIPredicate.sge (BitVec.ofNat 32 r.val) 112#32)) true false
      = decide (¬ j.val * 544 + r.val < 112) := by
  decide +kernel

/-- A row of a block. -/
theorem block_apply (i : grid0.Coords) (X : Vec Ideal S1x544x1024 .f32) (WA : Vec Ideal S1024x1024 .bf16) (BA : Vec Ideal S1x1024 .f32) (WG : Vec Ideal S1024x1024 .bf16)
    (BG : Vec Ideal S1x1024 .f32) (r : Fin 544) (q : Fin 1024) : k0_pay1 (F := Ideal) i X WA BA WG BG (ix3 0 r q)
      = if (i 1).val * 544 + r.val < 112 then (0 : EReal) else (∑ k, X (ix3 0 r k) * WA (ix2 k q) + BA (ix2 0 q))
          * Ideal.div 1 (1 + Ideal.exp (-(∑ k, X (ix3 0 r k) * WG (ix2 k q) + BG (ix2 0 q)))) := by
  pointwise [k0_pay1]
  rw [zero_sub]
  refine (select_bool _ _ _ _ (kept_words ⟨(i 1).val, (i 1).isLt⟩ r)).trans ?_
  exact ite_not _ _ _

variable (m : (ℓ : Loc nD τ sig) → Buf (Elt Ideal) ℓ) (c : Dev nD)

theorem V_arg0 : V m c main_arg0 = m ((c : Thread nD τ).loc main_arg0) := by
  unfold V hostOps0; after_results

theorem V_v1 : V m c main_v1 = truncf (F := Ideal) .bf16 (extractStridedSlice S1024x1024 ![0, 0] (m ((c : Thread nD τ).loc main_arg1)) Facts₀.slices_S1024x2048_S1024x1024_0_0) Facts₀.bitsLt_bf16_f32 := by
  unfold V hostOps0; after_results

theorem V_v3 : V m c main_v3 = truncf (F := Ideal) .bf16 (extractStridedSlice S1024x1024 ![0, 1024] (m ((c : Thread nD τ).loc main_arg1)) Facts₀.slices_S1024x2048_S1024x1024_0_1024) Facts₀.bitsLt_bf16_f32 := by
  unfold V hostOps0; after_results

theorem V_v5 : V m c main_v5 = broadcastInDim S1x1024 ![1] Facts₀.bcast_S1024_S1x1024_1 (extractStridedSlice S1024 ![0] (m ((c : Thread nD τ).loc main_arg2)) Facts₀.slices_S2048_S1024_0) := by
  unfold V hostOps0; after_results

theorem V_v7 : V m c main_v7 = broadcastInDim S1x1024 ![1] Facts₀.bcast_S1024_S1x1024_1 (extractStridedSlice S1024 ![1024] (m ((c : Thread nD τ).loc main_arg2)) Facts₀.slices_S2048_S1024_1024) := by
  unfold V hostOps0; after_results

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])

theorem coord0 (t : Fin cfg0.N) : (grid0.coords t 0).val < 16 := (grid0.coords t 0).isLt
theorem coord1 (t : Fin cfg0.N) : (grid0.coords t 1).val < 4 := (grid0.coords t 1).isLt

theorem bias0_apply (x : (⟨S2048, .f32⟩ : BufTy).Contents (Elt Ideal)) (y : S1x1024.Idx) (q : Fin 1024) (e : (y 1 : ℕ) = q.val) :
    broadcastInDim S1x1024 ![1] Facts₀.bcast_S1024_S1x1024_1 (extractStridedSlice S1024 ![0] x Facts₀.slices_S2048_S1024_0) y = x (ix1 ⟨q.val, by omega⟩) :=
  (broadcastInDim_apply _ Facts₀.bcast_S1024_S1x1024_1 _ y (ix1 q) fun a => match a with
    | ⟨0, _⟩ => by show q.val = if (1024 : ℕ) = 1 then 0 else (y 1 : ℕ); rw [if_neg (by decide)]; exact e.symm).trans
  (extractStridedSlice_apply _ x Facts₀.slices_S2048_S1024_0 (ix1 q) (ix1 ⟨q.val, by omega⟩) fun a => match a with
    | ⟨0, _⟩ => by show q.val = 0 + q.val; omega)

theorem bias1_apply (x : (⟨S2048, .f32⟩ : BufTy).Contents (Elt Ideal)) (y : S1x1024.Idx) (q : Fin 1024) (e : (y 1 : ℕ) = q.val) :
    broadcastInDim S1x1024 ![1] Facts₀.bcast_S1024_S1x1024_1 (extractStridedSlice S1024 ![1024] x Facts₀.slices_S2048_S1024_1024) y = x (ix1 ⟨1024 + q.val, by omega⟩) :=
  (broadcastInDim_apply _ Facts₀.bcast_S1024_S1x1024_1 _ y (ix1 q) fun a => match a with
    | ⟨0, _⟩ => by show q.val = if (1024 : ℕ) = 1 then 0 else (y 1 : ℕ); rw [if_neg (by decide)]; exact e.symm).trans
  (extractStridedSlice_apply _ x Facts₀.slices_S2048_S1024_1024 (ix1 q) (ix1 ⟨1024 + q.val, by omega⟩) fun a => match a with
    | ⟨0, _⟩ => rfl)

/-- The staged activations: 544 positions of one sequence. -/
theorem staged0 (t : Fin cfg0.N) (r : Fin 544) (k : Fin 1024) : iblk m c 0 t (ix3 0 r k) = m ((c : Thread nD τ).loc main_arg0)
    (ix3 ⟨(grid0.coords t 0).val, coord0 t⟩ ⟨(grid0.coords t 1).val * 544 + r.val, by have := coord1 t; omega⟩ k) := by
  show V m c main_arg0 (((cfg0.win 0).blk t).view.emb (ix3 0 r k)) = _
  rw [V_arg0]
  refine congrArg _ (funext fun a => Fin.ext ?_)
  match a with
  | ⟨0, _⟩ =>
    show ((((cfg0.win 0).blk t).view.emb (ix3 0 r k)) 0 : ℕ) = (grid0.coords t 0).val
    blk_simp [index0 t]
    rfl
  | ⟨1, _⟩ =>
    show ((((cfg0.win 0).blk t).view.emb (ix3 0 r k)) 1 : ℕ) = (grid0.coords t 1).val * 544 + r.val
    blk_simp [index0 t];
  | ⟨2, _⟩ =>
    show ((((cfg0.win 0).blk t).view.emb (ix3 0 r k)) 2 : ℕ) = k.val
    blk_simp [index0 t];

/-- The staged weight of the columns: the weight's first half. -/
theorem staged1 (t : Fin cfg0.N) (k q : Fin 1024) : iblk m c 1 t (ix2 k q) = m ((c : Thread nD τ).loc main_arg1) (ix2 k ⟨q.val, by omega⟩) := by
  show V m c main_v1 (((cfg0.win 1).blk t).view.emb (ix2 k q)) = _
  rw [V_v1]
  refine extractStridedSlice_apply (s := S1024x2048) (t := S1024x1024) _ _ Facts₀.slices_S1024x2048_S1024x1024_0_0 _ _ fun x => ?_
  match x with
  | ⟨0, _⟩ =>
    show k.val = 0 + ((((cfg0.win 1).blk t).view.emb (ix2 k q)) 0 : ℕ)
    blk_simp [index1 t];
  | ⟨1, _⟩ =>
    show q.val = 0 + ((((cfg0.win 1).blk t).view.emb (ix2 k q)) 1 : ℕ)
    blk_simp [index1 t];

/-- The staged weight of the gates: the weight's second half. -/
theorem staged2 (t : Fin cfg0.N) (k q : Fin 1024) : iblk m c 2 t (ix2 k q) = m ((c : Thread nD τ).loc main_arg1) (ix2 k ⟨1024 + q.val, by omega⟩) := by
  show V m c main_v3 (((cfg0.win 2).blk t).view.emb (ix2 k q)) = _
  rw [V_v3]
  refine extractStridedSlice_apply (s := S1024x2048) (t := S1024x1024) _ _ Facts₀.slices_S1024x2048_S1024x1024_0_1024 _ _ fun x => ?_
  match x with
  | ⟨0, _⟩ =>
    show k.val = 0 + ((((cfg0.win 2).blk t).view.emb (ix2 k q)) 0 : ℕ)
    blk_simp [index2 t];
  | ⟨1, _⟩ =>
    show 1024 + q.val = 1024 + ((((cfg0.win 2).blk t).view.emb (ix2 k q)) 1 : ℕ)
    blk_simp [index2 t];

/-- The staged biases of the columns. -/
theorem staged3 (t : Fin cfg0.N) (q : Fin 1024) : iblk m c 3 t (ix2 0 q) = m ((c : Thread nD τ).loc main_arg2) (ix1 ⟨q.val, by omega⟩) := by
  show V m c main_v5 (((cfg0.win 3).blk t).view.emb (ix2 0 q)) = _
  rw [V_v5]
  refine bias0_apply _ _ _ ?_
  blk_simp [index3 t]

/-- The staged biases of the gates. -/
theorem staged4 (t : Fin cfg0.N) (q : Fin 1024) : iblk m c 4 t (ix2 0 q) = m ((c : Thread nD τ).loc main_arg2) (ix1 ⟨1024 + q.val, by omega⟩) := by
  show V m c main_v7 (((cfg0.win 4).blk t).view.emb (ix2 0 q)) = _
  rw [V_v7]
  refine bias1_apply _ _ _ ?_
  blk_simp [index4 t]

/-- The result array after the run. -/
theorem result : (dats m 0 c).arrAt 5 cfg0.N = out (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, q, rfl⟩ : ∃ (r : Fin 544) (q : Fin 1024), y = (ix3 0 r q : S1x544x1024.Idx) :=
    ⟨⟨(y 1).val, (y 1).isLt⟩, ⟨(y 2).val, (y 2).isLt⟩, funext fun a => by
      match a with
      | ⟨0, _⟩ => exact Fin.ext (Nat.lt_one_iff.mp (y 0).isLt)
      | ⟨1, _⟩ => rfl
      | ⟨2, _⟩ => rfl⟩
  have := coord1 t
  refine Eq.trans ?_ (out_of _ _ _ _ ⟨(grid0.coords t 0).val, coord0 t⟩ ⟨(grid0.coords t 1).val * 544 + r.val, by omega⟩ q ?_ ?_ ?_).symm
  · blk_simp
    rw [after0_5]
    frame_out
    refine (block_apply _ _ _ _ _ _ r q).trans ?_
    unfold outAt gated layer
    refine congrArg (fun z : EReal => if (grid0.coords t 1).val * 544 + r.val < 112 then (0 : EReal) else z)
      (congrArg₂ (fun a g : EReal => a * Ideal.div 1 (1 + Ideal.exp (-g))) ?_ ?_)
    · exact congrArg₂ (fun a b : EReal => a + b)
        (Finset.sum_congr (M := EReal) rfl fun k _ => congrArg₂ (fun a b : EReal => a * b) (staged0 m c t r k) (staged1 m c t k q)) (staged3 m c t q)
    · exact congrArg₂ (fun a b : EReal => a + b)
        (Finset.sum_congr (M := EReal) rfl fun k _ => congrArg₂ (fun a b : EReal => a * b) (staged0 m c t r k) (staged2 m c t k q)) (staged4 m c t q)
  · blk_simp [index5 t]
    rfl
  · blk_simp [index5 t]
  · blk_simp [index5 t]

end Run

theorem frame_kernel : Cert.quiescent_Glu := fun m ρ _ => Cert.Glu.Gen.frame m ρ

theorem frame_kernelIdeal : Cert.quiescent_GluIdeal := fun m ρ _ => Cert.GluIdeal.Gen.frame m ρ

theorem frame_referenceIdeal : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

/-- The call and its reference agree. -/
theorem same_ideal : Cert.algebraic_GluIdeal_GluReferenceIdeal := fun m g m' g' _ ha =>
  ⟨fun c => out (m ((c : Thread Cert.GluIdeal.nD Cert.GluIdeal.τ).loc Cert.GluIdeal.main_arg0))
      (m ((c : Thread Cert.GluIdeal.nD Cert.GluIdeal.τ).loc Cert.GluIdeal.main_arg1))
      (m ((c : Thread Cert.GluIdeal.nD Cert.GluIdeal.τ).loc Cert.GluIdeal.main_arg2)),
    (θ_run Cert.GluIdeal.defs _ _).mono (fun _ h c => ⟨(h c).1.trans (result m c), (h c).2⟩) (Cert.GluIdeal.Value.run_blocks m g),
    (θ_run Cert.GluReferenceIdeal.defs _ _).mono (fun _ h c => ⟨(h c).1.trans (by
        refine (Cert.GluReferenceIdeal.Read.val_main_v15_eq _ _ _).trans ((reference_eq _ _ _).trans ?_)
        obtain ⟨h0, h1, h2⟩ := ha c
        rw [h0, h1, h2]), (h c).2⟩) (Cert.GluReferenceIdeal.Value.run (F := Ideal) m' g')⟩

end Cert.GluCall

end
-- ==== Proof.Output.lean ====
/-
  The mixer's output product and the layer norm after it. Row `n` of the result is sequence `n / 2176`, position `n % 2176`:
  the layer norm of the residual, which is the layer's input times `8 ^ (1/4)` plus the scan's row times the output weight.
  Each of the 68 grid points writes its own 512 rows, whole, so a row's mean and variance are taken inside one block.
-/
module

public import proofs.«01_k».proof.Defs
public import proofs.«01_k».proof.Proof.Gen.Output.Frame
public import proofs.«01_k».proof.Proof.Gen.OutputIdeal.Frame
public import proofs.«01_k».proof.Proof.Gen.OutputIdeal.Value
public import proofs.«01_k».proof.Proof.Gen.OutputReferenceIdeal.Run
public import proofs.«01_k».proof.Proof.Gen.OutputReferenceIdeal.Read
public import Idealize.ShloMosaic.Lib.Pipeline.ValueKit
public import Idealize.ShloMosaic.Lib.Pointwise

@[expose] public section

set_option maxRecDepth 16384

noncomputable section

namespace Cert.OutputCall

open Idealize.ShloMosaic Idealize.ShloMosaic.TcCoe Idealize.SL.Sem

abbrev ScanOut := BufTy.Contents (Elt Ideal) ⟨⟨3, ![16, 2176, 2048]⟩, .f32⟩
abbrev Input := BufTy.Contents (Elt Ideal) ⟨⟨3, ![16, 2176, 1024]⟩, .f32⟩
abbrev Weight := BufTy.Contents (Elt Ideal) ⟨⟨2, ![2048, 1024]⟩, .f32⟩
abbrev Column := BufTy.Contents (Elt Ideal) ⟨⟨1, ![1024]⟩, .f32⟩

/-- The residual at a position: the input times `8 ^ (1/4)`, plus the scan's row times the weight. -/
def residual (y : ScanOut) (h : Input) (w : Weight) (s : Fin 16) (p : Fin 2176) (q : Fin 1024) : EReal :=
  Ideal.ofBits .f32 0x3FD744FD#32 * h (ix3 s p q) + ∑ k : Fin 2048, y (ix3 s p k) * w (ix2 k q)

/-- The mean of a row of 1024. -/
def mean (v : Fin 1024 → EReal) : EReal := Ideal.div (∑ k, v k) (Ideal.ofBits .f32 0x44800000#32)

/-- A row less its mean, over the root of its variance plus a small constant, scaled and shifted. -/
def normalized (v g b : Fin 1024 → EReal) (q : Fin 1024) : EReal :=
  (v q - mean v) * Ideal.rsqrt (mean (fun k => (v k - mean v) * (v k - mean v)) + Ideal.ofBits .f32 0x3727C5AC#32) * g q + b q

/-- The result at row `n`. -/
def outAt (y : ScanOut) (h : Input) (w : Weight) (g b : Column) (n : ℕ) (hn : n < 34816) (q : Fin 1024) : EReal :=
  normalized (residual y h w ⟨n / 2176, by omega⟩ ⟨n % 2176, by omega⟩) (fun q => g (ix1 q)) (fun q => b (ix1 q)) q

/-- The whole result. -/
def out (y : ScanOut) (h : Input) (w : Weight) (g b : Column) : (⟨⟨2, ![34816, 1024]⟩, .f32⟩ : BufTy).Contents (Elt Ideal) := fun j =>
  outAt y h w g b (j 0).val (j 0).isLt ⟨(j 1).val, (j 1).isLt⟩

theorem out_of (y : ScanOut) (h : Input) (w : Weight) (g b : Column) (j : (⟨2, ![34816, 1024]⟩ : Shape).Idx) (n : ℕ) (hn : n < 34816) (q : Fin 1024)
    (e0 : (j 0 : ℕ) = n) (e1 : (j 1 : ℕ) = q.val) : out y h w g b j = outAt y h w g b n hn q := by
  subst e0
  exact congrArg (outAt y h w g b _ hn) (Fin.ext e1)

section Ref
open Cert.OutputReferenceIdeal Cert.OutputReferenceIdeal.Gen Cert.OutputReferenceIdeal.Read

variable (y : (⟨S16x2176x2048, .f32⟩ : BufTy).Contents (Elt Ideal)) (h : (⟨S16x2176x1024, .f32⟩ : BufTy).Contents (Elt Ideal))
  (w : (⟨S2048x1024, .f32⟩ : BufTy).Contents (Elt Ideal)) (g b : (⟨S1024, .f32⟩ : BufTy).Contents (Elt Ideal)) (s : Fin 16) (p : Fin 2176) (q : Fin 1024)

theorem residual_eq : val_main_v3 (F := Ideal) y h w (ix3 s p q) = residual y h w s p q := by
  rw [val_main_v3_apply, val_main_v1_apply, val_main_v0_apply, val_main_cst_apply, val_main_v2_apply]
  refine congrArg (fun z : EReal => _ + z) (Finset.sum_congr (M := EReal) rfl fun k _ => congrArg₂ (fun a b : EReal => a * b) (congrArg y ?_) (congrArg w ?_))
  · funext a; fin_cases a <;> rfl
  · funext a; fin_cases a <;> rfl

theorem normalized_eq : val_main_v25 (F := Ideal) y h w g b (ix3 s p q)
    = normalized (residual y h w s p) (fun q => g (ix1 q)) (fun q => b (ix1 q)) q := by
  have hv : residual y h w s p = fun q => val_main_v3 (F := Ideal) y h w (ix3 s p q) := funext fun q => (residual_eq y h w s p q).symm
  rw [hv]
  unfold val_main_v25 val_main_v24 val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4
  pointwise [val_main_cst_0, val_main_cst_1, val_main_cst_2, val_main_cst_3, val_main_cst_4]
  rfl

/-- The reference's result. -/
theorem reference_eq : val_main_v26 (F := Ideal) y h w g b = out y h w g b := by
  funext j
  have h0 : (j 0 : ℕ) < 34816 := (j 0).isLt
  have h1 : (j 1 : ℕ) < 1024 := (j 1).isLt
  rw [val_main_v26_apply]
  refine Eq.trans (congrArg (val_main_v25 (F := Ideal) y h w g b) (?_ : _ = ix3 ⟨(j 0 : ℕ) / 2176, by omega⟩ ⟨(j 0 : ℕ) % 2176, by omega⟩ ⟨(j 1 : ℕ), h1⟩))
    (normalized_eq y h w g b _ _ _)
  funext a
  refine Fin.ext ?_
  match a with
  | ⟨0, _⟩ => show ((j 0 : ℕ) * 1024 + (j 1 : ℕ)) / 2228224 = (j 0 : ℕ) / 2176; omega
  | ⟨1, _⟩ => show ((j 0 : ℕ) * 1024 + (j 1 : ℕ)) / 1024 % 2176 = (j 0 : ℕ) % 2176; omega
  | ⟨2, _⟩ => show ((j 0 : ℕ) * 1024 + (j 1 : ℕ)) % 1024 = (j 1 : ℕ); omega

end Ref

section Run
open Cert.OutputIdeal Cert.OutputIdeal.Gen

/-- A row of a block, when its residual is `v`. -/
theorem block_apply (Y : Vec Ideal S512x2048 .f32) (W : Vec Ideal S2048x1024 .bf16) (H : Vec Ideal S512x1024 .f32) (G B : Vec Ideal S1x1024 .f32) (r : Fin 512) (q : Fin 1024)
    (v : Fin 1024 → EReal) (hv : ∀ q : Fin 1024, (Ideal.ofBits .f32 0x3FD744FD#32 * H (ix2 r q) + ∑ k : Fin 2048, Y (ix2 r k) * W (ix2 k q) : EReal) = v q) :
    k0_pay1 (F := Ideal) Y W H G B (ix2 r q) = normalized v (fun q => G (ix2 0 q)) (fun q => B (ix2 0 q)) q := by
  have hv : v = fun q : Fin 1024 => (Ideal.ofBits .f32 0x3FD744FD#32 * H (ix2 r q) + ∑ k : Fin 2048, Y (ix2 r k) * W (ix2 k q) : EReal) := funext fun q => (hv q).symm
  rw [hv]
  pointwise [k0_pay1]
  rfl

variable (m : (ℓ : Loc nD τ sig) → Buf (Elt Ideal) ℓ) (c : Dev nD)

theorem V_v0 : V m c main_v0 = shapeCast S34816x2048 (m ((c : Thread nD τ).loc main_arg0)) Facts₀.shapeCasts_S16x2176x2048_S34816x2048 := by
  unfold V hostOps0; after_results; rfl

theorem V_v1 : V m c main_v1 = truncf (F := Ideal) .bf16 (m ((c : Thread nD τ).loc main_arg2)) Facts₀.bitsLt_bf16_f32 := by
  unfold V hostOps0; after_results

theorem V_v2 : V m c main_v2 = shapeCast S34816x1024 (m ((c : Thread nD τ).loc main_arg1)) Facts₀.shapeCasts_S16x2176x1024_S34816x1024 := by
  unfold V hostOps0; after_results; rfl

theorem V_v3 : V m c main_v3 = broadcastInDim S1x1024 ![1] Facts₀.bcast_S1024_S1x1024_1 (m ((c : Thread nD τ).loc main_arg3)) := by
  unfold V hostOps0; after_results

theorem V_v4 : V m c main_v4 = broadcastInDim S1x1024 ![1] Facts₀.bcast_S1024_S1x1024_1 (m ((c : Thread nD τ).loc main_arg4)) := by
  unfold V hostOps0; after_results

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![(grid0.coords t 0).val, 0] :=
  (by decide +kernel : ∀ t : Fin grid0.N, win0_5.index t = ![(grid0.coords t 0).val, 0])

theorem coord0 (t : Fin cfg0.N) : (grid0.coords t 0).val < 68 := (grid0.coords t 0).isLt

theorem scan_apply (x : (⟨S16x2176x2048, .f32⟩ : BufTy).Contents (Elt Ideal)) (y : S34816x2048.Idx) (r : ℕ) (b : Fin 2048)
    (e0 : (y 0 : ℕ) = r) (e1 : (y 1 : ℕ) = b.val) : shapeCast S34816x2048 x Facts₀.shapeCasts_S16x2176x2048_S34816x2048 y
      = x (ix3 ⟨r / 2176, by have h : (y 0 : ℕ) < 34816 := (y 0).isLt; omega⟩ ⟨r % 2176, by omega⟩ b) := by
  subst e0
  refine shapeCast_apply (s := S16x2176x2048) (t := S34816x2048) _ _ _ _ ?_
  rewrite [Shape.rowMajor_val_three, Shape.rowMajor_val_two]
  show (((y 0 : ℕ) / 2176) * 2176 + (y 0 : ℕ) % 2176) * 2048 + b.val = (y 0 : ℕ) * 2048 + (y 1 : ℕ)
  omega

theorem input_apply (x : (⟨S16x2176x1024, .f32⟩ : BufTy).Contents (Elt Ideal)) (y : S34816x1024.Idx) (r : ℕ) (b : Fin 1024)
    (e0 : (y 0 : ℕ) = r) (e1 : (y 1 : ℕ) = b.val) : shapeCast S34816x1024 x Facts₀.shapeCasts_S16x2176x1024_S34816x1024 y
      = x (ix3 ⟨r / 2176, by have h : (y 0 : ℕ) < 34816 := (y 0).isLt; omega⟩ ⟨r % 2176, by omega⟩ b) := by
  subst e0
  refine shapeCast_apply (s := S16x2176x1024) (t := S34816x1024) _ _ _ _ ?_
  rewrite [Shape.rowMajor_val_three, Shape.rowMajor_val_two]
  show (((y 0 : ℕ) / 2176) * 2176 + (y 0 : ℕ) % 2176) * 1024 + b.val = (y 0 : ℕ) * 1024 + (y 1 : ℕ)
  omega

theorem column_apply (x : (⟨S1024, .f32⟩ : BufTy).Contents (Elt Ideal)) (y : S1x1024.Idx) (q : Fin 1024) (e : (y 1 : ℕ) = q.val) :
    broadcastInDim S1x1024 ![1] Facts₀.bcast_S1024_S1x1024_1 x y = x (ix1 q) :=
  broadcastInDim_apply _ Facts₀.bcast_S1024_S1x1024_1 x y (ix1 q) fun a => match a with
    | ⟨0, _⟩ => by show q.val = if (1024 : ℕ) = 1 then 0 else (y 1 : ℕ); rw [if_neg (by decide)]; exact e.symm

/-- The staged rows of the scan's output. -/
theorem staged0 (t : Fin cfg0.N) (r : Fin 512) (k : Fin 2048) : iblk m c 0 t (ix2 r k) = m ((c : Thread nD τ).loc main_arg0)
    (ix3 ⟨((grid0.coords t 0).val * 512 + r.val) / 2176, by have := coord0 t; omega⟩ ⟨((grid0.coords t 0).val * 512 + r.val) % 2176, by omega⟩ k) := by
  show V m c main_v0 (((cfg0.win 0).blk t).view.emb (ix2 r k)) = _
  rw [V_v0]
  refine scan_apply _ _ _ _ ?_ ?_
  · blk_simp [index0 t]
  · blk_simp [index0 t]

/-- The staged weight. -/
theorem staged1 (t : Fin cfg0.N) (k : Fin 2048) (q : Fin 1024) : iblk m c 1 t (ix2 k q) = m ((c : Thread nD τ).loc main_arg2) (ix2 k q) := by
  show V m c main_v1 (((cfg0.win 1).blk t).view.emb (ix2 k q)) = _
  rw [V_v1]
  show m ((c : Thread nD τ).loc main_arg2) (((cfg0.win 1).blk t).view.emb (ix2 k q)) = _
  refine congrArg _ (funext fun a => Fin.ext ?_)
  match a with
  | ⟨0, _⟩ =>
    show ((((cfg0.win 1).blk t).view.emb (ix2 k q)) 0 : ℕ) = k.val
    blk_simp [index1 t];
  | ⟨1, _⟩ =>
    show ((((cfg0.win 1).blk t).view.emb (ix2 k q)) 1 : ℕ) = q.val
    blk_simp [index1 t];

/-- The staged rows of the layer's input. -/
theorem staged2 (t : Fin cfg0.N) (r : Fin 512) (q : Fin 1024) : iblk m c 2 t (ix2 r q) = m ((c : Thread nD τ).loc main_arg1)
    (ix3 ⟨((grid0.coords t 0).val * 512 + r.val) / 2176, by have := coord0 t; omega⟩ ⟨((grid0.coords t 0).val * 512 + r.val) % 2176, by omega⟩ q) := by
  show V m c main_v2 (((cfg0.win 2).blk t).view.emb (ix2 r q)) = _
  rw [V_v2]
  refine input_apply _ _ _ _ ?_ ?_
  · blk_simp [index2 t]
  · blk_simp [index2 t]

/-- The staged scale. -/
theorem staged3 (t : Fin cfg0.N) (q : Fin 1024) : iblk m c 3 t (ix2 0 q) = m ((c : Thread nD τ).loc main_arg3) (ix1 q) := by
  show V m c main_v3 (((cfg0.win 3).blk t).view.emb (ix2 0 q)) = _
  rw [V_v3]
  refine column_apply _ _ _ ?_
  blk_simp [index3 t]

/-- The staged shift. -/
theorem staged4 (t : Fin cfg0.N) (q : Fin 1024) : iblk m c 4 t (ix2 0 q) = m ((c : Thread nD τ).loc main_arg4) (ix1 q) := by
  show V m c main_v4 (((cfg0.win 4).blk t).view.emb (ix2 0 q)) = _
  rw [V_v4]
  refine column_apply _ _ _ ?_
  blk_simp [index4 t]

/-- The result array after the run. -/
theorem result : (dats m 0 c).arrAt 5 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, q, rfl⟩ : ∃ (r : Fin 512) (q : Fin 1024), y = (ix2 r q : S512x1024.Idx) :=
    ⟨⟨(y 0).val, (y 0).isLt⟩, ⟨(y 1).val, (y 1).isLt⟩, funext fun a => by match a with | ⟨0, _⟩ => rfl | ⟨1, _⟩ => rfl⟩
  have := coord0 t
  refine Eq.trans ?_ (out_of _ _ _ _ _ _ ((grid0.coords t 0).val * 512 + r.val) (by omega) q ?_ ?_).symm
  · blk_simp
    rw [after0_5]
    frame_out
    refine (block_apply _ _ _ _ _ r q (residual (m ((c : Thread nD τ).loc main_arg0)) (m ((c : Thread nD τ).loc main_arg1)) (m ((c : Thread nD τ).loc main_arg2))
      ⟨((grid0.coords t 0).val * 512 + r.val) / 2176, by omega⟩ ⟨((grid0.coords t 0).val * 512 + r.val) % 2176, by omega⟩) fun q => ?_).trans ?_
    · unfold residual
      exact congrArg₂ (fun a b : EReal => Ideal.ofBits .f32 0x3FD744FD#32 * a + b) (staged2 m c t r q)
        (Finset.sum_congr (M := EReal) rfl fun k _ => congrArg₂ (fun a b : EReal => a * b) (staged0 m c t r k) (staged1 m c t k q))
    · exact congrArg₂ (fun g b => normalized _ g b q) (funext (staged3 m c t)) (funext (staged4 m c t))
  · blk_simp [index5 t]
  · blk_simp [index5 t]

end Run

theorem frame_kernel : Cert.quiescent_Output := fun m ρ _ => Cert.Output.Gen.frame m ρ

theorem frame_kernelIdeal : Cert.quiescent_OutputIdeal := fun m ρ _ => Cert.OutputIdeal.Gen.frame m ρ

theorem frame_referenceIdeal : Cert.quiescent_OutputReferenceIdeal := fun m ρ _ =>
  (θ_run Cert.OutputReferenceIdeal.defs _ _).mono (fun r h => ⟨fun c => (h c).2, sem_eq_zero_of_no_sems (by decide) r.2⟩)
    (Cert.OutputReferenceIdeal.Value.run (F := Ideal) m ρ)

/-- The call and its reference agree. -/
theorem same_ideal : Cert.algebraic_OutputIdeal_OutputReferenceIdeal := fun m g m' g' _ ha =>
  ⟨fun c => out (m ((c : Thread Cert.OutputIdeal.nD Cert.OutputIdeal.τ).loc Cert.OutputIdeal.main_arg0))
      (m ((c : Thread Cert.OutputIdeal.nD Cert.OutputIdeal.τ).loc Cert.OutputIdeal.main_arg1))
      (m ((c : Thread Cert.OutputIdeal.nD Cert.OutputIdeal.τ).loc Cert.OutputIdeal.main_arg2))
      (m ((c : Thread Cert.OutputIdeal.nD Cert.OutputIdeal.τ).loc Cert.OutputIdeal.main_arg3))
      (m ((c : Thread Cert.OutputIdeal.nD Cert.OutputIdeal.τ).loc Cert.OutputIdeal.main_arg4)),
    (θ_run Cert.OutputIdeal.defs _ _).mono (fun _ h c => ⟨(h c).1.trans (result m c), (h c).2⟩) (Cert.OutputIdeal.Value.run_blocks m g),
    (θ_run Cert.OutputReferenceIdeal.defs _ _).mono (fun _ h c => ⟨(h c).1.trans (by
        refine (Cert.OutputReferenceIdeal.Read.val_main_v26_eq _ _ _ _ _).trans ((reference_eq _ _ _ _ _).trans ?_)
        obtain ⟨h0, h1, h2, h3, h4⟩ := ha c
        rw [h0, h1, h2, h3, h4]), (h c).2⟩) (Cert.OutputReferenceIdeal.Value.run (F := Ideal) m' g')⟩

end Cert.OutputCall

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_are_distinct
public import proofs.«01_k».proof.Proof.Same
public import proofs.«01_k».proof.Proof.Tiles
public import proofs.«01_k».proof.Proof.Value
public import proofs.«01_k».proof.Proof.Mm
public import proofs.«01_k».proof.Proof.Ffn
public import proofs.«01_k».proof.Proof.Glu
public import proofs.«01_k».proof.Proof.Output
public import Idealize.ShloMosaic.Adequacy
public import Idealize.ShloMosaic.Init

@[expose] public section

noncomputable section

namespace Cert.Dispatch

open Idealize.ShloMosaic Idealize.ShloMosaic.TcCoe Idealize.SL.Sem

variable {F : FTy → Type} [FloatOps F]

/-- The call's buffer is the reference's. -/
theorem buffers_agree (m : (ℓ : Loc Cert.KernelIdeal.nD Cert.KernelIdeal.τ Cert.KernelIdeal.sig) → Buf (Elt F) ℓ) (c : Dev Cert.KernelIdeal.nD)
    (ok : ∀ c, RowsOk (argE m c) (argR m c) (argC m c)) :
    X₀ m c 68 = buffer (argT m c) (holder (line (argE m c) (argR m c) (argC m c))) := by
  funext y
  by_cases h : ∃ k n, (row (argE m c) (argR m c) (argC m c) k n).toNat = (y 0).val / 8
  · obtain ⟨k, n, h⟩ := h
    rw [result_hit m (ok c) (rows_ok m ok c).2 k n y h]
    exact (reference_hit (argT m c) _ _ _ (ok c) k n y h).symm
  · have h' : ∀ k n, (row (argE m c) (argR m c) (argC m c) k n).toNat ≠ (y 0).val / 8 := fun k n hk => h ⟨k, n, hk⟩
    rw [result_miss m (ok c) y h']
    exact (reference_miss (argT m c) _ _ _ (ok c) y h').symm

theorem reference_eq_bits (m : (ℓ : Loc Cert.Reference.nD Cert.Reference.τ Cert.Reference.sig) → Buf (Elt Bits) ℓ) (c : Dev Cert.Reference.nD) :
    Cert.Reference.Value.res_out0 (F := Bits) m c = buffer (F := Bits) (m ((c.tc : Thread Cert.Reference.nD Cert.Reference.τ).loc Cert.Reference.main_arg0))
      (holder (line (m ((c.tc : Thread Cert.Reference.nD Cert.Reference.τ).loc Cert.Reference.main_arg1))
        (m ((c.tc : Thread Cert.Reference.nD Cert.Reference.τ).loc Cert.Reference.main_arg2)) (m ((c.tc : Thread Cert.Reference.nD Cert.Reference.τ).loc Cert.Reference.main_arg3)))) := by
  unfold Cert.Reference.Value.res_out0 Cert.Reference.Value.res_main_v40
  rfl

/-- The condition on the router's results, at the kernel's arguments. -/
theorem ok_of_pre (m : (ℓ : Loc Cert.KernelIdeal.nD Cert.KernelIdeal.τ Cert.KernelIdeal.sig) → Buf (Elt F) ℓ)
    (h : ∀ c, Cert.Pre_rows_are_distinct.fn (F := F) (argT m c) (argE m c) (argR m c) (argC m c) = fun _ => 1#1) :
    ∀ c, RowsOk (argE m c) (argR m c) (argC m c) := fun c => rows_of_pre (F := F) _ _ _ _ (h c)

end Cert.Dispatch

namespace Cert.Proof

open Idealize.ShloMosaic Idealize.SL.Sem Cert.Dispatch

theorem frame_kernelIdeal : Cert.quiescent_KernelIdeal := fun m ρ hp =>
  (θ_run Cert.KernelIdeal.defs _ _).mono (fun _ h => ⟨fun c => (h.1 c).2, h.2⟩)
    (run_main (F := Ideal) m ρ (rows_ok m (ok_of_pre m hp)))

theorem frame_kernel : Cert.quiescent_Kernel := fun m ρ hp =>
  run_kernel (F := Bits) _ _ ((θ_run Cert.KernelIdeal.defs _ _).mono (fun _ h => ⟨fun c => (h.1 c).2, h.2⟩)
    (run_main (F := Bits) m ρ (rows_ok (F := Bits) m (ok_of_pre (F := Bits) m hp))))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem same_ideal : Cert.algebraic_KernelIdeal_ReferenceIdeal := fun m g m' g' hp ha =>
  ⟨fun c => X₀ m c 68,
    (θ_run Cert.KernelIdeal.defs _ _).mono (fun _ h c => h.1 c) (run_main (F := Ideal) m g (rows_ok m (ok_of_pre m hp))),
    (θ_run Cert.ReferenceIdeal.defs _ _).mono (fun _ h c => ⟨(h c).1.trans (by
        refine (reference_eq m' c).trans ?_
        obtain ⟨h0, h1, h2, h3⟩ := ha c
        rw [h0, h1, h2, h3]
        exact (buffers_agree m c (ok_of_pre m hp)).symm), (h c).2⟩)
      (Cert.ReferenceIdeal.Value.run (F := Ideal) m' g')⟩

theorem same_bits : Cert.bitexact_Kernel_Reference := fun m g m' g' hp ha =>
  ⟨fun c => X₀ (F := Bits) m c 68,
    run_kernel (F := Bits) _ _ ((θ_run Cert.KernelIdeal.defs _ _).mono (fun _ h c => h.1 c)
      (run_main (F := Bits) m g (rows_ok (F := Bits) m (ok_of_pre (F := Bits) m hp)))),
    (θ_run Cert.Reference.defs _ _).mono (fun _ h c => ⟨(h c).1.trans (by
        refine (reference_eq_bits m' c).trans ?_
        obtain ⟨h0, h1, h2, h3⟩ := ha c
        refine Eq.trans ?_ (buffers_agree (F := Bits) m c (ok_of_pre (F := Bits) m hp)).symm
        exact congr (congrArg _ h0) (congrArg holder (congr (congr (congrArg line h1) h2) h3))), (h c).2⟩)
      (Cert.Reference.Value.run (F := Bits) m' g')⟩

theorem claim : Cert.Claim :=
  ⟨Cert.Kernel.Gen.facts, Cert.KernelIdeal.Gen.facts, Cert.ReferenceIdeal.Gen.facts, Cert.Reference.Gen.facts, Cert.Projection.Gen.facts,
    Cert.ProjectionIdeal.Gen.facts, Cert.ProjectionReferenceIdeal.Gen.facts, Cert.Experts.Gen.facts, Cert.ExpertsIdeal.Gen.facts,
    Cert.ExpertsReferenceIdeal.Gen.facts, Cert.Glu.Gen.facts, Cert.GluIdeal.Gen.facts, Cert.GluReferenceIdeal.Gen.facts, Cert.Output.Gen.facts,
    Cert.OutputIdeal.Gen.facts, Cert.OutputReferenceIdeal.Gen.facts, Cert.Pre_rows_are_distinct.Gen.facts,
    frame_kernel, frame_kernelIdeal, frame_referenceIdeal, fun m g _ => frame_referenceIdeal m g trivial, frame_reference,
    Cert.Mm.frame_kernel, Cert.Mm.frame_kernelIdeal, Cert.Mm.frame_referenceIdeal,
    Cert.Ffn.frame_kernel, Cert.Ffn.frame_kernelIdeal, Cert.Ffn.frame_referenceIdeal,
    Cert.GluCall.frame_kernel, Cert.GluCall.frame_kernelIdeal, Cert.GluCall.frame_referenceIdeal,
    Cert.OutputCall.frame_kernel, Cert.OutputCall.frame_kernelIdeal, Cert.OutputCall.frame_referenceIdeal,
    trivial, same_ideal, same_bits, trivial, Cert.Mm.same_ideal, trivial, Cert.Ffn.same_ideal,
    trivial, Cert.GluCall.same_ideal, trivial, Cert.OutputCall.same_ideal⟩

end Cert.Proof

end
